-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S256x2048 : Shape := ⟨2, ![256, 2048]⟩
abbrev S16x256x256 : Shape := ⟨3, ![16, 256, 256]⟩
abbrev S4x256x2048 : Shape := ⟨3, ![4, 256, 2048]⟩
abbrev S16x8x128 : Shape := ⟨3, ![16, 8, 128]⟩
abbrev S16 : Shape := ⟨1, ![16]⟩
abbrev S4 : Shape := ⟨1, ![4]⟩
abbrev S_ : Shape := ⟨0, ![]⟩
abbrev S1 : Shape := ⟨1, ![1]⟩
abbrev S1x256x2048 : Shape := ⟨3, ![1, 256, 2048]⟩
abbrev S1x256x256 : Shape := ⟨3, ![1, 256, 256]⟩
abbrev S256x256 : Shape := ⟨2, ![256, 256]⟩
abbrev S1x1x1 : Shape := ⟨3, ![1, 1, 1]⟩
abbrev S8x128 : Shape := ⟨2, ![8, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S4096x256, .bf16⟩
  | .local _ .vmem, ⟨3, _⟩ => ⟨S16x256x256, .bf16⟩
  | .local _ .vmem, ⟨4, _⟩ => ⟨S4x256x2048, .f32⟩
  | .local _ .vmem, ⟨5, _⟩ => ⟨S16x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v168 : BitVec 32 := Scalar.muli v2 c256_i32
  let c0_i32_94 : BitVec 32 := 0#32
  ![v168.toNat, 0]
def k0_off2 (d0 : Dev nD) (c1_i32_0 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_95 : BitVec 32 := 256#32
  let v174 : BitVec 32 := Scalar.muli v13 c256_i32_95
  let c0_i32_100 : BitVec 32 := 0#32
  ![v174.toNat, 0]
def k0_dev1 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_113 : BitVec 32 := 1#32
  let v193 : BitVec 32 := Scalar.addi v2 c1_i32_113
  let c16_i32_114 : BitVec 32 := 16#32
  let c0_i32_115 : BitVec 32 := 0#32
  let v194 : BitVec 1 := Scalar.cmpi .eq c16_i32_114 c0_i32_115
  let c1_i32_116 : BitVec 32 := 1#32
  let v195 : BitVec 32 := Scalar.select v194 c1_i32_116 c16_i32_114
  let v196 : BitVec 32 := Scalar.remsi v193 v195
  let c0_i32_118 : BitVec 32 := 0#32
  let v198 : BitVec 1 := Scalar.cmpi .slt v196 c0_i32_118
  let c0_i32_119 : BitVec 32 := 0#32
  let v199 : BitVec 1 := Scalar.cmpi .slt v195 c0_i32_119
  let v200 : BitVec 1 := Scalar.xori v198 v199
  let c0_i32_117 : BitVec 32 := 0#32
  let v197 : BitVec 1 := Scalar.cmpi .ne v196 c0_i32_117
  let v201 : BitVec 1 := Scalar.andi v200 v197
  let v202 : BitVec 32 := Scalar.addi v196 v195
  let v203 : BitVec 32 := Scalar.select v201 v202 v196
  let c1_i32_121 : BitVec 32 := 1#32
  let v204 : BitVec 32 := Scalar.muli v203 c1_i32_121
  let v205 : BitVec 32 := Scalar.addi c0_i32_122 v204
  v205.toNat
def k0_dev2 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_123 : BitVec 32 := 2#32
  let v206 : BitVec 32 := Scalar.addi v2 c2_i32_123
  let c16_i32_124 : BitVec 32 := 16#32
  let c0_i32_125 : BitVec 32 := 0#32
  let v207 : BitVec 1 := Scalar.cmpi .eq c16_i32_124 c0_i32_125
  let c1_i32_126 : BitVec 32 := 1#32
  let v208 : BitVec 32 := Scalar.select v207 c1_i32_126 c16_i32_124
  let v209 : BitVec 32 := Scalar.remsi v206 v208
  let c0_i32_128 : BitVec 32 := 0#32
  let v211 : BitVec 1 := Scalar.cmpi .slt v209 c0_i32_128
  let c0_i32_129 : BitVec 32 := 0#32
  let v212 : BitVec 1 := Scalar.cmpi .slt v208 c0_i32_129
  let v213 : BitVec 1 := Scalar.xori v211 v212
  let c0_i32_127 : BitVec 32 := 0#32
  let v210 : BitVec 1 := Scalar.cmpi .ne v209 c0_i32_127
  let v214 : BitVec 1 := Scalar.andi v213 v210
  let v215 : BitVec 32 := Scalar.addi v209 v208
  let v216 : BitVec 32 := Scalar.select v214 v215 v209
  let c1_i32_131 : BitVec 32 := 1#32
  let v217 : BitVec 32 := Scalar.muli v216 c1_i32_131
  let v218 : BitVec 32 := Scalar.addi c0_i32_132 v217
  v218.toNat
def k0_dev3 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_133 : BitVec 32 := 3#32
  let v219 : BitVec 32 := Scalar.addi v2 c3_i32_133
  let c16_i32_134 : BitVec 32 := 16#32
  let c0_i32_135 : BitVec 32 := 0#32
  let v220 : BitVec 1 := Scalar.cmpi .eq c16_i32_134 c0_i32_135
  let c1_i32_136 : BitVec 32 := 1#32
  let v221 : BitVec 32 := Scalar.select v220 c1_i32_136 c16_i32_134
  let v222 : BitVec 32 := Scalar.remsi v219 v221
  let c0_i32_138 : BitVec 32 := 0#32
  let v224 : BitVec 1 := Scalar.cmpi .slt v222 c0_i32_138
  let c0_i32_139 : BitVec 32 := 0#32
  let v225 : BitVec 1 := Scalar.cmpi .slt v221 c0_i32_139
  let v226 : BitVec 1 := Scalar.xori v224 v225
  let c0_i32_137 : BitVec 32 := 0#32
  let v223 : BitVec 1 := Scalar.cmpi .ne v222 c0_i32_137
  let v227 : BitVec 1 := Scalar.andi v226 v223
  let v228 : BitVec 32 := Scalar.addi v222 v221
  let v229 : BitVec 32 := Scalar.select v227 v228 v222
  let c1_i32_141 : BitVec 32 := 1#32
  let v230 : BitVec 32 := Scalar.muli v229 c1_i32_141
  let v231 : BitVec 32 := Scalar.addi c0_i32_142 v230
  v231.toNat
def k0_dev4 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v232 : BitVec 32 := Scalar.addi v2 c4_i32_143
  let c16_i32_144 : BitVec 32 := 16#32
  let c0_i32_145 : BitVec 32 := 0#32
  let v233 : BitVec 1 := Scalar.cmpi .eq c16_i32_144 c0_i32_145
  let c1_i32_146 : BitVec 32 := 1#32
  let v234 : BitVec 32 := Scalar.select v233 c1_i32_146 c16_i32_144
  let v235 : BitVec 32 := Scalar.remsi v232 v234
  let c0_i32_148 : BitVec 32 := 0#32
  let v237 : BitVec 1 := Scalar.cmpi .slt v235 c0_i32_148
  let c0_i32_149 : BitVec 32 := 0#32
  let v238 : BitVec 1 := Scalar.cmpi .slt v234 c0_i32_149
  let v239 : BitVec 1 := Scalar.xori v237 v238
  let c0_i32_147 : BitVec 32 := 0#32
  let v236 : BitVec 1 := Scalar.cmpi .ne v235 c0_i32_147
  let v240 : BitVec 1 := Scalar.andi v239 v236
  let v241 : BitVec 32 := Scalar.addi v235 v234
  let v242 : BitVec 32 := Scalar.select v240 v241 v235
  let c1_i32_151 : BitVec 32 := 1#32
  let v243 : BitVec 32 := Scalar.muli v242 c1_i32_151
  let v244 : BitVec 32 := Scalar.addi c0_i32_152 v243
  v244.toNat
def k0_dev5 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_153 : BitVec 32 := 5#32
  let v245 : BitVec 32 := Scalar.addi v2 c5_i32_153
  let c16_i32_154 : BitVec 32 := 16#32
  let c0_i32_155 : BitVec 32 := 0#32
  let v246 : BitVec 1 := Scalar.cmpi .eq c16_i32_154 c0_i32_155
  let c1_i32_156 : BitVec 32 := 1#32
  let v247 : BitVec 32 := Scalar.select v246 c1_i32_156 c16_i32_154
  let v248 : BitVec 32 := Scalar.remsi v245 v247
  let c0_i32_158 : BitVec 32 := 0#32
  let v250 : BitVec 1 := Scalar.cmpi .slt v248 c0_i32_158
  let c0_i32_159 : BitVec 32 := 0#32
  let v251 : BitVec 1 := Scalar.cmpi .slt v247 c0_i32_159
  let v252 : BitVec 1 := Scalar.xori v250 v251
  let c0_i32_157 : BitVec 32 := 0#32
  let v249 : BitVec 1 := Scalar.cmpi .ne v248 c0_i32_157
  let v253 : BitVec 1 := Scalar.andi v252 v249
  let v254 : BitVec 32 := Scalar.addi v248 v247
  let v255 : BitVec 32 := Scalar.select v253 v254 v248
  let c1_i32_161 : BitVec 32 := 1#32
  let v256 : BitVec 32 := Scalar.muli v255 c1_i32_161
  let v257 : BitVec 32 := Scalar.addi c0_i32_162 v256
  v257.toNat
def k0_dev6 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_163 : BitVec 32 := 6#32
  let v258 : BitVec 32 := Scalar.addi v2 c6_i32_163
  let c16_i32_164 : BitVec 32 := 16#32
  let c0_i32_165 : BitVec 32 := 0#32
  let v259 : BitVec 1 := Scalar.cmpi .eq c16_i32_164 c0_i32_165
  let c1_i32_166 : BitVec 32 := 1#32
  let v260 : BitVec 32 := Scalar.select v259 c1_i32_166 c16_i32_164
  let v261 : BitVec 32 := Scalar.remsi v258 v260
  let c0_i32_168 : BitVec 32 := 0#32
  let v263 : BitVec 1 := Scalar.cmpi .slt v261 c0_i32_168
  let c0_i32_169 : BitVec 32 := 0#32
  let v264 : BitVec 1 := Scalar.cmpi .slt v260 c0_i32_169
  let v265 : BitVec 1 := Scalar.xori v263 v264
  let c0_i32_167 : BitVec 32 := 0#32
  let v262 : BitVec 1 := Scalar.cmpi .ne v261 c0_i32_167
  let v266 : BitVec 1 := Scalar.andi v265 v262
  let v267 : BitVec 32 := Scalar.addi v261 v260
  let v268 : BitVec 32 := Scalar.select v266 v267 v261
  let c1_i32_171 : BitVec 32 := 1#32
  let v269 : BitVec 32 := Scalar.muli v268 c1_i32_171
  let v270 : BitVec 32 := Scalar.addi c0_i32_172 v269
  v270.toNat
def k0_dev7 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_173 : BitVec 32 := 7#32
  let v271 : BitVec 32 := Scalar.addi v2 c7_i32_173
  let c16_i32_174 : BitVec 32 := 16#32
  let c0_i32_175 : BitVec 32 := 0#32
  let v272 : BitVec 1 := Scalar.cmpi .eq c16_i32_174 c0_i32_175
  let c1_i32_176 : BitVec 32 := 1#32
  let v273 : BitVec 32 := Scalar.select v272 c1_i32_176 c16_i32_174
  let v274 : BitVec 32 := Scalar.remsi v271 v273
  let c0_i32_178 : BitVec 32 := 0#32
  let v276 : BitVec 1 := Scalar.cmpi .slt v274 c0_i32_178
  let c0_i32_179 : BitVec 32 := 0#32
  let v277 : BitVec 1 := Scalar.cmpi .slt v273 c0_i32_179
  let v278 : BitVec 1 := Scalar.xori v276 v277
  let c0_i32_177 : BitVec 32 := 0#32
  let v275 : BitVec 1 := Scalar.cmpi .ne v274 c0_i32_177
  let v279 : BitVec 1 := Scalar.andi v278 v275
  let v280 : BitVec 32 := Scalar.addi v274 v273
  let v281 : BitVec 32 := Scalar.select v279 v280 v274
  let c1_i32_181 : BitVec 32 := 1#32
  let v282 : BitVec 32 := Scalar.muli v281 c1_i32_181
  let v283 : BitVec 32 := Scalar.addi c0_i32_182 v282
  v283.toNat
def k0_dev8 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_183 : BitVec 32 := 8#32
  let v284 : BitVec 32 := Scalar.addi v2 c8_i32_183
  let c16_i32_184 : BitVec 32 := 16#32
  let c0_i32_185 : BitVec 32 := 0#32
  let v285 : BitVec 1 := Scalar.cmpi .eq c16_i32_184 c0_i32_185
  let c1_i32_186 : BitVec 32 := 1#32
  let v286 : BitVec 32 := Scalar.select v285 c1_i32_186 c16_i32_184
  let v287 : BitVec 32 := Scalar.remsi v284 v286
  let c0_i32_188 : BitVec 32 := 0#32
  let v289 : BitVec 1 := Scalar.cmpi .slt v287 c0_i32_188
  let c0_i32_189 : BitVec 32 := 0#32
  let v290 : BitVec 1 := Scalar.cmpi .slt v286 c0_i32_189
  let v291 : BitVec 1 := Scalar.xori v289 v290
  let c0_i32_187 : BitVec 32 := 0#32
  let v288 : BitVec 1 := Scalar.cmpi .ne v287 c0_i32_187
  let v292 : BitVec 1 := Scalar.andi v291 v288
  let v293 : BitVec 32 := Scalar.addi v287 v286
  let v294 : BitVec 32 := Scalar.select v292 v293 v287
  let c1_i32_191 : BitVec 32 := 1#32
  let v295 : BitVec 32 := Scalar.muli v294 c1_i32_191
  let v296 : BitVec 32 := Scalar.addi c0_i32_192 v295
  v296.toNat
def k0_dev9 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_193 : BitVec 32 := 9#32
  let v297 : BitVec 32 := Scalar.addi v2 c9_i32_193
  let c16_i32_194 : BitVec 32 := 16#32
  let c0_i32_195 : BitVec 32 := 0#32
  let v298 : BitVec 1 := Scalar.cmpi .eq c16_i32_194 c0_i32_195
  let c1_i32_196 : BitVec 32 := 1#32
  let v299 : BitVec 32 := Scalar.select v298 c1_i32_196 c16_i32_194
  let v300 : BitVec 32 := Scalar.remsi v297 v299
  let c0_i32_198 : BitVec 32 := 0#32
  let v302 : BitVec 1 := Scalar.cmpi .slt v300 c0_i32_198
  let c0_i32_199 : BitVec 32 := 0#32
  let v303 : BitVec 1 := Scalar.cmpi .slt v299 c0_i32_199
  let v304 : BitVec 1 := Scalar.xori v302 v303
  let c0_i32_197 : BitVec 32 := 0#32
  let v301 : BitVec 1 := Scalar.cmpi .ne v300 c0_i32_197
  let v305 : BitVec 1 := Scalar.andi v304 v301
  let v306 : BitVec 32 := Scalar.addi v300 v299
  let v307 : BitVec 32 := Scalar.select v305 v306 v300
  let c1_i32_201 : BitVec 32 := 1#32
  let v308 : BitVec 32 := Scalar.muli v307 c1_i32_201
  let v309 : BitVec 32 := Scalar.addi c0_i32_202 v308
  v309.toNat
def k0_dev10 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_203 : BitVec 32 := 10#32
  let v310 : BitVec 32 := Scalar.addi v2 c10_i32_203
  let c16_i32_204 : BitVec 32 := 16#32
  let c0_i32_205 : BitVec 32 := 0#32
  let v311 : BitVec 1 := Scalar.cmpi .eq c16_i32_204 c0_i32_205
  let c1_i32_206 : BitVec 32 := 1#32
  let v312 : BitVec 32 := Scalar.select v311 c1_i32_206 c16_i32_204
  let v313 : BitVec 32 := Scalar.remsi v310 v312
  let c0_i32_208 : BitVec 32 := 0#32
  let v315 : BitVec 1 := Scalar.cmpi .slt v313 c0_i32_208
  let c0_i32_209 : BitVec 32 := 0#32
  let v316 : BitVec 1 := Scalar.cmpi .slt v312 c0_i32_209
  let v317 : BitVec 1 := Scalar.xori v315 v316
  let c0_i32_207 : BitVec 32 := 0#32
  let v314 : BitVec 1 := Scalar.cmpi .ne v313 c0_i32_207
  let v318 : BitVec 1 := Scalar.andi v317 v314
  let v319 : BitVec 32 := Scalar.addi v313 v312
  let v320 : BitVec 32 := Scalar.select v318 v319 v313
  let c1_i32_211 : BitVec 32 := 1#32
  let v321 : BitVec 32 := Scalar.muli v320 c1_i32_211
  let v322 : BitVec 32 := Scalar.addi c0_i32_212 v321
  v322.toNat
def k0_dev11 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_213 : BitVec 32 := 11#32
  let v323 : BitVec 32 := Scalar.addi v2 c11_i32_213
  let c16_i32_214 : BitVec 32 := 16#32
  let c0_i32_215 : BitVec 32 := 0#32
  let v324 : BitVec 1 := Scalar.cmpi .eq c16_i32_214 c0_i32_215
  let c1_i32_216 : BitVec 32 := 1#32
  let v325 : BitVec 32 := Scalar.select v324 c1_i32_216 c16_i32_214
  let v326 : BitVec 32 := Scalar.remsi v323 v325
  let c0_i32_218 : BitVec 32 := 0#32
  let v328 : BitVec 1 := Scalar.cmpi .slt v326 c0_i32_218
  let c0_i32_219 : BitVec 32 := 0#32
  let v329 : BitVec 1 := Scalar.cmpi .slt v325 c0_i32_219
  let v330 : BitVec 1 := Scalar.xori v328 v329
  let c0_i32_217 : BitVec 32 := 0#32
  let v327 : BitVec 1 := Scalar.cmpi .ne v326 c0_i32_217
  let v331 : BitVec 1 := Scalar.andi v330 v327
  let v332 : BitVec 32 := Scalar.addi v326 v325
  let v333 : BitVec 32 := Scalar.select v331 v332 v326
  let c1_i32_221 : BitVec 32 := 1#32
  let v334 : BitVec 32 := Scalar.muli v333 c1_i32_221
  let v335 : BitVec 32 := Scalar.addi c0_i32_222 v334
  v335.toNat
def k0_dev12 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_223 : BitVec 32 := 12#32
  let v336 : BitVec 32 := Scalar.addi v2 c12_i32_223
  let c16_i32_224 : BitVec 32 := 16#32
  let c0_i32_225 : BitVec 32 := 0#32
  let v337 : BitVec 1 := Scalar.cmpi .eq c16_i32_224 c0_i32_225
  let c1_i32_226 : BitVec 32 := 1#32
  let v338 : BitVec 32 := Scalar.select v337 c1_i32_226 c16_i32_224
  let v339 : BitVec 32 := Scalar.remsi v336 v338
  let c0_i32_228 : BitVec 32 := 0#32
  let v341 : BitVec 1 := Scalar.cmpi .slt v339 c0_i32_228
  let c0_i32_229 : BitVec 32 := 0#32
  let v342 : BitVec 1 := Scalar.cmpi .slt v338 c0_i32_229
  let v343 : BitVec 1 := Scalar.xori v341 v342
  let c0_i32_227 : BitVec 32 := 0#32
  let v340 : BitVec 1 := Scalar.cmpi .ne v339 c0_i32_227
  let v344 : BitVec 1 := Scalar.andi v343 v340
  let v345 : BitVec 32 := Scalar.addi v339 v338
  let v346 : BitVec 32 := Scalar.select v344 v345 v339
  let c1_i32_231 : BitVec 32 := 1#32
  let v347 : BitVec 32 := Scalar.muli v346 c1_i32_231
  let v348 : BitVec 32 := Scalar.addi c0_i32_232 v347
  v348.toNat
def k0_dev13 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_233 : BitVec 32 := 13#32
  let v349 : BitVec 32 := Scalar.addi v2 c13_i32_233
  let c16_i32_234 : BitVec 32 := 16#32
  let c0_i32_235 : BitVec 32 := 0#32
  let v350 : BitVec 1 := Scalar.cmpi .eq c16_i32_234 c0_i32_235
  let c1_i32_236 : BitVec 32 := 1#32
  let v351 : BitVec 32 := Scalar.select v350 c1_i32_236 c16_i32_234
  let v352 : BitVec 32 := Scalar.remsi v349 v351
  let c0_i32_238 : BitVec 32 := 0#32
  let v354 : BitVec 1 := Scalar.cmpi .slt v352 c0_i32_238
  let c0_i32_239 : BitVec 32 := 0#32
  let v355 : BitVec 1 := Scalar.cmpi .slt v351 c0_i32_239
  let v356 : BitVec 1 := Scalar.xori v354 v355
  let c0_i32_237 : BitVec 32 := 0#32
  let v353 : BitVec 1 := Scalar.cmpi .ne v352 c0_i32_237
  let v357 : BitVec 1 := Scalar.andi v356 v353
  let v358 : BitVec 32 := Scalar.addi v352 v351
  let v359 : BitVec 32 := Scalar.select v357 v358 v352
  let c1_i32_241 : BitVec 32 := 1#32
  let v360 : BitVec 32 := Scalar.muli v359 c1_i32_241
  let v361 : BitVec 32 := Scalar.addi c0_i32_242 v360
  v361.toNat
def k0_dev14 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_243 : BitVec 32 := 14#32
  let v362 : BitVec 32 := Scalar.addi v2 c14_i32_243
  let c16_i32_244 : BitVec 32 := 16#32
  let c0_i32_245 : BitVec 32 := 0#32
  let v363 : BitVec 1 := Scalar.cmpi .eq c16_i32_244 c0_i32_245
  let c1_i32_246 : BitVec 32 := 1#32
  let v364 : BitVec 32 := Scalar.select v363 c1_i32_246 c16_i32_244
  let v365 : BitVec 32 := Scalar.remsi v362 v364
  let c0_i32_248 : BitVec 32 := 0#32
  let v367 : BitVec 1 := Scalar.cmpi .slt v365 c0_i32_248
  let c0_i32_249 : BitVec 32 := 0#32
  let v368 : BitVec 1 := Scalar.cmpi .slt v364 c0_i32_249
  let v369 : BitVec 1 := Scalar.xori v367 v368
  let c0_i32_247 : BitVec 32 := 0#32
  let v366 : BitVec 1 := Scalar.cmpi .ne v365 c0_i32_247
  let v370 : BitVec 1 := Scalar.andi v369 v366
  let v371 : BitVec 32 := Scalar.addi v365 v364
  let v372 : BitVec 32 := Scalar.select v370 v371 v365
  let c1_i32_251 : BitVec 32 := 1#32
  let v373 : BitVec 32 := Scalar.muli v372 c1_i32_251
  let v374 : BitVec 32 := Scalar.addi c0_i32_252 v373
  v374.toNat
def k0_dev15 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_253 : BitVec 32 := 15#32
  let v375 : BitVec 32 := Scalar.addi v2 c15_i32_253
  let c16_i32_254 : BitVec 32 := 16#32
  let c0_i32_255 : BitVec 32 := 0#32
  let v376 : BitVec 1 := Scalar.cmpi .eq c16_i32_254 c0_i32_255
  let c1_i32_256 : BitVec 32 := 1#32
  let v377 : BitVec 32 := Scalar.select v376 c1_i32_256 c16_i32_254
  let v378 : BitVec 32 := Scalar.remsi v375 v377
  let c0_i32_258 : BitVec 32 := 0#32
  let v380 : BitVec 1 := Scalar.cmpi .slt v378 c0_i32_258
  let c0_i32_259 : BitVec 32 := 0#32
  let v381 : BitVec 1 := Scalar.cmpi .slt v377 c0_i32_259
  let v382 : BitVec 1 := Scalar.xori v380 v381
  let c0_i32_257 : BitVec 32 := 0#32
  let v379 : BitVec 1 := Scalar.cmpi .ne v378 c0_i32_257
  let v383 : BitVec 1 := Scalar.andi v382 v379
  let v384 : BitVec 32 := Scalar.addi v378 v377
  let v385 : BitVec 32 := Scalar.select v383 v384 v378
  let c1_i32_261 : BitVec 32 := 1#32
  let v386 : BitVec 32 := Scalar.muli v385 c1_i32_261
  let v387 : BitVec 32 := Scalar.addi c0_i32_262 v386
  v387.toNat
def k0_off3 (d0 : Dev nD) (c1_i32_267 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v394 : BitVec 32 := Scalar.addi v2 c1_i32_267
  let c16_i32_268 : BitVec 32 := 16#32
  let c0_i32_269 : BitVec 32 := 0#32
  let v395 : BitVec 1 := Scalar.cmpi .eq c16_i32_268 c0_i32_269
  let c1_i32_270 : BitVec 32 := 1#32
  let v396 : BitVec 32 := Scalar.select v395 c1_i32_270 c16_i32_268
  let v397 : BitVec 32 := Scalar.remsi v394 v396
  let c0_i32_272 : BitVec 32 := 0#32
  let v399 : BitVec 1 := Scalar.cmpi .slt v397 c0_i32_272
  let c0_i32_273 : BitVec 32 := 0#32
  let v400 : BitVec 1 := Scalar.cmpi .slt v396 c0_i32_273
  let v401 : BitVec 1 := Scalar.xori v399 v400
  let c0_i32_271 : BitVec 32 := 0#32
  let v398 : BitVec 1 := Scalar.cmpi .ne v397 c0_i32_271
  let v402 : BitVec 1 := Scalar.andi v401 v398
  let v403 : BitVec 32 := Scalar.addi v397 v396
  let v404 : BitVec 32 := Scalar.select v402 v403 v397
  ![v404.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_277 : BitVec 32 := 0#32
  let c0_i32_278 : BitVec 32 := 0#32
  ![v2.toNat, 0, 0]
def k0_off6 (d0 : Dev nD) (c1_i32_267 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v394 : BitVec 32 := Scalar.addi v2 c1_i32_267
  let c16_i32_268 : BitVec 32 := 16#32
  let c0_i32_269 : BitVec 32 := 0#32
  let v395 : BitVec 1 := Scalar.cmpi .eq c16_i32_268 c0_i32_269
  let c1_i32_270 : BitVec 32 := 1#32
  let v396 : BitVec 32 := Scalar.select v395 c1_i32_270 c16_i32_268
  let v397 : BitVec 32 := Scalar.remsi v394 v396
  let c0_i32_272 : BitVec 32 := 0#32
  let v399 : BitVec 1 := Scalar.cmpi .slt v397 c0_i32_272
  let c0_i32_273 : BitVec 32 := 0#32
  let v400 : BitVec 1 := Scalar.cmpi .slt v396 c0_i32_273
  let v401 : BitVec 1 := Scalar.xori v399 v400
  let c0_i32_271 : BitVec 32 := 0#32
  let v398 : BitVec 1 := Scalar.cmpi .ne v397 c0_i32_271
  let v402 : BitVec 1 := Scalar.andi v401 v398
  let v403 : BitVec 32 := Scalar.addi v397 v396
  let v404 : BitVec 32 := Scalar.select v402 v403 v397
  let c256_i32_274 : BitVec 32 := 256#32
  let v405 : BitVec 32 := Scalar.muli v404 c256_i32_274
  let c0_i32_279 : BitVec 32 := 0#32
  ![v405.toNat, 0]
def k0_dev16 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_267 : BitVec 32 := 1#32
  let v394 : BitVec 32 := Scalar.addi v2 c1_i32_267
  let c16_i32_268 : BitVec 32 := 16#32
  let c0_i32_269 : BitVec 32 := 0#32
  let v395 : BitVec 1 := Scalar.cmpi .eq c16_i32_268 c0_i32_269
  let c1_i32_270 : BitVec 32 := 1#32
  let v396 : BitVec 32 := Scalar.select v395 c1_i32_270 c16_i32_268
  let v397 : BitVec 32 := Scalar.remsi v394 v396
  let c0_i32_272 : BitVec 32 := 0#32
  let v399 : BitVec 1 := Scalar.cmpi .slt v397 c0_i32_272
  let c0_i32_273 : BitVec 32 := 0#32
  let v400 : BitVec 1 := Scalar.cmpi .slt v396 c0_i32_273
  let v401 : BitVec 1 := Scalar.xori v399 v400
  let c0_i32_271 : BitVec 32 := 0#32
  let v398 : BitVec 1 := Scalar.cmpi .ne v397 c0_i32_271
  let v402 : BitVec 1 := Scalar.andi v401 v398
  let v403 : BitVec 32 := Scalar.addi v397 v396
  let v404 : BitVec 32 := Scalar.select v402 v403 v397
  let c1_i32_275 : BitVec 32 := 1#32
  let v406 : BitVec 32 := Scalar.muli v404 c1_i32_275
  let v407 : BitVec 32 := Scalar.addi c0_i32_276 v406
  v407.toNat
def k0_dev17 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_280 : BitVec 32 := 2#32
  let v415 : BitVec 32 := Scalar.addi v2 c2_i32_280
  let c16_i32_281 : BitVec 32 := 16#32
  let c0_i32_282 : BitVec 32 := 0#32
  let v416 : BitVec 1 := Scalar.cmpi .eq c16_i32_281 c0_i32_282
  let c1_i32_283 : BitVec 32 := 1#32
  let v417 : BitVec 32 := Scalar.select v416 c1_i32_283 c16_i32_281
  let v418 : BitVec 32 := Scalar.remsi v415 v417
  let c0_i32_285 : BitVec 32 := 0#32
  let v420 : BitVec 1 := Scalar.cmpi .slt v418 c0_i32_285
  let c0_i32_286 : BitVec 32 := 0#32
  let v421 : BitVec 1 := Scalar.cmpi .slt v417 c0_i32_286
  let v422 : BitVec 1 := Scalar.xori v420 v421
  let c0_i32_284 : BitVec 32 := 0#32
  let v419 : BitVec 1 := Scalar.cmpi .ne v418 c0_i32_284
  let v423 : BitVec 1 := Scalar.andi v422 v419
  let v424 : BitVec 32 := Scalar.addi v418 v417
  let v425 : BitVec 32 := Scalar.select v423 v424 v418
  let c1_i32_288 : BitVec 32 := 1#32
  let v427 : BitVec 32 := Scalar.muli v425 c1_i32_288
  let v428 : BitVec 32 := Scalar.addi c0_i32_289 v427
  v428.toNat
def k0_dev18 (d0 : Dev nD) : Nat :=
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_293 : BitVec 32 := 3#32
  let v436 : BitVec 32 := Scalar.addi v2 c3_i32_293
  let c16_i32_294 : BitVec 32 := 16#32
  let c0_i32_295 : BitVec 32 := 0#32
  let v437 : BitVec 1 := Scalar.cmpi .eq c16_i32_294 c0_i32_295
  let c1_i32_296 : BitVec 32 := 1#32
  let v438 : BitVec 32 := Scalar.select v437 c1_i32_296 c16_i32_294
  let v439 : BitVec 32 := Scalar.remsi v436 v438
  let c0_i32_298 : BitVec 32 := 0#32
  let v441 : BitVec 1 := Scalar.cmpi .slt v439 c0_i32_298
  let c0_i32_299 : BitVec 32 := 0#32
  let v442 : BitVec 1 := Scalar.cmpi .slt v438 c0_i32_299
  let v443 : BitVec 1 := Scalar.xori v441 v442
  let c0_i32_297 : BitVec 32 := 0#32
  let v440 : BitVec 1 := Scalar.cmpi .ne v439 c0_i32_297
  let v444 : BitVec 1 := Scalar.andi v443 v440
  let v445 : BitVec 32 := Scalar.addi v439 v438
  let v446 : BitVec 32 := Scalar.select v444 v445 v439
  let c1_i32_301 : BitVec 32 := 1#32
  let v448 : BitVec 32 := Scalar.muli v446 c1_i32_301
  let v449 : BitVec 32 := Scalar.addi c0_i32_302 v448
  v449.toNat
def k0_dev19 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_306 : BitVec 32 := 4#32
  let v457 : BitVec 32 := Scalar.addi v2 c4_i32_306
  let c16_i32_307 : BitVec 32 := 16#32
  let c0_i32_308 : BitVec 32 := 0#32
  let v458 : BitVec 1 := Scalar.cmpi .eq c16_i32_307 c0_i32_308
  let c1_i32_309 : BitVec 32 := 1#32
  let v459 : BitVec 32 := Scalar.select v458 c1_i32_309 c16_i32_307
  let v460 : BitVec 32 := Scalar.remsi v457 v459
  let c0_i32_311 : BitVec 32 := 0#32
  let v462 : BitVec 1 := Scalar.cmpi .slt v460 c0_i32_311
  let c0_i32_312 : BitVec 32 := 0#32
  let v463 : BitVec 1 := Scalar.cmpi .slt v459 c0_i32_312
  let v464 : BitVec 1 := Scalar.xori v462 v463
  let c0_i32_310 : BitVec 32 := 0#32
  let v461 : BitVec 1 := Scalar.cmpi .ne v460 c0_i32_310
  let v465 : BitVec 1 := Scalar.andi v464 v461
  let v466 : BitVec 32 := Scalar.addi v460 v459
  let v467 : BitVec 32 := Scalar.select v465 v466 v460
  let c1_i32_314 : BitVec 32 := 1#32
  let v469 : BitVec 32 := Scalar.muli v467 c1_i32_314
  let v470 : BitVec 32 := Scalar.addi c0_i32_315 v469
  v470.toNat
def k0_dev20 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_319 : BitVec 32 := 5#32
  let v478 : BitVec 32 := Scalar.addi v2 c5_i32_319
  let c16_i32_320 : BitVec 32 := 16#32
  let c0_i32_321 : BitVec 32 := 0#32
  let v479 : BitVec 1 := Scalar.cmpi .eq c16_i32_320 c0_i32_321
  let c1_i32_322 : BitVec 32 := 1#32
  let v480 : BitVec 32 := Scalar.select v479 c1_i32_322 c16_i32_320
  let v481 : BitVec 32 := Scalar.remsi v478 v480
  let c0_i32_324 : BitVec 32 := 0#32
  let v483 : BitVec 1 := Scalar.cmpi .slt v481 c0_i32_324
  let c0_i32_325 : BitVec 32 := 0#32
  let v484 : BitVec 1 := Scalar.cmpi .slt v480 c0_i32_325
  let v485 : BitVec 1 := Scalar.xori v483 v484
  let c0_i32_323 : BitVec 32 := 0#32
  let v482 : BitVec 1 := Scalar.cmpi .ne v481 c0_i32_323
  let v486 : BitVec 1 := Scalar.andi v485 v482
  let v487 : BitVec 32 := Scalar.addi v481 v480
  let v488 : BitVec 32 := Scalar.select v486 v487 v481
  let c1_i32_327 : BitVec 32 := 1#32
  let v490 : BitVec 32 := Scalar.muli v488 c1_i32_327
  let v491 : BitVec 32 := Scalar.addi c0_i32_328 v490
  v491.toNat
def k0_dev21 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_332 : BitVec 32 := 6#32
  let v499 : BitVec 32 := Scalar.addi v2 c6_i32_332
  let c16_i32_333 : BitVec 32 := 16#32
  let c0_i32_334 : BitVec 32 := 0#32
  let v500 : BitVec 1 := Scalar.cmpi .eq c16_i32_333 c0_i32_334
  let c1_i32_335 : BitVec 32 := 1#32
  let v501 : BitVec 32 := Scalar.select v500 c1_i32_335 c16_i32_333
  let v502 : BitVec 32 := Scalar.remsi v499 v501
  let c0_i32_337 : BitVec 32 := 0#32
  let v504 : BitVec 1 := Scalar.cmpi .slt v502 c0_i32_337
  let c0_i32_338 : BitVec 32 := 0#32
  let v505 : BitVec 1 := Scalar.cmpi .slt v501 c0_i32_338
  let v506 : BitVec 1 := Scalar.xori v504 v505
  let c0_i32_336 : BitVec 32 := 0#32
  let v503 : BitVec 1 := Scalar.cmpi .ne v502 c0_i32_336
  let v507 : BitVec 1 := Scalar.andi v506 v503
  let v508 : BitVec 32 := Scalar.addi v502 v501
  let v509 : BitVec 32 := Scalar.select v507 v508 v502
  let c1_i32_340 : BitVec 32 := 1#32
  let v511 : BitVec 32 := Scalar.muli v509 c1_i32_340
  let v512 : BitVec 32 := Scalar.addi c0_i32_341 v511
  v512.toNat
def k0_dev22 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_345 : BitVec 32 := 7#32
  let v520 : BitVec 32 := Scalar.addi v2 c7_i32_345
  let c16_i32_346 : BitVec 32 := 16#32
  let c0_i32_347 : BitVec 32 := 0#32
  let v521 : BitVec 1 := Scalar.cmpi .eq c16_i32_346 c0_i32_347
  let c1_i32_348 : BitVec 32 := 1#32
  let v522 : BitVec 32 := Scalar.select v521 c1_i32_348 c16_i32_346
  let v523 : BitVec 32 := Scalar.remsi v520 v522
  let c0_i32_350 : BitVec 32 := 0#32
  let v525 : BitVec 1 := Scalar.cmpi .slt v523 c0_i32_350
  let c0_i32_351 : BitVec 32 := 0#32
  let v526 : BitVec 1 := Scalar.cmpi .slt v522 c0_i32_351
  let v527 : BitVec 1 := Scalar.xori v525 v526
  let c0_i32_349 : BitVec 32 := 0#32
  let v524 : BitVec 1 := Scalar.cmpi .ne v523 c0_i32_349
  let v528 : BitVec 1 := Scalar.andi v527 v524
  let v529 : BitVec 32 := Scalar.addi v523 v522
  let v530 : BitVec 32 := Scalar.select v528 v529 v523
  let c1_i32_353 : BitVec 32 := 1#32
  let v532 : BitVec 32 := Scalar.muli v530 c1_i32_353
  let v533 : BitVec 32 := Scalar.addi c0_i32_354 v532
  v533.toNat
def k0_dev23 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_358 : BitVec 32 := 8#32
  let v541 : BitVec 32 := Scalar.addi v2 c8_i32_358
  let c16_i32_359 : BitVec 32 := 16#32
  let c0_i32_360 : BitVec 32 := 0#32
  let v542 : BitVec 1 := Scalar.cmpi .eq c16_i32_359 c0_i32_360
  let c1_i32_361 : BitVec 32 := 1#32
  let v543 : BitVec 32 := Scalar.select v542 c1_i32_361 c16_i32_359
  let v544 : BitVec 32 := Scalar.remsi v541 v543
  let c0_i32_363 : BitVec 32 := 0#32
  let v546 : BitVec 1 := Scalar.cmpi .slt v544 c0_i32_363
  let c0_i32_364 : BitVec 32 := 0#32
  let v547 : BitVec 1 := Scalar.cmpi .slt v543 c0_i32_364
  let v548 : BitVec 1 := Scalar.xori v546 v547
  let c0_i32_362 : BitVec 32 := 0#32
  let v545 : BitVec 1 := Scalar.cmpi .ne v544 c0_i32_362
  let v549 : BitVec 1 := Scalar.andi v548 v545
  let v550 : BitVec 32 := Scalar.addi v544 v543
  let v551 : BitVec 32 := Scalar.select v549 v550 v544
  let c1_i32_366 : BitVec 32 := 1#32
  let v553 : BitVec 32 := Scalar.muli v551 c1_i32_366
  let v554 : BitVec 32 := Scalar.addi c0_i32_367 v553
  v554.toNat
def k0_dev24 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_371 : BitVec 32 := 9#32
  let v562 : BitVec 32 := Scalar.addi v2 c9_i32_371
  let c16_i32_372 : BitVec 32 := 16#32
  let c0_i32_373 : BitVec 32 := 0#32
  let v563 : BitVec 1 := Scalar.cmpi .eq c16_i32_372 c0_i32_373
  let c1_i32_374 : BitVec 32 := 1#32
  let v564 : BitVec 32 := Scalar.select v563 c1_i32_374 c16_i32_372
  let v565 : BitVec 32 := Scalar.remsi v562 v564
  let c0_i32_376 : BitVec 32 := 0#32
  let v567 : BitVec 1 := Scalar.cmpi .slt v565 c0_i32_376
  let c0_i32_377 : BitVec 32 := 0#32
  let v568 : BitVec 1 := Scalar.cmpi .slt v564 c0_i32_377
  let v569 : BitVec 1 := Scalar.xori v567 v568
  let c0_i32_375 : BitVec 32 := 0#32
  let v566 : BitVec 1 := Scalar.cmpi .ne v565 c0_i32_375
  let v570 : BitVec 1 := Scalar.andi v569 v566
  let v571 : BitVec 32 := Scalar.addi v565 v564
  let v572 : BitVec 32 := Scalar.select v570 v571 v565
  let c1_i32_379 : BitVec 32 := 1#32
  let v574 : BitVec 32 := Scalar.muli v572 c1_i32_379
  let v575 : BitVec 32 := Scalar.addi c0_i32_380 v574
  v575.toNat
def k0_dev25 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_384 : BitVec 32 := 10#32
  let v583 : BitVec 32 := Scalar.addi v2 c10_i32_384
  let c16_i32_385 : BitVec 32 := 16#32
  let c0_i32_386 : BitVec 32 := 0#32
  let v584 : BitVec 1 := Scalar.cmpi .eq c16_i32_385 c0_i32_386
  let c1_i32_387 : BitVec 32 := 1#32
  let v585 : BitVec 32 := Scalar.select v584 c1_i32_387 c16_i32_385
  let v586 : BitVec 32 := Scalar.remsi v583 v585
  let c0_i32_389 : BitVec 32 := 0#32
  let v588 : BitVec 1 := Scalar.cmpi .slt v586 c0_i32_389
  let c0_i32_390 : BitVec 32 := 0#32
  let v589 : BitVec 1 := Scalar.cmpi .slt v585 c0_i32_390
  let v590 : BitVec 1 := Scalar.xori v588 v589
  let c0_i32_388 : BitVec 32 := 0#32
  let v587 : BitVec 1 := Scalar.cmpi .ne v586 c0_i32_388
  let v591 : BitVec 1 := Scalar.andi v590 v587
  let v592 : BitVec 32 := Scalar.addi v586 v585
  let v593 : BitVec 32 := Scalar.select v591 v592 v586
  let c1_i32_392 : BitVec 32 := 1#32
  let v595 : BitVec 32 := Scalar.muli v593 c1_i32_392
  let v596 : BitVec 32 := Scalar.addi c0_i32_393 v595
  v596.toNat
def k0_dev26 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_397 : BitVec 32 := 11#32
  let v604 : BitVec 32 := Scalar.addi v2 c11_i32_397
  let c16_i32_398 : BitVec 32 := 16#32
  let c0_i32_399 : BitVec 32 := 0#32
  let v605 : BitVec 1 := Scalar.cmpi .eq c16_i32_398 c0_i32_399
  let c1_i32_400 : BitVec 32 := 1#32
  let v606 : BitVec 32 := Scalar.select v605 c1_i32_400 c16_i32_398
  let v607 : BitVec 32 := Scalar.remsi v604 v606
  let c0_i32_402 : BitVec 32 := 0#32
  let v609 : BitVec 1 := Scalar.cmpi .slt v607 c0_i32_402
  let c0_i32_403 : BitVec 32 := 0#32
  let v610 : BitVec 1 := Scalar.cmpi .slt v606 c0_i32_403
  let v611 : BitVec 1 := Scalar.xori v609 v610
  let c0_i32_401 : BitVec 32 := 0#32
  let v608 : BitVec 1 := Scalar.cmpi .ne v607 c0_i32_401
  let v612 : BitVec 1 := Scalar.andi v611 v608
  let v613 : BitVec 32 := Scalar.addi v607 v606
  let v614 : BitVec 32 := Scalar.select v612 v613 v607
  let c1_i32_405 : BitVec 32 := 1#32
  let v616 : BitVec 32 := Scalar.muli v614 c1_i32_405
  let v617 : BitVec 32 := Scalar.addi c0_i32_406 v616
  v617.toNat
def k0_dev27 (d0 : Dev nD) : Nat :=
  let c0_i32_419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_410 : BitVec 32 := 12#32
  let v625 : BitVec 32 := Scalar.addi v2 c12_i32_410
  let c16_i32_411 : BitVec 32 := 16#32
  let c0_i32_412 : BitVec 32 := 0#32
  let v626 : BitVec 1 := Scalar.cmpi .eq c16_i32_411 c0_i32_412
  let c1_i32_413 : BitVec 32 := 1#32
  let v627 : BitVec 32 := Scalar.select v626 c1_i32_413 c16_i32_411
  let v628 : BitVec 32 := Scalar.remsi v625 v627
  let c0_i32_415 : BitVec 32 := 0#32
  let v630 : BitVec 1 := Scalar.cmpi .slt v628 c0_i32_415
  let c0_i32_416 : BitVec 32 := 0#32
  let v631 : BitVec 1 := Scalar.cmpi .slt v627 c0_i32_416
  let v632 : BitVec 1 := Scalar.xori v630 v631
  let c0_i32_414 : BitVec 32 := 0#32
  let v629 : BitVec 1 := Scalar.cmpi .ne v628 c0_i32_414
  let v633 : BitVec 1 := Scalar.andi v632 v629
  let v634 : BitVec 32 := Scalar.addi v628 v627
  let v635 : BitVec 32 := Scalar.select v633 v634 v628
  let c1_i32_418 : BitVec 32 := 1#32
  let v637 : BitVec 32 := Scalar.muli v635 c1_i32_418
  let v638 : BitVec 32 := Scalar.addi c0_i32_419 v637
  v638.toNat
def k0_dev28 (d0 : Dev nD) : Nat :=
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_423 : BitVec 32 := 13#32
  let v646 : BitVec 32 := Scalar.addi v2 c13_i32_423
  let c16_i32_424 : BitVec 32 := 16#32
  let c0_i32_425 : BitVec 32 := 0#32
  let v647 : BitVec 1 := Scalar.cmpi .eq c16_i32_424 c0_i32_425
  let c1_i32_426 : BitVec 32 := 1#32
  let v648 : BitVec 32 := Scalar.select v647 c1_i32_426 c16_i32_424
  let v649 : BitVec 32 := Scalar.remsi v646 v648
  let c0_i32_428 : BitVec 32 := 0#32
  let v651 : BitVec 1 := Scalar.cmpi .slt v649 c0_i32_428
  let c0_i32_429 : BitVec 32 := 0#32
  let v652 : BitVec 1 := Scalar.cmpi .slt v648 c0_i32_429
  let v653 : BitVec 1 := Scalar.xori v651 v652
  let c0_i32_427 : BitVec 32 := 0#32
  let v650 : BitVec 1 := Scalar.cmpi .ne v649 c0_i32_427
  let v654 : BitVec 1 := Scalar.andi v653 v650
  let v655 : BitVec 32 := Scalar.addi v649 v648
  let v656 : BitVec 32 := Scalar.select v654 v655 v649
  let c1_i32_431 : BitVec 32 := 1#32
  let v658 : BitVec 32 := Scalar.muli v656 c1_i32_431
  let v659 : BitVec 32 := Scalar.addi c0_i32_432 v658
  v659.toNat
def k0_dev29 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_436 : BitVec 32 := 14#32
  let v667 : BitVec 32 := Scalar.addi v2 c14_i32_436
  let c16_i32_437 : BitVec 32 := 16#32
  let c0_i32_438 : BitVec 32 := 0#32
  let v668 : BitVec 1 := Scalar.cmpi .eq c16_i32_437 c0_i32_438
  let c1_i32_439 : BitVec 32 := 1#32
  let v669 : BitVec 32 := Scalar.select v668 c1_i32_439 c16_i32_437
  let v670 : BitVec 32 := Scalar.remsi v667 v669
  let c0_i32_441 : BitVec 32 := 0#32
  let v672 : BitVec 1 := Scalar.cmpi .slt v670 c0_i32_441
  let c0_i32_442 : BitVec 32 := 0#32
  let v673 : BitVec 1 := Scalar.cmpi .slt v669 c0_i32_442
  let v674 : BitVec 1 := Scalar.xori v672 v673
  let c0_i32_440 : BitVec 32 := 0#32
  let v671 : BitVec 1 := Scalar.cmpi .ne v670 c0_i32_440
  let v675 : BitVec 1 := Scalar.andi v674 v671
  let v676 : BitVec 32 := Scalar.addi v670 v669
  let v677 : BitVec 32 := Scalar.select v675 v676 v670
  let c1_i32_444 : BitVec 32 := 1#32
  let v679 : BitVec 32 := Scalar.muli v677 c1_i32_444
  let v680 : BitVec 32 := Scalar.addi c0_i32_445 v679
  v680.toNat
def k0_dev30 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_449 : BitVec 32 := 15#32
  let v688 : BitVec 32 := Scalar.addi v2 c15_i32_449
  let c16_i32_450 : BitVec 32 := 16#32
  let c0_i32_451 : BitVec 32 := 0#32
  let v689 : BitVec 1 := Scalar.cmpi .eq c16_i32_450 c0_i32_451
  let c1_i32_452 : BitVec 32 := 1#32
  let v690 : BitVec 32 := Scalar.select v689 c1_i32_452 c16_i32_450
  let v691 : BitVec 32 := Scalar.remsi v688 v690
  let c0_i32_454 : BitVec 32 := 0#32
  let v693 : BitVec 1 := Scalar.cmpi .slt v691 c0_i32_454
  let c0_i32_455 : BitVec 32 := 0#32
  let v694 : BitVec 1 := Scalar.cmpi .slt v690 c0_i32_455
  let v695 : BitVec 1 := Scalar.xori v693 v694
  let c0_i32_453 : BitVec 32 := 0#32
  let v692 : BitVec 1 := Scalar.cmpi .ne v691 c0_i32_453
  let v696 : BitVec 1 := Scalar.andi v695 v692
  let v697 : BitVec 32 := Scalar.addi v691 v690
  let v698 : BitVec 32 := Scalar.select v696 v697 v691
  let c1_i32_457 : BitVec 32 := 1#32
  let v700 : BitVec 32 := Scalar.muli v698 c1_i32_457
  let v701 : BitVec 32 := Scalar.addi c0_i32_458 v700
  v701.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_462 : BitVec 32 := 256#32
  let v709 : BitVec 32 := Scalar.muli v2 c256_i32_462
  let c0_i32_465 : BitVec 32 := 0#32
  ![v709.toNat, 0]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v724 : Index := Scalar.indexCast v2
  let c0_477 : Index := 0#32
  let c0_478 : Index := 0#32
  ![v724.toNat, 0, 0]
def k0_off9 (d0 : Dev nD) (c1_i32_0 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k0_off10 (d0 : Dev nD) (c1_i32_0 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_487 : BitVec 32 := 0#32
  let c0_i32_488 : BitVec 32 := 0#32
  ![v13.toNat, 0, 0]
def k0_off11 (d0 : Dev nD) (c1_i32_0 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v750 : Index := Scalar.indexCast v13
  let c0_498 : Index := 0#32
  let c0_499 : Index := 0#32
  ![v750.toNat, 0, 0]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1121 : Index := Scalar.indexCast v2
  let c0_805 : Index := 0#32
  let c0_806 : Index := 0#32
  ![v1121.toNat, 0, 0]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_816 : BitVec 32 := 0#32
  let c0_i32_817 : BitVec 32 := 0#32
  ![v2.toNat, 0, 0]
def k0_dev31 (d0 : Dev nD) : Nat :=
  let c0_i32_815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_807 : BitVec 32 := 1#32
  let v1125 : BitVec 32 := Scalar.addi v2 c1_i32_807
  let c16_i32_808 : BitVec 32 := 16#32
  let c0_i32_809 : BitVec 32 := 0#32
  let v1126 : BitVec 1 := Scalar.cmpi .eq c16_i32_808 c0_i32_809
  let c1_i32_810 : BitVec 32 := 1#32
  let v1127 : BitVec 32 := Scalar.select v1126 c1_i32_810 c16_i32_808
  let v1128 : BitVec 32 := Scalar.remsi v1125 v1127
  let c0_i32_812 : BitVec 32 := 0#32
  let v1130 : BitVec 1 := Scalar.cmpi .slt v1128 c0_i32_812
  let c0_i32_813 : BitVec 32 := 0#32
  let v1131 : BitVec 1 := Scalar.cmpi .slt v1127 c0_i32_813
  let v1132 : BitVec 1 := Scalar.xori v1130 v1131
  let c0_i32_811 : BitVec 32 := 0#32
  let v1129 : BitVec 1 := Scalar.cmpi .ne v1128 c0_i32_811
  let v1133 : BitVec 1 := Scalar.andi v1132 v1129
  let v1134 : BitVec 32 := Scalar.addi v1128 v1127
  let v1135 : BitVec 32 := Scalar.select v1133 v1134 v1128
  let c1_i32_814 : BitVec 32 := 1#32
  let v1136 : BitVec 32 := Scalar.muli v1135 c1_i32_814
  let v1137 : BitVec 32 := Scalar.addi c0_i32_815 v1136
  v1137.toNat
def k0_dev32 (d0 : Dev nD) : Nat :=
  let c0_i32_828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_820 : BitVec 32 := 2#32
  let v1146 : BitVec 32 := Scalar.addi v2 c2_i32_820
  let c16_i32_821 : BitVec 32 := 16#32
  let c0_i32_822 : BitVec 32 := 0#32
  let v1147 : BitVec 1 := Scalar.cmpi .eq c16_i32_821 c0_i32_822
  let c1_i32_823 : BitVec 32 := 1#32
  let v1148 : BitVec 32 := Scalar.select v1147 c1_i32_823 c16_i32_821
  let v1149 : BitVec 32 := Scalar.remsi v1146 v1148
  let c0_i32_825 : BitVec 32 := 0#32
  let v1151 : BitVec 1 := Scalar.cmpi .slt v1149 c0_i32_825
  let c0_i32_826 : BitVec 32 := 0#32
  let v1152 : BitVec 1 := Scalar.cmpi .slt v1148 c0_i32_826
  let v1153 : BitVec 1 := Scalar.xori v1151 v1152
  let c0_i32_824 : BitVec 32 := 0#32
  let v1150 : BitVec 1 := Scalar.cmpi .ne v1149 c0_i32_824
  let v1154 : BitVec 1 := Scalar.andi v1153 v1150
  let v1155 : BitVec 32 := Scalar.addi v1149 v1148
  let v1156 : BitVec 32 := Scalar.select v1154 v1155 v1149
  let c1_i32_827 : BitVec 32 := 1#32
  let v1157 : BitVec 32 := Scalar.muli v1156 c1_i32_827
  let v1158 : BitVec 32 := Scalar.addi c0_i32_828 v1157
  v1158.toNat
def k0_dev33 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_833 : BitVec 32 := 3#32
  let v1167 : BitVec 32 := Scalar.addi v2 c3_i32_833
  let c16_i32_834 : BitVec 32 := 16#32
  let c0_i32_835 : BitVec 32 := 0#32
  let v1168 : BitVec 1 := Scalar.cmpi .eq c16_i32_834 c0_i32_835
  let c1_i32_836 : BitVec 32 := 1#32
  let v1169 : BitVec 32 := Scalar.select v1168 c1_i32_836 c16_i32_834
  let v1170 : BitVec 32 := Scalar.remsi v1167 v1169
  let c0_i32_838 : BitVec 32 := 0#32
  let v1172 : BitVec 1 := Scalar.cmpi .slt v1170 c0_i32_838
  let c0_i32_839 : BitVec 32 := 0#32
  let v1173 : BitVec 1 := Scalar.cmpi .slt v1169 c0_i32_839
  let v1174 : BitVec 1 := Scalar.xori v1172 v1173
  let c0_i32_837 : BitVec 32 := 0#32
  let v1171 : BitVec 1 := Scalar.cmpi .ne v1170 c0_i32_837
  let v1175 : BitVec 1 := Scalar.andi v1174 v1171
  let v1176 : BitVec 32 := Scalar.addi v1170 v1169
  let v1177 : BitVec 32 := Scalar.select v1175 v1176 v1170
  let c1_i32_840 : BitVec 32 := 1#32
  let v1178 : BitVec 32 := Scalar.muli v1177 c1_i32_840
  let v1179 : BitVec 32 := Scalar.addi c0_i32_841 v1178
  v1179.toNat
def k0_dev34 (d0 : Dev nD) : Nat :=
  let c0_i32_854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_846 : BitVec 32 := 4#32
  let v1188 : BitVec 32 := Scalar.addi v2 c4_i32_846
  let c16_i32_847 : BitVec 32 := 16#32
  let c0_i32_848 : BitVec 32 := 0#32
  let v1189 : BitVec 1 := Scalar.cmpi .eq c16_i32_847 c0_i32_848
  let c1_i32_849 : BitVec 32 := 1#32
  let v1190 : BitVec 32 := Scalar.select v1189 c1_i32_849 c16_i32_847
  let v1191 : BitVec 32 := Scalar.remsi v1188 v1190
  let c0_i32_851 : BitVec 32 := 0#32
  let v1193 : BitVec 1 := Scalar.cmpi .slt v1191 c0_i32_851
  let c0_i32_852 : BitVec 32 := 0#32
  let v1194 : BitVec 1 := Scalar.cmpi .slt v1190 c0_i32_852
  let v1195 : BitVec 1 := Scalar.xori v1193 v1194
  let c0_i32_850 : BitVec 32 := 0#32
  let v1192 : BitVec 1 := Scalar.cmpi .ne v1191 c0_i32_850
  let v1196 : BitVec 1 := Scalar.andi v1195 v1192
  let v1197 : BitVec 32 := Scalar.addi v1191 v1190
  let v1198 : BitVec 32 := Scalar.select v1196 v1197 v1191
  let c1_i32_853 : BitVec 32 := 1#32
  let v1199 : BitVec 32 := Scalar.muli v1198 c1_i32_853
  let v1200 : BitVec 32 := Scalar.addi c0_i32_854 v1199
  v1200.toNat
def k0_dev35 (d0 : Dev nD) : Nat :=
  let c0_i32_867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_859 : BitVec 32 := 5#32
  let v1209 : BitVec 32 := Scalar.addi v2 c5_i32_859
  let c16_i32_860 : BitVec 32 := 16#32
  let c0_i32_861 : BitVec 32 := 0#32
  let v1210 : BitVec 1 := Scalar.cmpi .eq c16_i32_860 c0_i32_861
  let c1_i32_862 : BitVec 32 := 1#32
  let v1211 : BitVec 32 := Scalar.select v1210 c1_i32_862 c16_i32_860
  let v1212 : BitVec 32 := Scalar.remsi v1209 v1211
  let c0_i32_864 : BitVec 32 := 0#32
  let v1214 : BitVec 1 := Scalar.cmpi .slt v1212 c0_i32_864
  let c0_i32_865 : BitVec 32 := 0#32
  let v1215 : BitVec 1 := Scalar.cmpi .slt v1211 c0_i32_865
  let v1216 : BitVec 1 := Scalar.xori v1214 v1215
  let c0_i32_863 : BitVec 32 := 0#32
  let v1213 : BitVec 1 := Scalar.cmpi .ne v1212 c0_i32_863
  let v1217 : BitVec 1 := Scalar.andi v1216 v1213
  let v1218 : BitVec 32 := Scalar.addi v1212 v1211
  let v1219 : BitVec 32 := Scalar.select v1217 v1218 v1212
  let c1_i32_866 : BitVec 32 := 1#32
  let v1220 : BitVec 32 := Scalar.muli v1219 c1_i32_866
  let v1221 : BitVec 32 := Scalar.addi c0_i32_867 v1220
  v1221.toNat
def k0_dev36 (d0 : Dev nD) : Nat :=
  let c0_i32_880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_872 : BitVec 32 := 6#32
  let v1230 : BitVec 32 := Scalar.addi v2 c6_i32_872
  let c16_i32_873 : BitVec 32 := 16#32
  let c0_i32_874 : BitVec 32 := 0#32
  let v1231 : BitVec 1 := Scalar.cmpi .eq c16_i32_873 c0_i32_874
  let c1_i32_875 : BitVec 32 := 1#32
  let v1232 : BitVec 32 := Scalar.select v1231 c1_i32_875 c16_i32_873
  let v1233 : BitVec 32 := Scalar.remsi v1230 v1232
  let c0_i32_877 : BitVec 32 := 0#32
  let v1235 : BitVec 1 := Scalar.cmpi .slt v1233 c0_i32_877
  let c0_i32_878 : BitVec 32 := 0#32
  let v1236 : BitVec 1 := Scalar.cmpi .slt v1232 c0_i32_878
  let v1237 : BitVec 1 := Scalar.xori v1235 v1236
  let c0_i32_876 : BitVec 32 := 0#32
  let v1234 : BitVec 1 := Scalar.cmpi .ne v1233 c0_i32_876
  let v1238 : BitVec 1 := Scalar.andi v1237 v1234
  let v1239 : BitVec 32 := Scalar.addi v1233 v1232
  let v1240 : BitVec 32 := Scalar.select v1238 v1239 v1233
  let c1_i32_879 : BitVec 32 := 1#32
  let v1241 : BitVec 32 := Scalar.muli v1240 c1_i32_879
  let v1242 : BitVec 32 := Scalar.addi c0_i32_880 v1241
  v1242.toNat
def k0_dev37 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_885 : BitVec 32 := 7#32
  let v1251 : BitVec 32 := Scalar.addi v2 c7_i32_885
  let c16_i32_886 : BitVec 32 := 16#32
  let c0_i32_887 : BitVec 32 := 0#32
  let v1252 : BitVec 1 := Scalar.cmpi .eq c16_i32_886 c0_i32_887
  let c1_i32_888 : BitVec 32 := 1#32
  let v1253 : BitVec 32 := Scalar.select v1252 c1_i32_888 c16_i32_886
  let v1254 : BitVec 32 := Scalar.remsi v1251 v1253
  let c0_i32_890 : BitVec 32 := 0#32
  let v1256 : BitVec 1 := Scalar.cmpi .slt v1254 c0_i32_890
  let c0_i32_891 : BitVec 32 := 0#32
  let v1257 : BitVec 1 := Scalar.cmpi .slt v1253 c0_i32_891
  let v1258 : BitVec 1 := Scalar.xori v1256 v1257
  let c0_i32_889 : BitVec 32 := 0#32
  let v1255 : BitVec 1 := Scalar.cmpi .ne v1254 c0_i32_889
  let v1259 : BitVec 1 := Scalar.andi v1258 v1255
  let v1260 : BitVec 32 := Scalar.addi v1254 v1253
  let v1261 : BitVec 32 := Scalar.select v1259 v1260 v1254
  let c1_i32_892 : BitVec 32 := 1#32
  let v1262 : BitVec 32 := Scalar.muli v1261 c1_i32_892
  let v1263 : BitVec 32 := Scalar.addi c0_i32_893 v1262
  v1263.toNat
def k0_dev38 (d0 : Dev nD) : Nat :=
  let c0_i32_906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_898 : BitVec 32 := 8#32
  let v1272 : BitVec 32 := Scalar.addi v2 c8_i32_898
  let c16_i32_899 : BitVec 32 := 16#32
  let c0_i32_900 : BitVec 32 := 0#32
  let v1273 : BitVec 1 := Scalar.cmpi .eq c16_i32_899 c0_i32_900
  let c1_i32_901 : BitVec 32 := 1#32
  let v1274 : BitVec 32 := Scalar.select v1273 c1_i32_901 c16_i32_899
  let v1275 : BitVec 32 := Scalar.remsi v1272 v1274
  let c0_i32_903 : BitVec 32 := 0#32
  let v1277 : BitVec 1 := Scalar.cmpi .slt v1275 c0_i32_903
  let c0_i32_904 : BitVec 32 := 0#32
  let v1278 : BitVec 1 := Scalar.cmpi .slt v1274 c0_i32_904
  let v1279 : BitVec 1 := Scalar.xori v1277 v1278
  let c0_i32_902 : BitVec 32 := 0#32
  let v1276 : BitVec 1 := Scalar.cmpi .ne v1275 c0_i32_902
  let v1280 : BitVec 1 := Scalar.andi v1279 v1276
  let v1281 : BitVec 32 := Scalar.addi v1275 v1274
  let v1282 : BitVec 32 := Scalar.select v1280 v1281 v1275
  let c1_i32_905 : BitVec 32 := 1#32
  let v1283 : BitVec 32 := Scalar.muli v1282 c1_i32_905
  let v1284 : BitVec 32 := Scalar.addi c0_i32_906 v1283
  v1284.toNat
def k0_dev39 (d0 : Dev nD) : Nat :=
  let c0_i32_919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_911 : BitVec 32 := 9#32
  let v1293 : BitVec 32 := Scalar.addi v2 c9_i32_911
  let c16_i32_912 : BitVec 32 := 16#32
  let c0_i32_913 : BitVec 32 := 0#32
  let v1294 : BitVec 1 := Scalar.cmpi .eq c16_i32_912 c0_i32_913
  let c1_i32_914 : BitVec 32 := 1#32
  let v1295 : BitVec 32 := Scalar.select v1294 c1_i32_914 c16_i32_912
  let v1296 : BitVec 32 := Scalar.remsi v1293 v1295
  let c0_i32_916 : BitVec 32 := 0#32
  let v1298 : BitVec 1 := Scalar.cmpi .slt v1296 c0_i32_916
  let c0_i32_917 : BitVec 32 := 0#32
  let v1299 : BitVec 1 := Scalar.cmpi .slt v1295 c0_i32_917
  let v1300 : BitVec 1 := Scalar.xori v1298 v1299
  let c0_i32_915 : BitVec 32 := 0#32
  let v1297 : BitVec 1 := Scalar.cmpi .ne v1296 c0_i32_915
  let v1301 : BitVec 1 := Scalar.andi v1300 v1297
  let v1302 : BitVec 32 := Scalar.addi v1296 v1295
  let v1303 : BitVec 32 := Scalar.select v1301 v1302 v1296
  let c1_i32_918 : BitVec 32 := 1#32
  let v1304 : BitVec 32 := Scalar.muli v1303 c1_i32_918
  let v1305 : BitVec 32 := Scalar.addi c0_i32_919 v1304
  v1305.toNat
def k0_dev40 (d0 : Dev nD) : Nat :=
  let c0_i32_932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_924 : BitVec 32 := 10#32
  let v1314 : BitVec 32 := Scalar.addi v2 c10_i32_924
  let c16_i32_925 : BitVec 32 := 16#32
  let c0_i32_926 : BitVec 32 := 0#32
  let v1315 : BitVec 1 := Scalar.cmpi .eq c16_i32_925 c0_i32_926
  let c1_i32_927 : BitVec 32 := 1#32
  let v1316 : BitVec 32 := Scalar.select v1315 c1_i32_927 c16_i32_925
  let v1317 : BitVec 32 := Scalar.remsi v1314 v1316
  let c0_i32_929 : BitVec 32 := 0#32
  let v1319 : BitVec 1 := Scalar.cmpi .slt v1317 c0_i32_929
  let c0_i32_930 : BitVec 32 := 0#32
  let v1320 : BitVec 1 := Scalar.cmpi .slt v1316 c0_i32_930
  let v1321 : BitVec 1 := Scalar.xori v1319 v1320
  let c0_i32_928 : BitVec 32 := 0#32
  let v1318 : BitVec 1 := Scalar.cmpi .ne v1317 c0_i32_928
  let v1322 : BitVec 1 := Scalar.andi v1321 v1318
  let v1323 : BitVec 32 := Scalar.addi v1317 v1316
  let v1324 : BitVec 32 := Scalar.select v1322 v1323 v1317
  let c1_i32_931 : BitVec 32 := 1#32
  let v1325 : BitVec 32 := Scalar.muli v1324 c1_i32_931
  let v1326 : BitVec 32 := Scalar.addi c0_i32_932 v1325
  v1326.toNat
def k0_dev41 (d0 : Dev nD) : Nat :=
  let c0_i32_945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_937 : BitVec 32 := 11#32
  let v1335 : BitVec 32 := Scalar.addi v2 c11_i32_937
  let c16_i32_938 : BitVec 32 := 16#32
  let c0_i32_939 : BitVec 32 := 0#32
  let v1336 : BitVec 1 := Scalar.cmpi .eq c16_i32_938 c0_i32_939
  let c1_i32_940 : BitVec 32 := 1#32
  let v1337 : BitVec 32 := Scalar.select v1336 c1_i32_940 c16_i32_938
  let v1338 : BitVec 32 := Scalar.remsi v1335 v1337
  let c0_i32_942 : BitVec 32 := 0#32
  let v1340 : BitVec 1 := Scalar.cmpi .slt v1338 c0_i32_942
  let c0_i32_943 : BitVec 32 := 0#32
  let v1341 : BitVec 1 := Scalar.cmpi .slt v1337 c0_i32_943
  let v1342 : BitVec 1 := Scalar.xori v1340 v1341
  let c0_i32_941 : BitVec 32 := 0#32
  let v1339 : BitVec 1 := Scalar.cmpi .ne v1338 c0_i32_941
  let v1343 : BitVec 1 := Scalar.andi v1342 v1339
  let v1344 : BitVec 32 := Scalar.addi v1338 v1337
  let v1345 : BitVec 32 := Scalar.select v1343 v1344 v1338
  let c1_i32_944 : BitVec 32 := 1#32
  let v1346 : BitVec 32 := Scalar.muli v1345 c1_i32_944
  let v1347 : BitVec 32 := Scalar.addi c0_i32_945 v1346
  v1347.toNat
def k0_dev42 (d0 : Dev nD) : Nat :=
  let c0_i32_958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_950 : BitVec 32 := 12#32
  let v1356 : BitVec 32 := Scalar.addi v2 c12_i32_950
  let c16_i32_951 : BitVec 32 := 16#32
  let c0_i32_952 : BitVec 32 := 0#32
  let v1357 : BitVec 1 := Scalar.cmpi .eq c16_i32_951 c0_i32_952
  let c1_i32_953 : BitVec 32 := 1#32
  let v1358 : BitVec 32 := Scalar.select v1357 c1_i32_953 c16_i32_951
  let v1359 : BitVec 32 := Scalar.remsi v1356 v1358
  let c0_i32_955 : BitVec 32 := 0#32
  let v1361 : BitVec 1 := Scalar.cmpi .slt v1359 c0_i32_955
  let c0_i32_956 : BitVec 32 := 0#32
  let v1362 : BitVec 1 := Scalar.cmpi .slt v1358 c0_i32_956
  let v1363 : BitVec 1 := Scalar.xori v1361 v1362
  let c0_i32_954 : BitVec 32 := 0#32
  let v1360 : BitVec 1 := Scalar.cmpi .ne v1359 c0_i32_954
  let v1364 : BitVec 1 := Scalar.andi v1363 v1360
  let v1365 : BitVec 32 := Scalar.addi v1359 v1358
  let v1366 : BitVec 32 := Scalar.select v1364 v1365 v1359
  let c1_i32_957 : BitVec 32 := 1#32
  let v1367 : BitVec 32 := Scalar.muli v1366 c1_i32_957
  let v1368 : BitVec 32 := Scalar.addi c0_i32_958 v1367
  v1368.toNat
def k0_dev43 (d0 : Dev nD) : Nat :=
  let c0_i32_971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_963 : BitVec 32 := 13#32
  let v1377 : BitVec 32 := Scalar.addi v2 c13_i32_963
  let c16_i32_964 : BitVec 32 := 16#32
  let c0_i32_965 : BitVec 32 := 0#32
  let v1378 : BitVec 1 := Scalar.cmpi .eq c16_i32_964 c0_i32_965
  let c1_i32_966 : BitVec 32 := 1#32
  let v1379 : BitVec 32 := Scalar.select v1378 c1_i32_966 c16_i32_964
  let v1380 : BitVec 32 := Scalar.remsi v1377 v1379
  let c0_i32_968 : BitVec 32 := 0#32
  let v1382 : BitVec 1 := Scalar.cmpi .slt v1380 c0_i32_968
  let c0_i32_969 : BitVec 32 := 0#32
  let v1383 : BitVec 1 := Scalar.cmpi .slt v1379 c0_i32_969
  let v1384 : BitVec 1 := Scalar.xori v1382 v1383
  let c0_i32_967 : BitVec 32 := 0#32
  let v1381 : BitVec 1 := Scalar.cmpi .ne v1380 c0_i32_967
  let v1385 : BitVec 1 := Scalar.andi v1384 v1381
  let v1386 : BitVec 32 := Scalar.addi v1380 v1379
  let v1387 : BitVec 32 := Scalar.select v1385 v1386 v1380
  let c1_i32_970 : BitVec 32 := 1#32
  let v1388 : BitVec 32 := Scalar.muli v1387 c1_i32_970
  let v1389 : BitVec 32 := Scalar.addi c0_i32_971 v1388
  v1389.toNat
def k0_dev44 (d0 : Dev nD) : Nat :=
  let c0_i32_984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_976 : BitVec 32 := 14#32
  let v1398 : BitVec 32 := Scalar.addi v2 c14_i32_976
  let c16_i32_977 : BitVec 32 := 16#32
  let c0_i32_978 : BitVec 32 := 0#32
  let v1399 : BitVec 1 := Scalar.cmpi .eq c16_i32_977 c0_i32_978
  let c1_i32_979 : BitVec 32 := 1#32
  let v1400 : BitVec 32 := Scalar.select v1399 c1_i32_979 c16_i32_977
  let v1401 : BitVec 32 := Scalar.remsi v1398 v1400
  let c0_i32_981 : BitVec 32 := 0#32
  let v1403 : BitVec 1 := Scalar.cmpi .slt v1401 c0_i32_981
  let c0_i32_982 : BitVec 32 := 0#32
  let v1404 : BitVec 1 := Scalar.cmpi .slt v1400 c0_i32_982
  let v1405 : BitVec 1 := Scalar.xori v1403 v1404
  let c0_i32_980 : BitVec 32 := 0#32
  let v1402 : BitVec 1 := Scalar.cmpi .ne v1401 c0_i32_980
  let v1406 : BitVec 1 := Scalar.andi v1405 v1402
  let v1407 : BitVec 32 := Scalar.addi v1401 v1400
  let v1408 : BitVec 32 := Scalar.select v1406 v1407 v1401
  let c1_i32_983 : BitVec 32 := 1#32
  let v1409 : BitVec 32 := Scalar.muli v1408 c1_i32_983
  let v1410 : BitVec 32 := Scalar.addi c0_i32_984 v1409
  v1410.toNat
def k0_dev45 (d0 : Dev nD) : Nat :=
  let c0_i32_997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_989 : BitVec 32 := 15#32
  let v1419 : BitVec 32 := Scalar.addi v2 c15_i32_989
  let c16_i32_990 : BitVec 32 := 16#32
  let c0_i32_991 : BitVec 32 := 0#32
  let v1420 : BitVec 1 := Scalar.cmpi .eq c16_i32_990 c0_i32_991
  let c1_i32_992 : BitVec 32 := 1#32
  let v1421 : BitVec 32 := Scalar.select v1420 c1_i32_992 c16_i32_990
  let v1422 : BitVec 32 := Scalar.remsi v1419 v1421
  let c0_i32_994 : BitVec 32 := 0#32
  let v1424 : BitVec 1 := Scalar.cmpi .slt v1422 c0_i32_994
  let c0_i32_995 : BitVec 32 := 0#32
  let v1425 : BitVec 1 := Scalar.cmpi .slt v1421 c0_i32_995
  let v1426 : BitVec 1 := Scalar.xori v1424 v1425
  let c0_i32_993 : BitVec 32 := 0#32
  let v1423 : BitVec 1 := Scalar.cmpi .ne v1422 c0_i32_993
  let v1427 : BitVec 1 := Scalar.andi v1426 v1423
  let v1428 : BitVec 32 := Scalar.addi v1422 v1421
  let v1429 : BitVec 32 := Scalar.select v1427 v1428 v1422
  let c1_i32_996 : BitVec 32 := 1#32
  let v1430 : BitVec 32 := Scalar.muli v1429 c1_i32_996
  let v1431 : BitVec 32 := Scalar.addi c0_i32_997 v1430
  v1431.toNat
def k0_off14 (d0 : Dev nD) (c1_i32_1002 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1440 : BitVec 32 := Scalar.subi v2 c1_i32_1002
  let c16_i32_1003 : BitVec 32 := 16#32
  let c0_i32_1004 : BitVec 32 := 0#32
  let v1441 : BitVec 1 := Scalar.cmpi .eq c16_i32_1003 c0_i32_1004
  let c1_i32_1005 : BitVec 32 := 1#32
  let v1442 : BitVec 32 := Scalar.select v1441 c1_i32_1005 c16_i32_1003
  let v1443 : BitVec 32 := Scalar.remsi v1440 v1442
  let c0_i32_1007 : BitVec 32 := 0#32
  let v1445 : BitVec 1 := Scalar.cmpi .slt v1443 c0_i32_1007
  let c0_i32_1008 : BitVec 32 := 0#32
  let v1446 : BitVec 1 := Scalar.cmpi .slt v1442 c0_i32_1008
  let v1447 : BitVec 1 := Scalar.xori v1445 v1446
  let c0_i32_1006 : BitVec 32 := 0#32
  let v1444 : BitVec 1 := Scalar.cmpi .ne v1443 c0_i32_1006
  let v1448 : BitVec 1 := Scalar.andi v1447 v1444
  let v1449 : BitVec 32 := Scalar.addi v1443 v1442
  let v1450 : BitVec 32 := Scalar.select v1448 v1449 v1443
  let c0_i32_1011 : BitVec 32 := 0#32
  let c0_i32_1012 : BitVec 32 := 0#32
  ![v1450.toNat, 0, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 14
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S1x1, .f32⟩
  | .hbm, ⟨13, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Mesh.lean ====
/-
# The mesh: the devices a device sends to and receives from, its semaphore cells, its buffers' slots

Sixteen devices in one ring of distances. Device `c`'s `k`-th peer is `c + k`, its `k`-th source `c − k` (mod 16), for
`k = 1 … 15`. What a device sends first reaches the peer whose first source it is.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Peers and sources -/

/-- Device `c`'s `k`-th peer. -/
def peer (c : Dev nD) (k : ℕ) : Dev nD := ⟨(c.val + k) % 16, Nat.mod_lt _ (by decide)⟩
/-- Device `c`'s `k`-th source. -/
def src (c : Dev nD) (k : ℕ) : Dev nD := ⟨(c.val + (16 - k)) % 16, Nat.mod_lt _ (by decide)⟩

theorem src_peer (c : Dev nD) {k : ℕ} (hk : k < 16) : src (peer c k) k = c := by
  apply Fin.ext; have := c.isLt; simp only [src, peer]; change c.val < 16 at this; omega
theorem peer_src (c : Dev nD) {k : ℕ} (hk : k < 16) : peer (src c k) k = c := by
  apply Fin.ext; have := c.isLt; simp only [src, peer]; change c.val < 16 at this; omega
theorem src_zero (c : Dev nD) : src c 0 = c := by
  apply Fin.ext; have := c.isLt; simp only [src]; change c.val < 16 at this; omega
theorem peer_ne (c : Dev nD) {k : ℕ} (h1 : 1 ≤ k) (hk : k < 16) : peer c k ≠ c := by
  intro h; have h := congrArg Fin.val h; have := c.isLt; simp only [peer] at h; change c.val < 16 at this; omega
theorem src_ne (c : Dev nD) {k : ℕ} (h1 : 1 ≤ k) (hk : k < 16) : src c k ≠ c := by
  intro h; have h := congrArg Fin.val h; have := c.isLt; simp only [src] at h; change c.val < 16 at this; omega

theorem peers_nodup : ∀ c : Dev nD, ((List.range' 1 15).map (peer c)).Nodup := by decide +kernel
theorem peers_eq : ∀ c : Dev nD, Finset.univ.erase c = ((List.range' 1 15).map (peer c)).toFinset := by decide +kernel
theorem srcs_nodup : ∀ c : Dev nD, ((List.range' 1 15).map (src c)).Nodup := by decide +kernel
theorem srcs_eq : ∀ c : Dev nD, Finset.univ.erase c = ((List.range' 1 15).map (src c)).toFinset := by decide +kernel
theorem order_nodup : ∀ c : Dev nD, ((List.range' 0 16).map (src c)).Nodup := by decide +kernel
theorem order_eq : ∀ c : Dev nD, Finset.univ = ((List.range' 0 16).map (src c)).toFinset := by decide +kernel

section Reindex
variable {M : Type} [URA M]

theorem bigSep_Ico_list (n l : ℕ) (A : ℕ → sProp M) : bigSep (Finset.Ico n (n + l)) A = bigSepL (List.range' n l) A :=
  bigSep_eq_bigSepL_of_eq (List.range' n l)
    (by ext x; simp only [Finset.mem_Ico, List.mem_toFinset, List.mem_range'_1]) List.nodup_range' A

theorem bigSepL_map' {I J : Type} (l : List I) (f : I → J) (A : J → sProp M) : bigSepL (l.map f) A = bigSepL l (fun i => A (f i)) := by
  induction l with
  | nil => rfl
  | cons a l ih =>
    cases l with
    | nil => simp only [List.map_cons, List.map_nil, bigSepL_singleton]
    | cons b l => simp only [List.map_cons, bigSepL_cons_cons] at ih ⊢; rw [ih]

/-- The other devices, as a device's peers 1 to 15, -/
theorem bigSep_others_peer (c : Dev nD) (A : Dev nD → sProp M) :
    bigSep (Finset.univ.erase c) A = bigSep (Finset.Ico 1 16) (fun k => A (peer c k)) := by
  rw [bigSep_eq_bigSepL_of_eq _ (peers_eq c) (peers_nodup c), bigSepL_map', bigSep_Ico_list 1 15]
/-- and as its sources 1 to 15. -/
theorem bigSep_others_src (c : Dev nD) (A : Dev nD → sProp M) :
    bigSep (Finset.univ.erase c) A = bigSep (Finset.Ico 1 16) (fun k => A (src c k)) := by
  rw [bigSep_eq_bigSepL_of_eq _ (srcs_eq c) (srcs_nodup c), bigSepL_map', bigSep_Ico_list 1 15]
/-- All devices, in the order a device takes their blocks. -/
theorem bigSep_order (c : Dev nD) (A : Dev nD → sProp M) :
    bigSep Finset.univ A = bigSep (Finset.Ico 0 16) (fun k => A (src c k)) := by
  rw [bigSep_eq_bigSepL_of_eq _ (order_eq c) (order_nodup c), bigSepL_map', bigSep_Ico_list 0 16]

end Reindex

/-! ## The semaphore cells -/

/-- A device's semaphores: the runtime's barrier; per device a send and a receive cell for the row blocks of `x` and for
    the maxima; four for the slots the weights are fetched to; one for the device's copy to itself. -/
inductive Kd
  | bar
  | send (i : Fin 16)
  | recv (i : Fin 16)
  | asend (i : Fin 16)
  | arecv (i : Fin 16)
  | wsem (i : Fin 4)
  | loc
  deriving DecidableEq

/-- The cells, kind by kind. -/
def Kd.parts : Kd ≃ Unit ⊕ Fin 16 ⊕ Fin 16 ⊕ Fin 16 ⊕ Fin 16 ⊕ Fin 4 ⊕ Unit where
  toFun
    | .bar => .inl ()
    | .send i => .inr (.inl i)
    | .recv i => .inr (.inr (.inl i))
    | .asend i => .inr (.inr (.inr (.inl i)))
    | .arecv i => .inr (.inr (.inr (.inr (.inl i))))
    | .wsem i => .inr (.inr (.inr (.inr (.inr (.inl i)))))
    | .loc => .inr (.inr (.inr (.inr (.inr (.inr ())))))
  invFun
    | .inl _ => .bar
    | .inr (.inl i) => .send i
    | .inr (.inr (.inl i)) => .recv i
    | .inr (.inr (.inr (.inl i))) => .asend i
    | .inr (.inr (.inr (.inr (.inl i)))) => .arecv i
    | .inr (.inr (.inr (.inr (.inr (.inl i))))) => .wsem i
    | .inr (.inr (.inr (.inr (.inr (.inr _))))) => .loc
  left_inv k := by cases k <;> rfl
  right_inv k := by rcases k with _ | _ | _ | _ | _ | _ | _ <;> rfl

instance : Fintype Kd := Fintype.ofEquiv _ Kd.parts.symm

theorem bigSep_kinds {M : Type} [URA M] (A : Kd → sProp M) :
    bigSep Finset.univ A = iprop(A .bar ∗ bigSep Finset.univ (fun i => A (.send i)) ∗ bigSep Finset.univ (fun i => A (.recv i))
      ∗ bigSep Finset.univ (fun i => A (.asend i)) ∗ bigSep Finset.univ (fun i => A (.arecv i))
      ∗ bigSep Finset.univ (fun i => A (.wsem i)) ∗ A .loc) := by
  rw [bigSep_univ_equiv Kd.parts.symm, bigSep_univ_sum, bigSep_univ_sum, bigSep_univ_sum, bigSep_univ_sum, bigSep_univ_sum, bigSep_univ_sum,
    Finset.univ_unique, bigSep_singleton, bigSep_singleton]
  rfl

abbrev barA : Sems sig S_ := SemArray.scalar (sig.barrier 0 rfl)
abbrev barS : Sem sig := barA.sem

/-- The machine's name of a cell. -/
def Kd.sem : Kd → SemLoc sig
  | .bar => .reg barS
  | .send i => .dma (⟨2 + i.val, by have := i.isLt; change _ < 71; omega⟩ : Fin 71)
  | .recv i => .dma (⟨18 + i.val, by have := i.isLt; change _ < 71; omega⟩ : Fin 71)
  | .asend i => .dma (⟨34 + i.val, by have := i.isLt; change _ < 71; omega⟩ : Fin 71)
  | .arecv i => .dma (⟨50 + i.val, by have := i.isLt; change _ < 71; omega⟩ : Fin 71)
  | .wsem i => .dma (⟨66 + i.val, by have := i.isLt; change _ < 71; omega⟩ : Fin 71)
  | .loc => .dma (⟨70, by decide⟩ : Fin 71)

/-- Which cell a DMA semaphore's number is. -/
def decodeN (n : ℕ) : Option Kd :=
  if h : n < 2 then none
  else if h : n < 18 then some (.send ⟨n - 2, by omega⟩)
  else if h : n < 34 then some (.recv ⟨n - 18, by omega⟩)
  else if h : n < 50 then some (.asend ⟨n - 34, by omega⟩)
  else if h : n < 66 then some (.arecv ⟨n - 50, by omega⟩)
  else if h : n < 70 then some (.wsem ⟨n - 66, by omega⟩)
  else some .loc

def decode : SemLoc sig → Option Kd
  | .reg _ => some .bar
  | .dma q => decodeN (Fin.val (n := 71) q)

theorem decode_sem (k : Kd) : decode k.sem = some k := by
  cases k with
  | bar => rfl
  | loc => decide
  | send i => revert i; decide +kernel
  | recv i => revert i; decide +kernel
  | asend i => revert i; decide +kernel
  | arecv i => revert i; decide +kernel
  | wsem i => revert i; decide +kernel

theorem sem_injective : Function.Injective Kd.sem := fun a b h =>
  Option.some.inj (((decode_sem a).symm.trans (congrArg decode h)).trans (decode_sem b))

/-- Device `c`'s cell `k`. -/
abbrev cell (c : Dev nD) (k : Kd) : GSem nD τ sig := ((c : Thread nD τ), k.sem)

theorem cell_injective : Function.Injective (fun p : Dev nD × Kd => cell p.1 p.2) := by
  rintro ⟨c, k⟩ ⟨c', k'⟩ h
  have h1 : c = c' := congrArg (fun g : GSem nD τ sig => g.1.1) h
  have h2 : k.sem = k'.sem := congrArg (fun g : GSem nD τ sig => g.2) h
  rw [h1, sem_injective h2]

/-! What the kernel's slices of its semaphore arrays name. -/

theorem sInb (i : Fin 16) : ∀ a, (![i.val] : Fin 1 → ℕ) a + S1.size a ≤ S16.size a := by revert i; decide
theorem wInb (i : Fin 4) : ∀ a, (![i.val] : Fin 1 → ℕ) a + S1.size a ≤ S4.size a := by revert i; decide

theorem send_sem_at : ∀ i : Fin 16, SemLoc.dma ((cc0_scratch4.slice (Rect.unit (s := S16) ![i.val] S1.size (sInb i))).squeeze S_ squeezes_S1_S_).sem = (Kd.send i).sem := by decide +kernel
theorem recv_sem_at : ∀ i : Fin 16, SemLoc.dma ((cc0_scratch5.slice (Rect.unit (s := S16) ![i.val] S1.size (sInb i))).squeeze S_ squeezes_S1_S_).sem = (Kd.recv i).sem := by decide +kernel
theorem asend_sem_at : ∀ i : Fin 16, SemLoc.dma ((cc0_scratch6.slice (Rect.unit (s := S16) ![i.val] S1.size (sInb i))).squeeze S_ squeezes_S1_S_).sem = (Kd.asend i).sem := by decide +kernel
theorem arecv_sem_at : ∀ i : Fin 16, SemLoc.dma ((cc0_scratch7.slice (Rect.unit (s := S16) ![i.val] S1.size (sInb i))).squeeze S_ squeezes_S1_S_).sem = (Kd.arecv i).sem := by decide +kernel
theorem wsem_sem_at : ∀ i : Fin 4, SemLoc.dma ((cc0_scratch8.slice (Rect.unit (s := S4) ![i.val] S1.size (wInb i))).squeeze S_ squeezes_S1_S_).sem = (Kd.wsem i).sem := by decide +kernel
theorem loc_sem_at : SemLoc.dma cc0_scratch9.sem = Kd.loc.sem := by decide +kernel

/-! ## The kernel's offsets, as words of a device and a distance -/

theorem off2_at : ∀ (r : Fin 15) (c : Dev nD), k0_off2 c (BitVec.ofNat 32 (1 + r.val)) = ![256 * (src c (1 + r.val)).val, 0] := by decide +kernel
theorem off3_at : ∀ (r : Fin 15) (c : Dev nD), k0_off3 c (BitVec.ofNat 32 (1 + r.val)) = ![(peer c (1 + r.val)).val] := by decide +kernel
theorem off6_at : ∀ (r : Fin 15) (c : Dev nD), k0_off6 c (BitVec.ofNat 32 (1 + r.val)) = ![256 * (peer c (1 + r.val)).val, 0] := by decide +kernel
theorem off9_at : ∀ (r : Fin 15) (c : Dev nD), k0_off9 c (BitVec.ofNat 32 (1 + r.val)) = ![(src c (1 + r.val)).val] := by decide +kernel
theorem off11_at : ∀ (r : Fin 15) (c : Dev nD), k0_off11 c (BitVec.ofNat 32 (1 + r.val)) = ![(src c (1 + r.val)).val, 0, 0] := by decide +kernel

/-- The device each of the kernel's signals is for, in program order; -/
def sigTab (r : Fin 15) (c : Dev nD) : ℕ :=
  (![k0_dev1 c, k0_dev2 c, k0_dev3 c, k0_dev4 c, k0_dev5 c, k0_dev6 c, k0_dev7 c, k0_dev8 c, k0_dev9 c, k0_dev10 c, k0_dev11 c,
    k0_dev12 c, k0_dev13 c, k0_dev14 c, k0_dev15 c] : Fin 15 → ℕ) r
/-- each of its sends of a row block; -/
def sendTab (r : Fin 15) (c : Dev nD) : ℕ :=
  (![k0_dev16 c, k0_dev17 c, k0_dev18 c, k0_dev19 c, k0_dev20 c, k0_dev21 c, k0_dev22 c, k0_dev23 c, k0_dev24 c, k0_dev25 c, k0_dev26 c,
    k0_dev27 c, k0_dev28 c, k0_dev29 c, k0_dev30 c] : Fin 15 → ℕ) r
/-- each of its sends of its maximum. -/
def asendTab (r : Fin 15) (c : Dev nD) : ℕ :=
  (![k0_dev31 c, k0_dev32 c, k0_dev33 c, k0_dev34 c, k0_dev35 c, k0_dev36 c, k0_dev37 c, k0_dev38 c, k0_dev39 c, k0_dev40 c, k0_dev41 c,
    k0_dev42 c, k0_dev43 c, k0_dev44 c, k0_dev45 c] : Fin 15 → ℕ) r

theorem sigTab_at : ∀ (r : Fin 15) (c : Dev nD), sigTab r c = (peer c (1 + r.val)).val := by decide +kernel
theorem sendTab_at : ∀ (r : Fin 15) (c : Dev nD), sendTab r c = (peer c (1 + r.val)).val := by decide +kernel
theorem asendTab_at : ∀ (r : Fin 15) (c : Dev nD), asendTab r c = (peer c (1 + r.val)).val := by decide +kernel

end Cert.MeshRun
-- ==== Proof.Contents.lean ====
/-
# What the buffers hold

The slots the kernel's transfers move, the contents handed over with them (as functions of the two arguments' contents on
each device), and that a transfer of the one lands as the other.
-/
module

public import proofs.«01_k».proof.Proof.Mesh
public import Idealize.ShloMosaic.Lib.ValueLayout
public import Idealize.ShloMosaic.Lib.Ring

@[expose] public section

noncomputable section

namespace Cert.MeshRun

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The memrefs -/

abbrev xM : Memref sig .tc .vmem S4096x256 .f32 := Memref.whole cc0_stg0_0
abbrev wM : Memref sig .tc .hbm S4096x2048 .f32 := Memref.whole main_arg1
abbrev oM : Memref sig .tc .vmem S256x2048 .f32 := Memref.whole cc0_stg1_0
abbrev bM : Memref sig .tc .vmem S4096x256 .bf16 := Memref.whole cc0_scratch0
abbrev gM : Memref sig .tc .vmem S16x256x256 .bf16 := Memref.whole cc0_scratch1
abbrev vM : Memref sig .tc .vmem S4x256x2048 .f32 := Memref.whole cc0_scratch2
abbrev aM : Memref sig .tc .vmem S16x8x128 .f32 := Memref.whole cc0_scratch3

theorem bInb (d : Fin 16) : ∀ a, (![256 * d.val, 0] : Fin 2 → ℕ) a + S256x256.size a ≤ S4096x256.size a := by revert d; decide
theorem wRInb (d : Fin 16) : ∀ a, (![256 * d.val, 0] : Fin 2 → ℕ) a + S256x2048.size a ≤ S4096x2048.size a := by revert d; decide
theorem gInb (s : Fin 16) : ∀ a, (![s.val, 0, 0] : Fin 3 → ℕ) a + S1x256x256.size a ≤ S16x256x256.size a := by revert s; decide
theorem vInb (i : Fin 4) : ∀ a, (![i.val, 0, 0] : Fin 3 → ℕ) a + S1x256x2048.size a ≤ S4x256x2048.size a := by revert i; decide
theorem aInb (s : Fin 16) : ∀ a, (![s.val, 0, 0] : Fin 3 → ℕ) a + S1x8x128.size a ≤ S16x8x128.size a := by revert s; decide

abbrev bRect (d : Fin 16) : Rect S4096x256 := Rect.unit (s := S4096x256) ![256 * d.val, 0] S256x256.size (bInb d)
abbrev wRect (d : Fin 16) : Rect S4096x2048 := Rect.unit (s := S4096x2048) ![256 * d.val, 0] S256x2048.size (wRInb d)
abbrev gRect (s : Fin 16) : Rect S16x256x256 := Rect.unit (s := S16x256x256) ![s.val, 0, 0] S1x256x256.size (gInb s)
abbrev vRect (i : Fin 4) : Rect S4x256x2048 := Rect.unit (s := S4x256x2048) ![i.val, 0, 0] S1x256x2048.size (vInb i)
abbrev aRect (s : Fin 16) : Rect S16x8x128 := Rect.unit (s := S16x8x128) ![s.val, 0, 0] S1x8x128.size (aInb s)

/-- The rows of the cast `x` meant for device `d`; -/
abbrev bRow (d : Fin 16) : Memref sig .tc .vmem S256x256 .bf16 := bM.slice (bRect d) (fun _ => rfl)
/-- the rows of `w` that multiply device `d`'s columns of `x`; -/
abbrev wRow (d : Fin 16) : Memref sig .tc .hbm S256x2048 .f32 := wM.slice (wRect d) (fun _ => rfl)
/-- the slot device `s`'s block of `x` lands in; -/
abbrev gSlot (s : Fin 16) : Memref sig .tc .vmem S256x256 .bf16 := (gM.slice (gRect s) (fun _ => rfl)).squeeze S256x256 squeezes_S1x256x256_S256x256
/-- a slot for rows of `w`; -/
abbrev vSlot (i : Fin 4) : Memref sig .tc .vmem S256x2048 .f32 := (vM.slice (vRect i) (fun _ => rfl)).squeeze S256x2048 squeezes_S1x256x2048_S256x2048
/-- the slot device `s`'s maximum lands in. -/
abbrev aSlot (s : Fin 16) : Memref sig .tc .vmem S8x128 .f32 := (aM.slice (aRect s) (fun _ => rfl)).squeeze S8x128 squeezes_S1x8x128_S8x128

/-! What a transfer of a block of `x`, of a maximum, of rows of `w` credits: only that it is positive and the same for every slot matters. -/
theorem exists_NX : ∃ n : ℕ, ∀ s, (gSlot s).view.dmaCredit = n := ⟨(gSlot 0).view.dmaCredit, fun _ => rfl⟩
theorem exists_NA : ∃ n : ℕ, ∀ s, (aSlot s).view.dmaCredit = n := ⟨(aSlot 0).view.dmaCredit, fun _ => rfl⟩
theorem exists_NW : ∃ n : ℕ, ∀ i, (vSlot i).view.dmaCredit = n := ⟨(vSlot 0).view.dmaCredit, fun _ => rfl⟩
def NX : ℕ := Classical.choose exists_NX
def NA : ℕ := Classical.choose exists_NA
def NW : ℕ := Classical.choose exists_NW
theorem credit_g (s : Fin 16) : (gSlot s).view.dmaCredit = NX := Classical.choose_spec exists_NX s
theorem credit_a (s : Fin 16) : (aSlot s).view.dmaCredit = NA := Classical.choose_spec exists_NA s
theorem credit_v (i : Fin 4) : (vSlot i).view.dmaCredit = NW := Classical.choose_spec exists_NW i
theorem credit_b (d : Fin 16) : (bRow d).view.dmaCredit = NX := by rw [← credit_g 0]
theorem NX_pos : 0 < NX := by rw [← credit_g 0]; exact View.dmaCredit_pos _ (by decide)
theorem NA_pos : 0 < NA := by rw [← credit_a 0]; exact View.dmaCredit_pos _ (by decide)
theorem NW_pos : 0 < NW := by rw [← credit_v 0]; exact View.dmaCredit_pos _ (by decide)

/-! ## The slots partition their buffers -/

theorem set_bRow (d : Fin 16) : (bRow d).view.set = (bRect d).set := by
  show (bM.view.slice (bRect d)).set = _; rw [View.set_slice]; exact Finset.map_refl
theorem set_wRow (d : Fin 16) : (wRow d).view.set = (wRect d).set := by
  show (wM.view.slice (wRect d)).set = _; rw [View.set_slice]; exact Finset.map_refl
theorem set_gSlot (s : Fin 16) : (gSlot s).view.set = (gRect s).set := by
  show ((gM.view.slice (gRect s)).reshape _ _).set = _; rw [View.set_reshape, View.set_slice]; exact Finset.map_refl
theorem set_vSlot (s : Fin 4) : (vSlot s).view.set = (vRect s).set := by
  show ((vM.view.slice (vRect s)).reshape _ _).set = _; rw [View.set_reshape, View.set_slice]; exact Finset.map_refl
theorem set_aSlot (s : Fin 16) : (aSlot s).view.set = (aRect s).set := by
  show ((aM.view.slice (aRect s)).reshape _ _).set = _; rw [View.set_reshape, View.set_slice]; exact Finset.map_refl

theorem bRect_disjoint (d d' : Fin 16) (h : d ≠ d') : Disjoint (bRect d).set (bRect d').set :=
  Ring.lead_disjoint (s := S4096x256) 0 256 (fun d : Fin 16 => ![256 * d.val, 0]) S256x256.size bInb (fun _ => rfl) rfl d d' h
theorem bRect_cover : Finset.univ.biUnion (fun d => (bRect d).set) = Finset.univ :=
  Ring.lead_cover (s := S4096x256) 0 256 (fun d : Fin 16 => ![256 * d.val, 0]) S256x256.size bInb (fun _ => rfl) (by decide) rfl (by decide) rfl
theorem wRect_disjoint (d d' : Fin 16) (h : d ≠ d') : Disjoint (wRect d).set (wRect d').set :=
  Ring.lead_disjoint (s := S4096x2048) 0 256 (fun d : Fin 16 => ![256 * d.val, 0]) S256x2048.size wRInb (fun _ => rfl) rfl d d' h
theorem wRect_cover : Finset.univ.biUnion (fun d => (wRect d).set) = Finset.univ :=
  Ring.lead_cover (s := S4096x2048) 0 256 (fun d : Fin 16 => ![256 * d.val, 0]) S256x2048.size wRInb (fun _ => rfl) (by decide) rfl (by decide) rfl
theorem gRect_disjoint (d d' : Fin 16) (h : d ≠ d') : Disjoint (gRect d).set (gRect d').set :=
  Ring.lead_disjoint (s := S16x256x256) 0 1 (fun d : Fin 16 => ![d.val, 0, 0]) S1x256x256.size gInb (fun _ => (Nat.one_mul _).symm) rfl d d' h
theorem gRect_cover : Finset.univ.biUnion (fun d => (gRect d).set) = Finset.univ :=
  Ring.lead_cover (s := S16x256x256) 0 1 (fun d : Fin 16 => ![d.val, 0, 0]) S1x256x256.size gInb (fun _ => (Nat.one_mul _).symm) (by decide) rfl (by decide) rfl
theorem vRect_disjoint (d d' : Fin 4) (h : d ≠ d') : Disjoint (vRect d).set (vRect d').set :=
  Ring.lead_disjoint (s := S4x256x2048) 0 1 (fun d : Fin 4 => ![d.val, 0, 0]) S1x256x2048.size vInb (fun _ => (Nat.one_mul _).symm) rfl d d' h
theorem vRect_cover : Finset.univ.biUnion (fun d => (vRect d).set) = Finset.univ :=
  Ring.lead_cover (s := S4x256x2048) 0 1 (fun d : Fin 4 => ![d.val, 0, 0]) S1x256x2048.size vInb (fun _ => (Nat.one_mul _).symm) (by decide) rfl (by decide) rfl
theorem aRect_disjoint (d d' : Fin 16) (h : d ≠ d') : Disjoint (aRect d).set (aRect d').set :=
  Ring.lead_disjoint (s := S16x8x128) 0 1 (fun d : Fin 16 => ![d.val, 0, 0]) S1x8x128.size aInb (fun _ => (Nat.one_mul _).symm) rfl d d' h
theorem aRect_cover : Finset.univ.biUnion (fun d => (aRect d).set) = Finset.univ :=
  Ring.lead_cover (s := S16x8x128) 0 1 (fun d : Fin 16 => ![d.val, 0, 0]) S1x8x128.size aInb (fun _ => (Nat.one_mul _).symm) (by decide) rfl (by decide) rfl

/-! ## Contents -/

variable (m : (ℓ : Loc nD τ sig) → Buf (Elt F) ℓ)

/-- Device `c`'s part of `x`, as its staging buffer holds it; -/
def xstg (c : Dev nD) : Vec F S4096x256 .f32 :=
  (win0_0.blk (0 : Fin 1)).view.read (Elt F) (m ((c : Thread nD τ).loc main_arg0))
/-- its copy of `w`. -/
def W (c : Dev nD) : Vec F S4096x2048 .f32 := m ((c : Thread nD τ).loc main_arg1)
/-- The cast `x` on device `c`. -/
def XB (c : Dev nD) : Vec F S4096x256 .bf16 := k0_pay1 (xstg m c)

/-- The rows of device `s`'s cast `x` meant for device `c`, in the slot they land in: -/
def XG (c : Dev nD) : Vec F S16x256x256 .bf16 := fun i =>
  XB m (i 0) (ix2 (n0 := 4096) (n1 := 256) ⟨256 * c.val + (i 1).val, by have h1 : c.val < 16 := c.isLt; have h2 : (i 1).val < 256 := (i 1).isLt; omega⟩ (i 2))
/-- the `k`-th rows of `w` device `c` fetches, in whatever slot: -/
def WV (c : Dev nD) (k : ℕ) : Vec F S4x256x2048 .f32 := fun i =>
  W m c (ix2 (n0 := 4096) (n1 := 2048) ⟨256 * (src c k).val + (i 1).val, by have h1 : (src c k).val < 16 := (src c k).isLt; have h2 : (i 1).val < 256 := (i 1).isLt; omega⟩ (i 2))

/-- What the `k`-th load of rows of `w` reads; -/
def ldW (c : Dev nD) (k : ℕ) : Vec F S1x256x2048 .f32 := fun i =>
  W m c (ix2 (n0 := 4096) (n1 := 2048) ⟨256 * (src c k).val + (i 1).val, by have h1 : (src c k).val < 16 := (src c k).isLt; have h2 : (i 1).val < 256 := (i 1).isLt; omega⟩ (i 2))
/-- what the `k`-th load of a block of `x` reads. -/
def ldX (c : Dev nD) (k : ℕ) : Vec F S1x256x256 .bf16 := fun i =>
  XB m (src c k) (ix2 (n0 := 4096) (n1 := 256) ⟨256 * c.val + (i 1).val, by have h1 : c.val < 16 := c.isLt; have h2 : (i 1).val < 256 := (i 1).isLt; omega⟩ (i 2))

/-! The accumulator, as the kernel's parts leave it. -/
def acc0 (c : Dev nD) : FVec F S256x2048 .f32 := k0_pay2 (ldW m c 0)
def acc1a (c : Dev nD) : FVec F S256x2048 .f32 := k0_pay3 (acc0 m c) (ldX m c 0)
def acc1b (c : Dev nD) : FVec F S256x2048 .f32 := k0_pay4 (ldW m c 1) (ldX m c 1)
def acc2 (c : Dev nD) : FVec F S256x2048 .f32 := k0_pay5 (acc1a m c) (acc1b m c) (ldW m c 2) (ldX m c 2)
def acc3 (c : Dev nD) : FVec F S256x2048 .f32 := k0_pay6 (acc2 m c) (ldW m c 3) (ldX m c 3)
def acc4 (c : Dev nD) : FVec F S256x2048 .f32 := k0_pay7 (acc3 m c) (ldW m c 4) (ldX m c 4)
def acc5 (c : Dev nD) : FVec F S256x2048 .f32 := k0_pay8 (acc4 m c) (ldW m c 5) (ldX m c 5)
def acc6 (c : Dev nD) : FVec F S256x2048 .f32 := k0_pay9 (acc5 m c) (ldW m c 6) (ldX m c 6)
def acc7 (c : Dev nD) : FVec F S256x2048 .f32 := k0_pay10 (acc6 m c) (ldW m c 7) (ldX m c 7)
def acc8 (c : Dev nD) : FVec F S256x2048 .f32 := k0_pay11 (acc7 m c) (ldW m c 8) (ldX m c 8)
def acc9 (c : Dev nD) : FVec F S256x2048 .bf16 := k0_pay12 (ldW m c 9)
def acc10 (c : Dev nD) : FVec F S256x2048 .f32 := k0_pay13 (acc8 m c) (acc9 m c) (ldX m c 9) (ldW m c 10) (ldX m c 10)
def acc11 (c : Dev nD) : FVec F S256x2048 .f32 := k0_pay14 (acc10 m c) (ldW m c 11) (ldX m c 11)
def acc12 (c : Dev nD) : FVec F S256x2048 .f32 := k0_pay15 (acc11 m c) (ldW m c 12) (ldX m c 12)
def acc13 (c : Dev nD) : FVec F S256x2048 .f32 := k0_pay16 (acc12 m c) (ldW m c 13) (ldX m c 13)
def acc14 (c : Dev nD) : FVec F S256x2048 .bf16 := k0_pay17 (ldW m c 14)
/-- Device `c`'s rows of `x @ w`, -/
def RL (c : Dev nD) : FVec F S256x2048 .f32 := k0_pay18 (acc13 m c) (acc14 m c) (ldX m c 14) (ldW m c 15) (ldX m c 15)
/-- and their maximum with zero, spread over a tile. -/
def MX (c : Dev nD) : FVec F S1x8x128 .f32 := k0_pay19 (acc13 m c) (acc14 m c) (ldX m c 14) (ldW m c 15) (ldX m c 15)
/-- The maxima of all devices, each in its slot. -/
def AM : Vec F S16x8x128 .f32 := fun i => MX m (i 0) (ix3 (n0 := 1) (n1 := 8) (n2 := 128) 0 (i 1) (i 2))
/-- Device `c`'s result. -/
def OUT (c : Dev nD) : FVec F S256x2048 .f32 := k0_pay20 (RL m c) (AM m)

/-! ## Where a slot's elements lie -/

theorem idx_ext2 {n0 n1 : ℕ} {i j : (⟨2, ![n0, n1]⟩ : Shape).Idx} (h0 : (i 0).val = (j 0).val) (h1 : (i 1).val = (j 1).val) : i = j := by
  funext a; match a with | ⟨0, _⟩ => exact Fin.ext h0 | ⟨1, _⟩ => exact Fin.ext h1
theorem idx_ext3 {n0 n1 n2 : ℕ} {i j : (⟨3, ![n0, n1, n2]⟩ : Shape).Idx} (h0 : (i 0).val = (j 0).val) (h1 : (i 1).val = (j 1).val)
    (h2 : (i 2).val = (j 2).val) : i = j := by
  funext a; match a with | ⟨0, _⟩ => exact Fin.ext h0 | ⟨1, _⟩ => exact Fin.ext h1 | ⟨2, _⟩ => exact Fin.ext h2

theorem emb_bRow (d : Fin 16) (p : Fin 256) (q : Fin 256) :
    (bRow d).view.emb (ix2 p q) = ix2 (n0 := 4096) (n1 := 256) ⟨256 * d.val + p.val, by omega⟩ q := by
  refine idx_ext2 ?_ ?_
  · show 256 * d.val + 1 * p.val = _; rw [Nat.one_mul]
  · show 0 + 1 * q.val = q.val; rw [Nat.one_mul, Nat.zero_add]
theorem emb_wRow (d : Fin 16) (p : Fin 256) (q : Fin 2048) :
    (wRow d).view.emb (ix2 p q) = ix2 (n0 := 4096) (n1 := 2048) ⟨256 * d.val + p.val, by omega⟩ q := by
  refine idx_ext2 ?_ ?_
  · show 256 * d.val + 1 * p.val = _; rw [Nat.one_mul]
  · show 0 + 1 * q.val = q.val; rw [Nat.one_mul, Nat.zero_add]
theorem emb_gSlot (s : Fin 16) (p : Fin 256) (q : Fin 256) : (gSlot s).view.emb (ix2 p q) = ix3 (n0 := 16) (n1 := 256) (n2 := 256) s p q := by
  show (gRect s).emb (Shape.reshapeEquiv _ (ix2 p q)) = _
  rw [reshapeEquiv_ix2_1ab]
  refine idx_ext3 ?_ ?_ ?_
  · show s.val + 1 * 0 = _; rfl
  · show 0 + 1 * p.val = p.val; rw [Nat.one_mul, Nat.zero_add]
  · show 0 + 1 * q.val = q.val; rw [Nat.one_mul, Nat.zero_add]
theorem emb_vSlot (i : Fin 4) (p : Fin 256) (q : Fin 2048) : (vSlot i).view.emb (ix2 p q) = ix3 (n0 := 4) (n1 := 256) (n2 := 2048) i p q := by
  show (vRect i).emb (Shape.reshapeEquiv _ (ix2 p q)) = _
  rw [reshapeEquiv_ix2_1ab]
  refine idx_ext3 ?_ ?_ ?_
  · show i.val + 1 * 0 = _; rfl
  · show 0 + 1 * p.val = p.val; rw [Nat.one_mul, Nat.zero_add]
  · show 0 + 1 * q.val = q.val; rw [Nat.one_mul, Nat.zero_add]
theorem emb_aSlot (s : Fin 16) (p : Fin 8) (q : Fin 128) : (aSlot s).view.emb (ix2 p q) = ix3 (n0 := 16) (n1 := 8) (n2 := 128) s p q := by
  show (aRect s).emb (Shape.reshapeEquiv _ (ix2 p q)) = _
  rw [reshapeEquiv_ix2_1ab]
  refine idx_ext3 ?_ ?_ ?_
  · show s.val + 1 * 0 = _; rfl
  · show 0 + 1 * p.val = p.val; rw [Nat.one_mul, Nat.zero_add]
  · show 0 + 1 * q.val = q.val; rw [Nat.one_mul, Nat.zero_add]

/-! ## What a transfer lands, what a load reads -/

/-- A write through a view leaves, on its elements, what the payload says there. -/
theorem write_on_set {κ : Kind} {sp : Space} {s : Shape} {e : EltTy} (v : View sig κ sp s e) (f g : v.ty.Contents (Elt F)) (w : s.Idx → Elt F e)
    (h : ∀ x, _root_.cast (congrArg (Elt F) v.elt_eq.symm) (w x) = g (v.emb x)) :
    ∀ i ∈ v.set, v.write (Elt F) f w Finset.univ i = g i := by
  intro i hi
  obtain ⟨x, -, rfl⟩ := Finset.mem_map.mp hi
  rw [View.write_emb_of_mem _ _ (Finset.mem_univ x), h]

theorem lands_x (c s : Dev nD) (f : Vec F S16x256x256 .bf16) :
    ∀ i ∈ (gSlot s).view.set, (gSlot s).view.write (Elt F) f ((bRow c).view.read (Elt F) (XB m s)) Finset.univ i = XG m c i :=
  write_on_set (gSlot s).view f (XG m c) _ (fun x => by
    obtain ⟨p, q, rfl⟩ : ∃ p q, x = ix2 (n0 := 256) (n1 := 256) p q := ⟨_, _, eq_ix2 x⟩
    show XB m s ((bRow c).view.emb (ix2 p q)) = XG m c ((gSlot s).view.emb (ix2 p q))
    rw [emb_bRow, emb_gSlot]; rfl)

theorem lands_w (c : Dev nD) (k : ℕ) (i : Fin 4) (f : Vec F S4x256x2048 .f32) :
    ∀ j ∈ (vSlot i).view.set, (vSlot i).view.write (Elt F) f ((wRow (src c k)).view.read (Elt F) (W m c)) Finset.univ j = WV m c k j :=
  write_on_set (vSlot i).view f (WV m c k) _ (fun x => by
    obtain ⟨p, q, rfl⟩ : ∃ p q, x = ix2 (n0 := 256) (n1 := 2048) p q := ⟨_, _, eq_ix2 x⟩
    show W m c ((wRow (src c k)).view.emb (ix2 p q)) = WV m c k ((vSlot i).view.emb (ix2 p q))
    rw [emb_wRow, emb_vSlot]; rfl)

theorem lands_a (s : Dev nD) (f : Vec F S16x8x128 .f32) :
    ∀ i ∈ (aSlot s).view.set, (aSlot s).view.write (Elt F) f ((aSlot s).view.read (Elt F) (AM m)) Finset.univ i = AM m i :=
  write_on_set (aSlot s).view f (AM m) _ (fun x => rfl)

theorem stores_a (s : Dev nD) (f : Vec F S16x8x128 .f32) :
    ∀ i ∈ (aM.access (aRect s)).set, (aM.access (aRect s)).write (Elt F) f (MX m s) Finset.univ i = AM m i :=
  write_on_set (aM.access (aRect s)) f (AM m) _ (fun x => by
    have hx : x = ix3 (n0 := 1) (n1 := 8) (n2 := 128) 0 (x 1) (x 2) := by
      have h := eq_ix3 (n0 := 1) (n1 := 8) (n2 := 128) x
      rw [show x 0 = (0 : Fin 1) from Subsingleton.elim (α := Fin 1) _ _] at h; exact h
    show MX m s x = AM m ((aRect s).emb x)
    have he : (aRect s).emb x = ix3 (n0 := 16) (n1 := 8) (n2 := 128) s (x 1) (x 2) := by
      have h0 : (x 0).val = 0 := Nat.lt_one_iff.mp (x 0).isLt
      refine idx_ext3 ?_ ?_ ?_
      · show s.val + 1 * (x 0).val = s.val; rw [h0, Nat.mul_zero, Nat.add_zero]
      · show 0 + 1 * (x 1).val = (x 1).val; rw [Nat.one_mul, Nat.zero_add]
      · show 0 + 1 * (x 2).val = (x 2).val; rw [Nat.one_mul, Nat.zero_add]
    rw [he, hx]; rfl)

theorem reads_w (c : Dev nD) (k : ℕ) (i : Fin 4) : vM.view.readAt (Elt F) (vRect i).toLoadRect (WV m c k) = ldW m c k := by
  funext x
  show WV m c k ((vRect i).emb x) = ldW m c k x
  have h1 : ((vRect i).emb x 1).val = (x 1).val := by show 0 + 1 * (x 1).val = _; rw [Nat.one_mul, Nat.zero_add]
  have h2 : ((vRect i).emb x 2).val = (x 2).val := by show 0 + 1 * (x 2).val = _; rw [Nat.one_mul, Nat.zero_add]
  exact congrArg (W m c) (idx_ext2 (congrArg (256 * (src c k).val + ·) h1) h2)

theorem reads_x (c : Dev nD) (k : ℕ) : gM.view.readAt (Elt F) (gRect (src c k)).toLoadRect (XG m c) = ldX m c k := by
  funext x
  show XG m c ((gRect (src c k)).emb x) = ldX m c k x
  have h0 : (gRect (src c k)).emb x 0 = src c k := Fin.ext (by
    show (src c k).val + 1 * (x 0).val = (src c k).val; rw [Nat.lt_one_iff.mp (x 0).isLt, Nat.mul_zero, Nat.add_zero])
  have h1 : ((gRect (src c k)).emb x 1).val = (x 1).val := by show 0 + 1 * (x 1).val = _; rw [Nat.one_mul, Nat.zero_add]
  have h2 : ((gRect (src c k)).emb x 2).val = (x 2).val := by show 0 + 1 * (x 2).val = _; rw [Nat.one_mul, Nat.zero_add]
  unfold XG ldX
  rw [h0]
  exact congrArg (XB m (src c k)) (idx_ext2 (congrArg (256 * c.val + ·) h1) h2)

end Cert.MeshRun
-- ==== Proof.Schedule.lean ====
/-
# The schedule of the semaphores

Which payments every semaphore cell expects, what each payment hands over, what a device owes when it starts, and in which
order the waits lie.
-/
module

public import proofs.«01_k».proof.Proof.Contents
public import Idealize.ShloMosaic.Lib.Pipeline.Launch
public import Idealize.ShloMosaic.Lib.Pipeline.Kit
public import Idealize.ShloMosaic.Lib.Tactic

@[expose] public section

set_option maxRecDepth 8000

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The pieces of memory the payments move -/

/-- Device `c`'s rows of the cast `x` for `d`; -/
def bP (c d : Dev nD) : sProp 𝕄 := (bRow d).view.loc (c : Thread nD τ) ↦[(bRow d).view.set]{fullShare} XB m c
/-- the slot of `s`'s block, landed, -/
def gP (c s : Dev nD) : sProp 𝕄 := (gSlot s).view.loc (c : Thread nD τ) ↦[(gSlot s).view.set]{fullShare} XG m c
/-- and holding anything; -/
def gAny (c s : Dev nD) : sProp 𝕄 := iprop(∃ f, (gSlot s).view.loc (c : Thread nD τ) ↦[(gSlot s).view.set]{fullShare} f)
/-- a slot holding the `k`-th rows of `w`, -/
def vP (c : Dev nD) (i : Fin 4) (k : ℕ) : sProp 𝕄 := (vSlot i).view.loc (c : Thread nD τ) ↦[(vSlot i).view.set]{fullShare} WV m c k
/-- and holding anything; -/
def vAny (c : Dev nD) (i : Fin 4) : sProp 𝕄 := iprop(∃ f, (vSlot i).view.loc (c : Thread nD τ) ↦[(vSlot i).view.set]{fullShare} f)
/-- the rows of `w` for `d`'s columns; -/
def wP (c d : Dev nD) : sProp 𝕄 := (wRow d).view.loc (c : Thread nD τ) ↦[(wRow d).view.set]{fullShare} W m c
/-- a share of the slot of `s`'s maximum, filled, -/
def aP (c s : Dev nD) (q : PosShare TreeShare) : sProp 𝕄 := (aSlot s).view.loc (c : Thread nD τ) ↦[(aSlot s).view.set]{q} AM m
/-- and the slot holding anything. -/
def aAny (c s : Dev nD) : sProp 𝕄 := iprop(∃ f, (aSlot s).view.loc (c : Thread nD τ) ↦[(aSlot s).view.set]{fullShare} f)

/-! ## The schedule -/

/-- The payers of a cell's round: every other device for the barrier, one payment (named `0`) for the rest. -/
def kdDuties (c : Dev nD) (r : ℕ) : Kd → Finset (Dev nD)
  | .bar => if r = 0 then Finset.univ.erase c else ∅
  | .send i => if r = 0 ∧ i ≠ c then {0} else ∅
  | .recv i => if r = 0 ∧ i ≠ c then {0} else ∅
  | .asend i => if r = 0 ∧ i ≠ c then {0} else ∅
  | .arecv i => if r = 0 ∧ i ≠ c then {0} else ∅
  | .wsem i => if r < 4 then {0} else ∅
  | .loc => if r = 0 then {0} else ∅

def kdAmount : Kd → ℕ
  | .bar => 1
  | .send _ => NX
  | .recv _ => NX
  | .asend _ => NA
  | .arecv _ => NA
  | .wsem _ => NW
  | .loc => NX

theorem kdAmount_send (i) : kdAmount (.send i) = NX := rfl
theorem kdAmount_recv (i) : kdAmount (.recv i) = NX := rfl
theorem kdAmount_asend (i) : kdAmount (.asend i) = NA := rfl
theorem kdAmount_arecv (i) : kdAmount (.arecv i) = NA := rfl
theorem kdAmount_wsem (i) : kdAmount (.wsem i) = NW := rfl
theorem kdAmount_loc : kdAmount .loc = NX := rfl
theorem kdAmount_bar : kdAmount .bar = 1 := rfl

theorem kdAmount_pos (k : Kd) : 0 < kdAmount k := by
  cases k with
  | bar => rw [kdAmount_bar]; exact Nat.one_pos
  | send i => rw [kdAmount_send]; exact NX_pos
  | recv i => rw [kdAmount_recv]; exact NX_pos
  | asend i => rw [kdAmount_asend]; exact NA_pos
  | arecv i => rw [kdAmount_arecv]; exact NA_pos
  | wsem i => rw [kdAmount_wsem]; exact NW_pos
  | loc => rw [kdAmount_loc]; exact NX_pos

/-- What a payment hands the cell's device `c`. -/
def kdPay (c : Dev nD) (r : ℕ) (d : Dev nD) : Kd → sProp 𝕄
  | .bar => iprop(gAny d c ∗ aAny d c)
  | .send i => bP m c i
  | .recv i => gP m c i
  | .asend i => aP m c c (shareTokN fullShare (Fin.val (n := 16) i))
  | .arecv i => aP m c i fullShare
  | .wsem i => iprop(vP m c i (4 * r + i.val) ∗ wP m c (src c (4 * r + i.val)))
  | .loc => iprop(gP m c c ∗ bP m c c)

instance gAny_storable (c d : Dev nD) : BI.Storable (upEmb : UEmb _ 𝕄) (gAny (F := F) c d) := by unfold gAny; infer_instance
instance aAny_storable (c d : Dev nD) : BI.Storable (upEmb : UEmb _ 𝕄) (aAny (F := F) c d) := by unfold aAny; infer_instance

instance kdPay_storable (c : Dev nD) (r : ℕ) (d : Dev nD) (k : Kd) : BI.Storable (upEmb : UEmb _ 𝕄) (kdPay m c r d k) := by
  cases k <;> dsimp only [kdPay] <;> (try unfold bP) <;> (try unfold gP) <;> (try unfold aP) <;> (try unfold vP wP) <;> infer_instance

def sched : Rounds.Schedule (GSem nD τ sig) (Dev nD) 𝕄 where
  duties g r := match decode g.2 with
    | some k => if g.1.2 = .tc then kdDuties g.1.1 r k else ∅
    | none => ∅
  unitless _ := False
  amount g _ _ := match decode g.2 with
    | some k => kdAmount k
    | none => 1
  payload g r d := match decode g.2 with
    | some k => kdPay m g.1.1 r d k
    | none => iprop(emp)
  amount_pos g _ _ _ := by
    cases decode g.2 with
    | none => exact Nat.one_pos
    | some k => exact kdAmount_pos k

instance sched_payload_storable (g : GSem nD τ sig) (r : ℕ) (d : Dev nD) :
    BI.Storable (upEmb : UEmb _ 𝕄) ((sched m).payload g r d) := by
  dsimp only [sched]
  cases decode g.2 with
  | none => dsimp only; infer_instance
  | some k => dsimp only; infer_instance

section Sched
variable (c : Dev nD) (k : Kd) (r : ℕ)

omit [FloatOps F] in
theorem decode_cell : decode (cell c k).2 = some k := decode_sem k

theorem duties_cell : (sched m).duties (cell c k) r = kdDuties c r k := by
  dsimp only [sched]; rw [decode_sem]; exact if_pos rfl
theorem amount_cell (d : Dev nD) : (sched m).amount (cell c k) r d = kdAmount k := by
  dsimp only [sched]; rw [decode_sem]
theorem payload_cell (d : Dev nD) : (sched m).payload (cell c k) r d = kdPay m c r d k := by
  dsimp only [sched]; rw [decode_sem]

theorem expect_cell {k : Kd} {r : ℕ} (h : kdDuties c r k = {0}) : (sched m).expect (cell c k) r = kdAmount k := by
  unfold Schedule.expect Schedule.amountOf; rw [duties_cell, h, Finset.sum_singleton, amount_cell]
theorem rest_cell {k : Kd} {r : ℕ} (h : kdDuties c r k = {0}) :
    bigSep ((sched m).duties (cell c k) r \ ∅) (fun d => (sched m).payload (cell c k) r d) = kdPay m c r 0 k := by
  rw [Finset.sdiff_empty, duties_cell, h, bigSep_singleton, payload_cell]

theorem expect_bar : (sched m).expect (cell c .bar) 0 = 15 := by
  unfold Schedule.expect Schedule.amountOf
  rw [duties_cell, Finset.sum_congr rfl fun d _ => amount_cell m c .bar 0 d]
  show ∑ d ∈ (if 0 = 0 then Finset.univ.erase c else ∅), 1 = 15
  rw [if_pos rfl, Finset.sum_const, Finset.card_erase_of_mem (Finset.mem_univ _), Finset.card_univ, Fintype.card_fin]; rfl
theorem rest_bar :
    bigSep ((sched m).duties (cell c .bar) 0 \ ∅) (fun d => (sched m).payload (cell c .bar) 0 d)
      = bigSep (Finset.Ico 1 16) (fun k => iprop(gAny (F := F) (peer c k) c ∗ aAny (F := F) (peer c k) c)) := by
  rw [Finset.sdiff_empty, duties_cell, show kdDuties c 0 .bar = Finset.univ.erase c from by dsimp only [kdDuties]; rw [if_pos rfl],
    ← bigSep_others_peer c (fun d => iprop(gAny (F := F) d c ∗ aAny (F := F) d c))]
  exact bigSep_congr fun d _ => payload_cell m c .bar 0 d

end Sched

/-- No cell but a `w` slot's has a payment after round 0, and a `w` slot's none after round 3. -/
theorem duties_after (c : Dev nD) (k : Kd) (R : ℕ) (h : 1 ≤ R) (h4 : 4 ≤ R ∨ ∀ i, k ≠ .wsem i) : ∀ r, R ≤ r → (sched m).duties (cell c k) r = ∅ := by
  intro r hr
  rw [duties_cell]
  have h0 : ¬ r = 0 := by omega
  cases k with
  | wsem i => exact if_neg (by rcases h4 with h4 | h4; · omega
                               · exact absurd rfl (h4 i))
  | _ => first | exact if_neg h0 | exact if_neg (fun h => h0 h.1)
/-- A cell of a transfer a device would send itself has no payment at all. -/
theorem duties_self (c : Dev nD) (k : Kd) (h : k = .send c ∨ k = .recv c ∨ k = .asend c ∨ k = .arecv c) : ∀ r, 0 ≤ r → (sched m).duties (cell c k) r = ∅ := by
  intro r _
  rw [duties_cell]
  rcases h with rfl | rfl | rfl | rfl <;> exact if_neg (fun h => h.2 rfl)

/-! ## What a device owes; the levels -/

/-- The barrier signals, block transfers and maxima a device still owes when it has done those up to distance `n - 1`. -/
def OB (c : Dev nD) (n : ℕ) : CellTallies nD τ sig Unit := ∑ k ∈ Finset.Ico n 16, tallyAt (cell (peer c k) .bar) () 1
def OX (c : Dev nD) (n : ℕ) : CellTallies nD τ sig Unit := ∑ k ∈ Finset.Ico n 16, tallyAt (cell (peer c k) (.recv c)) () NX
def OA (c : Dev nD) (n : ℕ) : CellTallies nD τ sig Unit := ∑ k ∈ Finset.Ico n 16, tallyAt (cell (peer c k) (.arecv c)) () NA
def O₀ (c : Dev nD) : CellTallies nD τ sig Unit := OA c 1 + OX c 1 + OB c 1

theorem OB_step (c : Dev nD) {n : ℕ} (h : n < 16) : OB c n = OB c (n + 1) + tallyAt (cell (peer c n) .bar) () 1 := by
  unfold OB; rw [Ring.sum_Ico_succ h, add_comm]
theorem OX_step (c : Dev nD) {n : ℕ} (h : n < 16) : OX c n = OX c (n + 1) + tallyAt (cell (peer c n) (.recv c)) () NX := by
  unfold OX; rw [Ring.sum_Ico_succ h, add_comm]
theorem OA_step (c : Dev nD) {n : ℕ} (h : n < 16) : OA c n = OA c (n + 1) + tallyAt (cell (peer c n) (.arecv c)) () NA := by
  unfold OA; rw [Ring.sum_Ico_succ h, add_comm]
theorem OB_end (c : Dev nD) : OB c 16 = 0 := by unfold OB; rw [Finset.Ico_self, Finset.sum_empty]
theorem OX_end (c : Dev nD) : OX c 16 = 0 := by unfold OX; rw [Finset.Ico_self, Finset.sum_empty]
theorem OA_end (c : Dev nD) : OA c 16 = 0 := by unfold OA; rw [Finset.Ico_self, Finset.sum_empty]

theorem tally_sum_pos {s : Finset ℕ} {A : ℕ → GSem nD τ sig} {n : ℕ} {g : GSem nD τ sig} {u : Unit}
    (h : 0 < (∑ k ∈ s, tallyAt (A k) () n : CellTallies nD τ sig Unit) g u) : ∃ k ∈ s, g = A k := by
  by_contra hn
  rw [Finset.sum_apply, Finsupp.finset_sum_apply] at h
  refine absurd h (by
    rw [Finset.sum_eq_zero]; · exact Nat.lt_irrefl 0
    intro k hk
    rw [tallyAt_apply, if_neg (fun h' => hn ⟨k, hk, h'.1⟩)])

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def kdLev : Kd → ℕ
  | .bar => 1
  | .recv _ => 2
  | .arecv _ => 3
  | _ => 0
/-- The barrier first, then the blocks, then the maxima; whatever a device's own transfers complete lies below all. -/
def lv (g : GSem nD τ sig) (_ : Unit) : ℕ := match decode g.2 with
  | some k => kdLev k
  | none => 0
theorem lv_cell (c : Dev nD) (k : Kd) (u : Unit) : lv (cell c k) u = kdLev k := by unfold lv; rw [decode_sem]

/-- Every cell `O` owes lies above level `n`. -/
def Above (n : ℕ) (O : CellTallies nD τ sig Unit) : Prop := ∀ g u, 0 < O g u → ∃ c k, g = cell c k ∧ n < kdLev k

theorem Above.add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_OB (c : Dev nD) (n : ℕ) : Above 0 (OB c n) := fun g u h => by
  obtain ⟨k, -, rfl⟩ := tally_sum_pos h; exact ⟨_, _, rfl, by decide⟩
theorem above_OX (c : Dev nD) (n : ℕ) {l : ℕ} (hl : l < 2) : Above l (OX c n) := fun g u h => by
  obtain ⟨k, -, rfl⟩ := tally_sum_pos h; exact ⟨_, _, rfl, hl⟩
theorem above_OA (c : Dev nD) (n : ℕ) {l : ℕ} (hl : l < 3) : Above l (OA c n) := fun g u h => by
  obtain ⟨k, -, rfl⟩ := tally_sum_pos h; exact ⟨_, _, rfl, hl⟩
theorem above_zero (l : ℕ) : Above l 0 := fun g u h => absurd h (Nat.lt_irrefl 0)

/-- The level facts. -/
def Levs : sProp 𝕄 := levAts L lv

instance Levs_persistent : BI.Persistent (Levs (F := F)) := by unfold Levs; infer_instance

/-- A device may wait on a semaphore below everything it owes. -/
theorem mayWait_at (c : Dev nD) (sm : SemLoc sig) {n : ℕ} (hn : lv ((c : Thread nD τ), sm) () ≤ n) {O : CellTallies nD τ sig Unit} (hO : Above n O) :
    (Levs : sProp 𝕄) ⊢ MayWait (c : Thread nD τ) sm () O := by
  unfold Levs
  exact MayOwe.of_cut (L := L) (lev := lv) n (fun p hp => by rw [Finset.mem_singleton.mp hp, L_tc]; exact Finset.mem_singleton_self _)
    (fun g u hg => by obtain ⟨c', k, rfl, -⟩ := hO g u hg; exact Finset.mem_singleton_self _)
    (fun p hp => by rw [Finset.mem_singleton.mp hp]; exact hn)
    (fun g u hg => by obtain ⟨c', k, rfl, h⟩ := hO g u hg; rw [lv_cell]; exact h)

/-! ## What every device knows throughout -/

/-- All cells' invariants, that every cell has reached its first round, and the levels. -/
def Ctx (K : Dev nD × Kd → ℕ) : sProp 𝕄 :=
  iprop(bigSep Finset.univ (fun p : Dev nD × Kd => cellInv ER (sched m) (K p) (cell p.1 p.2))
    ∗ bigSep Finset.univ (fun p : Dev nD × Kd => reached ER (cell p.1 p.2) 0) ∗ (Levs : sProp 𝕄))

instance Ctx_persistent (K : Dev nD × Kd → ℕ) : BI.Persistent (Ctx m K) := by unfold Ctx; infer_instance

theorem Ctx_inv (K : Dev nD × Kd → ℕ) (c : Dev nD) (k : Kd) : Ctx m K ⊢ cellInv ER (sched m) (K (c, k)) (cell c k) := by
  unfold Ctx; iintro ⟨H, -, -⟩; iapply (show bigSep Finset.univ (fun p : Dev nD × Kd => cellInv ER (sched m) (K p) (cell p.1 p.2)) ⊢ cellInv ER (sched m) (K (c, k)) (cell c k) from
    BI.bigSep_elim (Φ := fun p : Dev nD × Kd => cellInv ER (sched m) (K p) (cell p.1 p.2)) (Finset.mem_univ (c, k))); iexact H
theorem Ctx_reached (K : Dev nD × Kd → ℕ) (c : Dev nD) (k : Kd) : Ctx m K ⊢ reached ER (cell c k) 0 := by
  unfold Ctx; iintro ⟨-, H, -⟩; iapply (show bigSep Finset.univ (fun p : Dev nD × Kd => (reached ER (cell p.1 p.2) 0 : sProp 𝕄)) ⊢ reached ER (cell c k) 0 from
    BI.bigSep_elim (Φ := fun p : Dev nD × Kd => (reached ER (cell p.1 p.2) 0 : sProp 𝕄)) (Finset.mem_univ (c, k))); iexact H
theorem Ctx_lev (K : Dev nD × Kd → ℕ) : Ctx m K ⊢ (Levs : sProp 𝕄) := by
  unfold Ctx; iintro ⟨-, -, H⟩; iexact H

theorem Ctx_mayWait (K : Dev nD × Kd → ℕ) (c : Dev nD) (k : Kd) {n : ℕ} (hn : kdLev k ≤ n) {O : CellTallies nD τ sig Unit} (hO : Above n O) :
    Ctx m K ⊢ MayWait (c : Thread nD τ) k.sem () O :=
  (Ctx_lev m K).trans (mayWait_at c k.sem (n := n) (by rw [show lv ((c : Thread nD τ), k.sem) () = kdLev k from lv_cell c k ()]; exact hn) hO)

/-- What device `c` owes, whatever it has waited for. -/
def Owe (c : Dev nD) (O : CellTallies nD τ sig Unit) : sProp 𝕄 := iprop(∃ W, owes (c : Thread nD τ) O W)

end Cert.MeshRun
-- ==== Proof.Steps.lean ====
/-
# One operation at a time

For every operation of the kernel the state it starts from and the state it leaves. A state counts how far the device has
come (`k`), and the operation moves the count on by one: what remains to be done holds what the operation takes, what is
done what it gives.
-/
module

public import proofs.«01_k».proof.Proof.Schedule
public import Idealize.SL.BI.BigOpNat

@[expose] public section

set_option maxRecDepth 8000

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (K : Dev nD × Kd → ℕ)

/-! ## Waiting for one payment -/

/-- The wait for a round's one payment hands over what was paid. -/
theorem step_wait (c : Dev nD) (k : Kd) (r : ℕ) (hd : kdDuties c r k = {0}) {sem : DmaSem sig} (hsem : SemLoc.dma sem = k.sem)
    {sp sp' : Space} {s s' : Shape} {e e' : EltTy} {src : Memref sig .tc sp s e} {dst : Memref sig .tc sp' s' e'}
    (hN : dst.view.dmaCredit = kdAmount k) {n : ℕ} (hlev : kdLev k ≤ n) {O : CellTallies nD τ sig Unit} (hO : Above n O)
    {h₁ : src.view.WordExact} {h₂ : dst.view.WordExact} {α : Type} {Q : α → sProp 𝕄} {cont : PUnit → Prog (TpuEff nD τ sig (Elt F) Λ₀ .tc) α} :
    iprop(Ctx m K ∗ cred (tallyAt (cell c k) () (kdAmount k)) ∗ Owe (F := F) c O ∗ atPos ER (cell c k) r ∅ 0)
      ⊢ iprop(((Owe (F := F) c O ∗ atPos ER (cell c k) (r + 1) ∅ 0 ∗ reached ER (cell c k) (r + 1) ∗ kdPay m c r 0 k)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 sem src dst h₁ h₂) cont) Q) := by
  have hw : ∀ K : PUnit → sProp 𝕄, wpE (defs₀ (F := F)) 𝒱₀ (c : Thread nD τ) none Set.univ (.waitDma2 sem src dst h₁ h₂) K
      = waitSpec (c : Thread nD τ) Set.univ k.sem (kdAmount k) K := fun K => by
    rw [wpE_waitDma2_eq, hsem, hN]
  have hx : 0 + kdAmount k = (sched m).expect ((c : Thread nD τ), k.sem) r := by rw [Nat.zero_add]; exact (expect_cell m c hd).symm
  iintro ⟨#Hctx, Hc, HO, Ha⟩ Hk
  unfold Owe
  icases HO with ⟨%W, HO⟩
  iapply (Rounds.wp_wait_rest_token 𝒱₀ ER (sched m) (c : Thread nD τ) none (κ := K (c, k)) (sm := k.sem) (k' := kdAmount k)
    hw (Set.mem_univ _) () (O := O) (W := W) (R := r) (m := 0) (T := ∅) hx) $$ [Hc HO Ha]
  · isplitr; · iapply (show Ctx m K ⊢ cellInv ER (sched m) (K (c, k)) ((c : Thread nD τ), k.sem) from Ctx_inv m K c k); iexact Hctx
    isplitl [Hc]; · iexact Hc
    isplitl [HO]; · iexact HO
    isplitr
    · iapply (Ctx_mayWait m K c k hlev hO); iexact Hctx
    iexact Ha
  iintro ⟨HO, Ha, Hr, Hp⟩
  ihave Hp := (Entails.of_eq (rest_cell m c hd)) $$ Hp
  iapply Hk
  isplitl [HO]; · iexists _; iexact HO
  isplitl [Ha]; · iexact Ha
  isplitl [Hr]; · iexact Hr
  iexact Hp

/-- A cell whose rounds are over gives its counter back at zero. -/
theorem step_close (c : Dev nD) (k : Kd) (R : ℕ) (h : 1 ≤ R) (h4 : 4 ≤ R ∨ ∀ i, k ≠ .wsem i) :
    iprop(Ctx m K ∗ atPos ER (cell c k) R ∅ 0) ⊢ iprop(|={Set.univ}=> (semVal (cell c k) 0 : sProp 𝕄)) := by
  iintro ⟨#Hctx, Ha⟩
  iapply (Rounds.cell_close ER (sched m) (κ := K (c, k)) (Set.mem_univ _) (fun h => h) (R := R) (duties_after m c k R h h4))
  isplitr; · iapply (Ctx_inv m K c k); iexact Hctx
  iexact Ha

/-! ## The barrier -/

/-- Signals `k` to 15 are still to be sent: what they hand over, and what the device owes on top of `O`. -/
def SigSt (c : Dev nD) (O : CellTallies nD τ sig Unit) (k : ℕ) : sProp 𝕄 :=
  iprop(Owe (F := F) c (O + OB c k)
    ∗ bigSep (Finset.Ico k 16) (fun k => iprop(dutyTok ER (cell (peer c k) .bar) 0 c ∗ gAny c (peer c k) ∗ aAny c (peer c k))))

theorem step_signal (c : Dev nD) (k : ℕ) (h1 : 1 ≤ k) (hk : k < 16) {O : CellTallies nD τ sig Unit} {dv : Dev nD} (hdv : dv = peer c k)
    {n : ℤ} (hn : n = ((1 : ℕ) : ℤ))
    {α : Type} {Q : α → sProp 𝕄} {cont : PUnit → Prog (TpuEff nD τ sig (Elt F) Λ₀ .tc) α} :
    iprop(Ctx m K ∗ SigSt (F := F) c O k)
      ⊢ iprop((SigSt (F := F) c O (k + 1) -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal (dv : Thread nD τ) barS n) cont) Q) := by
  subst hdv hn
  unfold SigSt Owe
  rw [bigSep_Ico_succ_bot hk]
  iintro ⟨#Hctx, ⟨%W, HO⟩, ⟨Ht, Hg, Ha⟩, Hrest⟩ Hk
  iapply (Rounds.wp_signal 𝒱₀ ER (sched m) (c : Thread nD τ) none (dst := (peer c k : Thread nD τ)) (κ := K (peer c k, .bar)) (r := 0)
      (d := c) (by rw [show ((peer c k : Thread nD τ), SemLoc.reg barS) = cell (peer c k) .bar from rfl, duties_cell]; exact Finset.mem_erase.mpr ⟨(peer_ne c h1 hk).symm, Finset.mem_univ _⟩)
      ((amount_cell m (peer c k) .bar 0 c).trans rfl) () (O₀ := O + OB c k) (O + OB c (k + 1)) (by rw [OB_step c hk, ← add_assoc]; rfl) (W := W)) $$ [HO Ht Hg Ha]
  · isplitr; · iapply (Ctx_inv m K (peer c k) .bar); iexact Hctx
    isplitl [HO]; · iexact HO
    isplitl [Ht]; · iexact Ht
    isplitl [Hg Ha]
    · rw [show (sched m).payload ((peer c k : Thread nD τ), SemLoc.reg barS) 0 c = kdPay m (peer c k) 0 c .bar from payload_cell m (peer c k) .bar 0 c]; dsimp only [kdPay]
      isplitl [Hg]; · iexact Hg
      iexact Ha
    iapply (Ctx_reached m K (peer c k) .bar); iexact Hctx
  iintro HO
  iapply Hk
  isplitl [HO]; · iexists W; iexact HO
  iexact Hrest

/-- The barrier's wait: every other device's two landing slots for this one come with it. -/
theorem step_barrier (c : Dev nD) {O : CellTallies nD τ sig Unit} (hO : Above 1 O) {n : ℤ} (hn : n = ((15 : ℕ) : ℤ))
    {α : Type} {Q : α → sProp 𝕄} {cont : PUnit → Prog (TpuEff nD τ sig (Elt F) Λ₀ .tc) α} :
    iprop(Ctx m K ∗ Owe (F := F) c O ∗ cred (tallyAt (cell c .bar) () 15) ∗ atPos ER (cell c .bar) 0 ∅ 0)
      ⊢ iprop(((Owe (F := F) c O ∗ semVal (cell c .bar) 0 ∗ bigSep (Finset.Ico 1 16) (fun k => iprop(gAny (F := F) (peer c k) c ∗ aAny (F := F) (peer c k) c)))
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS n) cont) Q) := by
  subst hn
  unfold Owe
  iintro ⟨#Hctx, ⟨%W, HO⟩, Hc, Ha⟩ Hk
  iapply (Rounds.wp_wait_rest_token 𝒱₀ ER (sched m) (c : Thread nD τ) none (κ := K (c, .bar)) (sm := Kd.bar.sem) (k' := 15)
    (wpE_semWait_eq 𝒱₀ (c : Thread nD τ) none Set.univ) (Set.mem_univ _) () (O := O) (W := W) (R := 0) (m := 0) (T := ∅)
    (by rw [Nat.zero_add]; exact (expect_bar m c).symm)) $$ [Hc HO Ha]
  · isplitr; · iapply (Ctx_inv m K c .bar); iexact Hctx
    isplitl [Hc]; · iexact Hc
    isplitl [HO]; · iexact HO
    isplitr
    · iapply (Ctx_mayWait m K c .bar (n := 1) (le_refl _) hO); iexact Hctx
    iexact Ha
  iintro ⟨HO, Ha, -, Hp⟩
  ihave Hp := (Entails.of_eq (rest_bar m c)) $$ Hp
  imod (step_close m K c .bar (0 + 1) (le_refl _) (.inr (fun i h => by cases h))) $$ [Ha] with Hz
  · isplitr; · iexact Hctx
    iexact Ha
  iapply Hk
  isplitl [HO]; · iexists _; iexact HO
  isplitl [Hz]; · iexact Hz
  iexact Hp

/-! ## The blocks of `x` -/

/-- Blocks up to `k - 1` are sent. -/
def SendSt (c : Dev nD) (k : ℕ) : sProp 𝕄 :=
  iprop(Owe (F := F) c (OA c 1 + OX c k)
    ∗ bigSep (Finset.Ico k 16) (fun k => iprop(bP m c (peer c k) ∗ gAny (F := F) (peer c k) c
        ∗ dutyTok ER (cell c (.send (peer c k))) 0 (0 : Dev nD) ∗ dutyTok ER (cell (peer c k) (.recv c)) 0 (0 : Dev nD)))
    ∗ bigSep (Finset.Ico 1 k) (fun k => cred (tallyAt (cell c (.send (peer c k))) () NX)))

theorem step_send (c : Dev nD) (k : ℕ) (h1 : 1 ≤ k) (hk : k < 16) {dv : Dev nD} (hdv : dv = peer c k)
    {o6 : Fin 2 → ℕ} (h6 : o6 = ![256 * (peer c k).val, 0]) {b6 : ∀ a, o6 a + S256x256.size a ≤ S4096x256.size a}
    {o5 : Fin 3 → ℕ} (h5 : o5 = ![c.val, 0, 0]) {b5 : ∀ a, o5 a + S1x256x256.size a ≤ S16x256x256.size a}
    {sS sR : SemLoc sig} (hS : sS = (Kd.send (peer c k)).sem) (hR : sR = (Kd.recv c).sem)
    {hsc : ((gM.slice (Rect.unit (s := S16x256x256) o5 S1x256x256.size b5) (fun _ => rfl)).squeeze S256x256 squeezes_S1x256x256_S256x256 :
      Memref sig (Dev.tc dv : Thread nD τ).2.kind .vmem S256x256 .bf16).view.ref.isScScratch = false}
    {hsrc : (bM.slice (Rect.unit (s := S4096x256) o6 S256x256.size b6) (fun _ => rfl)).view.WordExact}
    {hdst : ((gM.slice (Rect.unit (s := S16x256x256) o5 S1x256x256.size b5) (fun _ => rfl)).squeeze S256x256 squeezes_S1x256x256_S256x256).view.WordExact}
    {hsem : DmaTarget.Typed .vmem sR (.remote (Dev.tc dv : Thread nD τ)
      ((gM.slice (Rect.unit (s := S16x256x256) o5 S1x256x256.size b5) (fun _ => rfl)).squeeze S256x256 squeezes_S1x256x256_S256x256) sS hsc)}
    {α : Type} {Q : α → sProp 𝕄} {cont : PUnit → Prog (TpuEff nD τ sig (Elt F) Λ₀ .tc) α} :
    iprop(Ctx m K ∗ SendSt m c k)
      ⊢ iprop((SendSt m c (k + 1) -∗ wp frame (wpE (defs₀ (F := F)) 𝒱₀ (c : Thread nD τ) none) Set.univ (cont ⟨⟩) Q)
          -∗ wp frame (wpE (defs₀ (F := F)) 𝒱₀ (c : Thread nD τ) none) Set.univ
            (.op (.enqueueDma (bM.slice (Rect.unit (s := S4096x256) o6 S256x256.size b6) (fun _ => rfl))
              (.remote (Dev.tc dv : Thread nD τ) ((gM.slice (Rect.unit (s := S16x256x256) o5 S1x256x256.size b5) (fun _ => rfl)).squeeze S256x256 squeezes_S1x256x256_S256x256) sS hsc)
              sR hsrc hdst hsem) cont) Q) := by
  subst hdv h6 h5 hS hR
  unfold SendSt Owe
  rw [bigSep_Ico_succ_bot hk, bigSep_Ico_succ_top h1]
  unfold gAny
  iintro ⟨#Hctx, ⟨%W, HO⟩, ⟨⟨Hb, ⟨%fd, Hg⟩, HtS, HtR⟩, Hrest⟩, Hcr⟩ Hk
  iapply (Rounds.wp_send_pointsTo 𝒱₀ ER (sched m) (c : Thread nD τ) none (κ₁ := K (c, .send (peer c k))) (κ₂ := K (peer c k, .recv c))
    (c' := (peer c k : Thread nD τ)) (src := bRow (peer c k)) (dst := gSlot c) (sS := (Kd.send (peer c k)).sem) (sem := (Kd.recv c).sem)
    (r₁ := 0) (r₂ := 0) (d₁ := (0 : Dev nD)) (d₂ := (0 : Dev nD)) (fd := fd) (fs := XB m c) (q := fullShare)
    (by rw [show ((c : Thread nD τ), (Kd.send (peer c k)).sem) = cell c (.send (peer c k)) from rfl, duties_cell]; dsimp only [kdDuties]
        rw [if_pos ⟨rfl, peer_ne c h1 hk⟩]; exact Finset.mem_singleton_self _)
    (by rw [show ((peer c k : Thread nD τ), (Kd.recv c).sem) = cell (peer c k) (.recv c) from rfl, duties_cell]; dsimp only [kdDuties]
        rw [if_pos ⟨rfl, (peer_ne c h1 hk).symm⟩]; exact Finset.mem_singleton_self _)
    () () NX (credit_g c) ((amount_cell m c (.send (peer c k)) 0 0).trans (kdAmount_send _)) ((amount_cell m (peer c k) (.recv c) 0 0).trans (kdAmount_recv _))
    (O₀ := OA c 1 + OX c k) (OA c 1 + OX c (k + 1)) (by rw [OX_step c hk, ← add_assoc]) (W := W)
    (by rw [show ((c : Thread nD τ), (Kd.send (peer c k)).sem) = cell c (.send (peer c k)) from rfl, payload_cell]; exact BI.Entails.refl _)
    (by rw [show ((peer c k : Thread nD τ), (Kd.recv c).sem) = cell (peer c k) (.recv c) from rfl, payload_cell]
        exact Entails.of_eq (pointsTo_congr (lands_x m (peer c k) c fd)))) $$ [Hb Hg HO HtS HtR]
  · isplitr; · iapply (Ctx_inv m K c (.send (peer c k))); iexact Hctx
    isplitr; · iapply (Ctx_inv m K (peer c k) (.recv c)); iexact Hctx
    isplitl [Hb]; · unfold bP; iexact Hb
    isplitl [Hg]; · iexact Hg
    isplitl [HO]; · iexact HO
    isplitl [HtS]; · iexact HtS
    isplitr; · iapply (Ctx_reached m K c (.send (peer c k))); iexact Hctx
    isplitl [HtR]; · iexact HtR
    iapply (Ctx_reached m K (peer c k) (.recv c)); iexact Hctx
  iintro ⟨Hc, HO⟩
  iapply Hk
  isplitl [HO]; · iexists W; iexact HO
  isplitl [Hrest]; · iexact Hrest
  isplitl [Hc]; · iexact Hc
  iexact Hcr

end Cert.MeshRun
-- ==== Proof.Moves.lean ====
/-
# One operation at a time, continued

The copies on one device, the waits for transfers, the loads and stores of slots, and the sends of the maxima.
-/
module

public import proofs.«01_k».proof.Proof.Steps
public import Idealize.SL.BI.BigOpNat

@[expose] public section

set_option maxRecDepth 8000

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (K : Dev nD × Kd → ℕ)

/-! ## The local copy of the device's own block -/

theorem step_local (c : Dev nD)
    {o7 : Fin 2 → ℕ} (h7 : o7 = ![256 * c.val, 0]) {b7 : ∀ a, o7 a + S256x256.size a ≤ S4096x256.size a}
    {o5 : Fin 3 → ℕ} (h5 : o5 = ![c.val, 0, 0]) {b5 : ∀ a, o5 a + S1x256x256.size a ≤ S16x256x256.size a}
    {sL : SemLoc sig} (hL : sL = Kd.loc.sem)
    {hsrc : (bM.slice (Rect.unit (s := S4096x256) o7 S256x256.size b7) (fun _ => rfl)).view.WordExact}
    {hdst : ((gM.slice (Rect.unit (s := S16x256x256) o5 S1x256x256.size b5) (fun _ => rfl)).squeeze S256x256 squeezes_S1x256x256_S256x256).view.WordExact}
    {hsem : DmaTarget.Typed (nD := nD) (τ := τ) .vmem sL (DmaTarget.here (p := (c : Thread nD τ).2) ((gM.slice (Rect.unit (s := S16x256x256) o5 S1x256x256.size b5) (fun _ => rfl)).squeeze S256x256 squeezes_S1x256x256_S256x256))}
    {α : Type} {Q : α → sProp 𝕄} {cont : PUnit → Prog (TpuEff nD τ sig (Elt F) Λ₀ .tc) α} :
    iprop(Ctx m K ∗ bP m c c ∗ gAny (F := F) c c ∗ dutyTok ER (cell c .loc) 0 (0 : Dev nD))
      ⊢ iprop((cred (tallyAt (cell c .loc) () NX) -∗ wp frame (wpE (defs₀ (F := F)) 𝒱₀ (c : Thread nD τ) none) Set.univ (cont ⟨⟩) Q)
          -∗ wp frame (wpE (defs₀ (F := F)) 𝒱₀ (c : Thread nD τ) none) Set.univ
            (.op (.enqueueDma (bM.slice (Rect.unit (s := S4096x256) o7 S256x256.size b7) (fun _ => rfl))
              (.here ((gM.slice (Rect.unit (s := S16x256x256) o5 S1x256x256.size b5) (fun _ => rfl)).squeeze S256x256 squeezes_S1x256x256_S256x256))
              sL hsrc hdst hsem) cont) Q) := by
  subst h7 h5 hL
  unfold gAny
  iintro ⟨#Hctx, Hb, ⟨%fd, Hg⟩, Ht⟩ Hk
  iapply (Rounds.wp_copy_pointsTo 𝒱₀ ER (sched m) (c : Thread nD τ) none (κ := K (c, .loc))
    (src := bRow c) (dst := gSlot c) (sem := Kd.loc.sem) (r := 0) (d := (0 : Dev nD)) (fd := fd) (fs := XB m c) (q := fullShare)
    (by rw [show ((c : Thread nD τ), Kd.loc.sem) = cell c .loc from rfl, duties_cell]; dsimp only [kdDuties]
        rw [if_pos rfl]; exact Finset.mem_singleton_self _)
    () NX (credit_g c) ((amount_cell m c .loc 0 0).trans kdAmount_loc)
    (by rw [show ((c : Thread nD τ), Kd.loc.sem) = cell c .loc from rfl, payload_cell]; dsimp only [kdPay]; unfold gP bP
        exact BI.sep_mono (Entails.of_eq (pointsTo_congr (lands_x m c c fd))) (Entails.refl _))) $$ [Hb Hg Ht]
  · isplitr; · iapply (Ctx_inv m K c .loc); iexact Hctx
    isplitl [Hb]; · unfold bP; iexact Hb
    isplitl [Hg]; · iexact Hg
    isplitl [Ht]; · iexact Ht
    iapply (Ctx_reached m K c .loc); iexact Hctx
  iexact Hk

/-! ## The rows of `w` -/

/-- The slot of the `k`-th rows. -/
def wi (k : ℕ) : Fin 4 := ⟨k % 4, Nat.mod_lt _ (by decide)⟩
theorem wi_add (k : ℕ) : wi (k + 4) = wi k := Fin.ext (by show (k + 4) % 4 = k % 4; omega)
theorem wi_round (k : ℕ) : 4 * (k / 4) + (wi k).val = k := Nat.div_add_mod k 4

/-- `n` fetches of rows are started and `l` of them over; the slots of fetches `n` to `f - 1` are free. -/
def WSt (c : Dev nD) (n l f : ℕ) : sProp 𝕄 :=
  iprop(bigSep (Finset.Ico n 16) (fun k => iprop(dutyTok ER (cell c (.wsem (wi k))) (k / 4) (0 : Dev nD) ∗ wP m c (src c k)))
    ∗ bigSep (Finset.Ico l n) (fun k => iprop(cred (tallyAt (cell c (.wsem (wi k))) () NW) ∗ atPos ER (cell c (.wsem (wi k))) (k / 4) ∅ 0))
    ∗ bigSep (Finset.Ico 0 l) (fun k => wP m c (src c k))
    ∗ bigSep (Finset.Ico n f) (fun k => iprop(vAny (F := F) c (wi k) ∗ reached ER (cell c (.wsem (wi k))) (k / 4) ∗ atPos ER (cell c (.wsem (wi k))) (k / 4) ∅ 0)))

/-- The `l`-th rows lie in their slot. -/
def WHeld (c : Dev nD) (l : ℕ) : sProp 𝕄 :=
  iprop(vP m c (wi l) l ∗ reached ER (cell c (.wsem (wi l))) (l / 4 + 1) ∗ atPos ER (cell c (.wsem (wi l))) (l / 4 + 1) ∅ 0)

/-- A finished fetch leaves the rows in the slot. -/
theorem lands_w_pay (c : Dev nD) (k : ℕ) (fd : Vec F S4x256x2048 .f32) :
    iprop((View.loc (c : Thread nD τ) (vSlot (wi k)).view ↦[(vSlot (wi k)).view.set]{fullShare} (vSlot (wi k)).view.write (Elt F) fd ((wRow (src c k)).view.read (Elt F) (W m c)) Finset.univ)
        ∗ (View.loc (c : Thread nD τ) (wRow (src c k)).view ↦[(wRow (src c k)).view.set]{fullShare} W m c) : sProp 𝕄)
      ⊢ iprop(vP m c (wi k) k ∗ wP m c (src c k)) := by
  rw [pointsTo_congr (lands_w m c k (wi k) fd)]
  exact BI.Entails.refl _

theorem step_wstart (c : Dev nD) (n l f : ℕ) (hn : n < 16) (hl : l ≤ n) (hf : n < f)
    {ow : Fin 2 → ℕ} (how : ow = ![256 * (src c n).val, 0]) {bw : ∀ a, ow a + S256x2048.size a ≤ S4096x2048.size a}
    {ov : Fin 3 → ℕ} (hov : ov = ![(wi n).val, 0, 0]) {bv : ∀ a, ov a + S1x256x2048.size a ≤ S4x256x2048.size a}
    {sW : SemLoc sig} (hW : sW = (Kd.wsem (wi n)).sem)
    {hsrc : (wM.slice (Rect.unit (s := S4096x2048) ow S256x2048.size bw) (fun _ => rfl)).view.WordExact}
    {hdst : ((vM.slice (Rect.unit (s := S4x256x2048) ov S1x256x2048.size bv) (fun _ => rfl)).squeeze S256x2048 squeezes_S1x256x2048_S256x2048).view.WordExact}
    {hsem : DmaTarget.Typed (nD := nD) (τ := τ) .hbm sW (DmaTarget.here (p := (c : Thread nD τ).2) ((vM.slice (Rect.unit (s := S4x256x2048) ov S1x256x2048.size bv) (fun _ => rfl)).squeeze S256x2048 squeezes_S1x256x2048_S256x2048))}
    {α : Type} {Q : α → sProp 𝕄} {cont : PUnit → Prog (TpuEff nD τ sig (Elt F) Λ₀ .tc) α} :
    iprop(Ctx m K ∗ WSt m c n l f)
      ⊢ iprop((WSt m c (n + 1) l f -∗ wp frame (wpE (defs₀ (F := F)) 𝒱₀ (c : Thread nD τ) none) Set.univ (cont ⟨⟩) Q)
          -∗ wp frame (wpE (defs₀ (F := F)) 𝒱₀ (c : Thread nD τ) none) Set.univ
            (.op (.enqueueDma (wM.slice (Rect.unit (s := S4096x2048) ow S256x2048.size bw) (fun _ => rfl))
              (.here ((vM.slice (Rect.unit (s := S4x256x2048) ov S1x256x2048.size bv) (fun _ => rfl)).squeeze S256x2048 squeezes_S1x256x2048_S256x2048))
              sW hsrc hdst hsem) cont) Q) := by
  subst how hov hW
  unfold WSt
  rw [bigSep_Ico_succ_bot hn, bigSep_Ico_succ_bot hf, bigSep_Ico_succ_top hl]
  unfold vAny
  iintro ⟨#Hctx, ⟨⟨Ht, Hw⟩, Htodo⟩, Hfly, Hdone, ⟨⟨%fd, Hv⟩, Hr, Ha⟩, Hfree⟩ Hk
  iapply (Rounds.wp_copy_pointsTo 𝒱₀ ER (sched m) (c : Thread nD τ) none (κ := K (c, .wsem (wi n)))
    (src := wRow (src c n)) (dst := vSlot (wi n)) (sem := (Kd.wsem (wi n)).sem) (r := n / 4) (d := (0 : Dev nD)) (fd := fd) (fs := W m c) (q := fullShare)
    (by rw [show ((c : Thread nD τ), (Kd.wsem (wi n)).sem) = cell c (.wsem (wi n)) from rfl, duties_cell]; dsimp only [kdDuties]
        rw [if_pos (show n / 4 < 4 by omega)]; exact Finset.mem_singleton_self _)
    () NW (credit_v (wi n)) ((amount_cell m c (.wsem (wi n)) (n / 4) 0).trans (kdAmount_wsem _))
    (by rw [show ((c : Thread nD τ), (Kd.wsem (wi n)).sem) = cell c (.wsem (wi n)) from rfl, payload_cell]; dsimp only [kdPay]; rw [wi_round]
        exact lands_w_pay m c n fd)) $$ [Hw Hv Ht Hr]
  · isplitr; · iapply (Ctx_inv m K c (.wsem (wi n))); iexact Hctx
    isplitl [Hw]; · unfold wP; iexact Hw
    isplitl [Hv]; · iexact Hv
    isplitl [Ht]; · iexact Ht
    iexact Hr
  iintro Hc
  iapply Hk
  isplitl [Htodo]; · iexact Htodo
  isplitl [Hfly Hc Ha]
  · isplitl [Hc Ha]
    · isplitl [Hc]; · iexact Hc
      iexact Ha
    iexact Hfly
  isplitl [Hdone]; · iexact Hdone
  iexact Hfree

theorem step_wwait (c : Dev nD) (n l f : ℕ) (hl : l < n) (hl' : l < 16) {O : CellTallies nD τ sig Unit} (hO : Above 0 O)
    {sem : DmaSem sig} (hsem : SemLoc.dma sem = (Kd.wsem (wi l)).sem)
    {sp : Space} {s : Shape} {e : EltTy} {src : Memref sig .tc sp s e}
    {ov : Fin 3 → ℕ} (hov : ov = ![(wi l).val, 0, 0]) {bv : ∀ a, ov a + S1x256x2048.size a ≤ S4x256x2048.size a}
    {h₁ : src.view.WordExact} {h₂ : ((vM.slice (Rect.unit (s := S4x256x2048) ov S1x256x2048.size bv) (fun _ => rfl)).squeeze S256x2048 squeezes_S1x256x2048_S256x2048).view.WordExact}
    {α : Type} {Q : α → sProp 𝕄} {cont : PUnit → Prog (TpuEff nD τ sig (Elt F) Λ₀ .tc) α} :
    iprop(Ctx m K ∗ Owe (F := F) c O ∗ WSt m c n l f)
      ⊢ iprop(((Owe (F := F) c O ∗ WSt m c n (l + 1) f ∗ WHeld m c l) -∗ wp frame (wpE (defs₀ (F := F)) 𝒱₀ (c : Thread nD τ) none) Set.univ (cont ⟨⟩) Q)
          -∗ wp frame (wpE (defs₀ (F := F)) 𝒱₀ (c : Thread nD τ) none) Set.univ
            (.op (.waitDma2 sem src ((vM.slice (Rect.unit (s := S4x256x2048) ov S1x256x2048.size bv) (fun _ => rfl)).squeeze S256x2048 squeezes_S1x256x2048_S256x2048) h₁ h₂) cont) Q) := by
  subst hov
  have hd : kdDuties c (l / 4) (.wsem (wi l)) = {0} := by dsimp only [kdDuties]; exact if_pos (by omega)
  unfold WSt WHeld
  rw [bigSep_Ico_succ_bot hl, bigSep_Ico_succ_top (Nat.zero_le l)]
  iintro ⟨#Hctx, HO, Htodo, ⟨⟨Hc, Ha⟩, Hfly⟩, Hdone, Hfree⟩ Hk
  iapply (step_wait m K c (.wsem (wi l)) (l / 4) hd hsem ((credit_v (wi l)).trans (kdAmount_wsem _).symm) (n := 0) (le_refl _) hO) $$ [HO Hc Ha]
  · isplitr; · iexact Hctx
    isplitl [Hc]; · iexact Hc
    isplitl [HO]; · iexact HO
    iexact Ha
  dsimp only [kdPay]
  rw [wi_round]
  iintro ⟨HO, Ha, Hr, Hv, Hw⟩
  iapply Hk
  isplitl [HO]; · iexact HO
  isplitl [Htodo Hfly Hdone Hfree Hw]
  · isplitl [Htodo]; · iexact Htodo
    isplitl [Hfly]; · iexact Hfly
    isplitl [Hdone Hw]
    · isplitl [Hw]; · iexact Hw
      iexact Hdone
    iexact Hfree
  isplitl [Hv]; · iexact Hv
  isplitl [Hr]; · iexact Hr
  iexact Ha

/-- Loading the `l`-th rows frees their slot. -/
theorem step_wload (c : Dev nD) (n l l' f : ℕ) (hf : f = l + 4) (hnf : n ≤ f)
    {ov : Fin 3 → ℕ} (hov : ov = ![(wi l).val, 0, 0]) {bv : ∀ a, ov a + S1x256x2048.size a ≤ S4x256x2048.size a}
    {hl : vM.view.LoadsAt (Rect.unit (s := S4x256x2048) ov S1x256x2048.size bv).toLoadRect}
    {α : Type} {Q : α → sProp 𝕄} {cont : Vec F S1x256x2048 .f32 → Prog (TpuEff nD τ sig (Elt F) Λ₀ .tc) α} :
    iprop(WSt m c n l' f ∗ WHeld m c l)
      ⊢ iprop((WSt m c n l' (f + 1) -∗ wp frame (wpE (defs₀ (F := F)) 𝒱₀ (c : Thread nD τ) none) Set.univ (cont (ldW m c l)) Q)
          -∗ wp frame (wpE (defs₀ (F := F)) 𝒱₀ (c : Thread nD τ) none) Set.univ
            (.op (.load vM (Rect.unit (s := S4x256x2048) ov S1x256x2048.size bv).toLoadRect hl) cont) Q) := by
  subst hov hf
  unfold WSt WHeld
  rw [bigSep_Ico_succ_top hnf, wi_add, show (l + 4) / 4 = l / 4 + 1 by omega]
  unfold vP
  iintro ⟨⟨Htodo, Hfly, Hdone, Hfree⟩, Hv, Hr, Ha⟩ Hk
  iapply (wp_load 𝒱₀ (c : Thread nD τ) none Set.univ (m := vM) (r := (vRect (wi l)).toLoadRect) (S := (vSlot (wi l)).view.set) (by rw [View.set_reshape, View.set_slice]; exact subset_rfl)) $$ Hv
  iintro Hv
  rw [reads_w]
  iapply Hk
  isplitl [Htodo]; · iexact Htodo
  isplitl [Hfly]; · iexact Hfly
  isplitl [Hdone]; · iexact Hdone
  isplitl [Hv Hr Ha]
  · isplitl [Hv]; · unfold vAny; iexists _; iexact Hv
    isplitl [Hr]; · iexact Hr
    iexact Ha
  iexact Hfree

/-! ## Waiting for the transfers, one distance after another -/

/-- The waits on cells `A k` to `A 15` are still to come; those up to `A (k - 1)` are done, and their cells closed. -/
def WaitSt (c : Dev nD) (A : ℕ → Kd) (k : ℕ) : sProp 𝕄 :=
  iprop(bigSep (Finset.Ico k 16) (fun k => iprop(cred (tallyAt (cell c (A k)) () (kdAmount (A k))) ∗ atPos ER (cell c (A k)) 0 ∅ 0))
    ∗ bigSep (Finset.Ico 1 k) (fun k => iprop(semVal (cell c (A k)) 0 ∗ kdPay m c 0 0 (A k))))

theorem step_waits (c : Dev nD) (A : ℕ → Kd) (k : ℕ) (h1 : 1 ≤ k) (hk : k < 16) (hd : kdDuties c 0 (A k) = {0}) (hA : ∀ i, A k ≠ .wsem i)
    {sem : DmaSem sig} (hsem : SemLoc.dma sem = (A k).sem)
    {sp sp' : Space} {s s' : Shape} {e e' : EltTy} {src : Memref sig .tc sp s e} {dst : Memref sig .tc sp' s' e'}
    (hN : dst.view.dmaCredit = kdAmount (A k)) {n : ℕ} (hlev : kdLev (A k) ≤ n) {O : CellTallies nD τ sig Unit} (hO : Above n O)
    {h₁ : src.view.WordExact} {h₂ : dst.view.WordExact}
    {α : Type} {Q : α → sProp 𝕄} {cont : PUnit → Prog (TpuEff nD τ sig (Elt F) Λ₀ .tc) α} :
    iprop(Ctx m K ∗ Owe (F := F) c O ∗ WaitSt m c A k)
      ⊢ iprop(((Owe (F := F) c O ∗ WaitSt m c A (k + 1)) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 sem src dst h₁ h₂) cont) Q) := by
  unfold WaitSt
  rw [bigSep_Ico_succ_bot hk, bigSep_Ico_succ_top h1]
  iintro ⟨#Hctx, HO, ⟨⟨Hc, Ha⟩, Htodo⟩, Hdone⟩ Hk
  iapply (step_wait m K c (A k) 0 hd hsem hN hlev hO) $$ [HO Hc Ha]
  · isplitr; · iexact Hctx
    isplitl [Hc]; · iexact Hc
    isplitl [HO]; · iexact HO
    iexact Ha
  iintro ⟨HO, Ha, -, Hp⟩
  imod (step_close m K c (A k) (0 + 1) (le_refl _) (.inr hA)) $$ [Ha] with Hz
  · isplitr; · iexact Hctx
    iexact Ha
  iapply Hk
  isplitl [HO]; · iexact HO
  isplitl [Htodo]; · iexact Htodo
  isplitl [Hz Hp]
  · isplitl [Hz]; · iexact Hz
    iexact Hp
  iexact Hdone

theorem bigSep_Ico_take {j k : ℕ} (h1 : 1 ≤ j) (h : j < k) (A : ℕ → sProp 𝕄) :
    bigSep (Finset.Ico 1 k) A = iprop(A j ∗ bigSep ((Finset.Ico 1 k).erase j) A) := by
  conv_lhs => rw [← Finset.insert_erase (Finset.mem_Ico.mpr ⟨h1, h⟩)]
  exact bigSep_insert (Finset.notMem_erase _ _)

/-- Loading a block of `x` that has arrived. -/
theorem step_xload (c : Dev nD) (k j : ℕ) (h1 : 1 ≤ j) (hj : j < k)
    {og : Fin 3 → ℕ} (hog : og = ![(src c j).val, 0, 0]) {bg : ∀ a, og a + S1x256x256.size a ≤ S16x256x256.size a}
    {hl : gM.view.LoadsAt (Rect.unit (s := S16x256x256) og S1x256x256.size bg).toLoadRect}
    {α : Type} {Q : α → sProp 𝕄} {cont : Vec F S1x256x256 .bf16 → Prog (TpuEff nD τ sig (Elt F) Λ₀ .tc) α} :
    WaitSt m c (fun k => .recv (src c k)) k
      ⊢ iprop((WaitSt m c (fun k => .recv (src c k)) k -∗ wp frame (wpE (defs₀ (F := F)) 𝒱₀ (c : Thread nD τ) none) Set.univ (cont (ldX m c j)) Q)
          -∗ wp frame (wpE (defs₀ (F := F)) 𝒱₀ (c : Thread nD τ) none) Set.univ
            (.op (.load gM (Rect.unit (s := S16x256x256) og S1x256x256.size bg).toLoadRect hl) cont) Q) := by
  subst hog
  unfold WaitSt
  rw [bigSep_Ico_take h1 hj]
  dsimp only [kdPay]
  unfold gP
  iintro ⟨Htodo, ⟨Hz, Hg⟩, Hrest⟩ Hk
  iapply (wp_load 𝒱₀ (c : Thread nD τ) none Set.univ (m := gM) (r := (gRect (src c j)).toLoadRect) (S := (gSlot (src c j)).view.set) (by rw [View.set_reshape, View.set_slice]; exact subset_rfl)) $$ Hg
  iintro Hg
  rw [reads_x]
  iapply Hk
  isplitl [Htodo]; · iexact Htodo
  isplitl [Hz Hg]
  · isplitl [Hz]; · iexact Hz
    iexact Hg
  iexact Hrest

/-- Loading the device's own block. -/
theorem step_xload0 (c : Dev nD) {og : Fin 3 → ℕ} (hog : og = ![c.val, 0, 0]) {bg : ∀ a, og a + S1x256x256.size a ≤ S16x256x256.size a}
    {hl : gM.view.LoadsAt (Rect.unit (s := S16x256x256) og S1x256x256.size bg).toLoadRect}
    {α : Type} {Q : α → sProp 𝕄} {cont : Vec F S1x256x256 .bf16 → Prog (TpuEff nD τ sig (Elt F) Λ₀ .tc) α} :
    gP m c c
      ⊢ iprop((gP m c c -∗ wp frame (wpE (defs₀ (F := F)) 𝒱₀ (c : Thread nD τ) none) Set.univ (cont (ldX m c 0)) Q)
          -∗ wp frame (wpE (defs₀ (F := F)) 𝒱₀ (c : Thread nD τ) none) Set.univ
            (.op (.load gM (Rect.unit (s := S16x256x256) og S1x256x256.size bg).toLoadRect hl) cont) Q) := by
  subst hog
  have hr := reads_x m c 0
  rw [src_zero] at hr
  unfold gP
  iintro Hg Hk
  iapply (wp_load 𝒱₀ (c : Thread nD τ) none Set.univ (m := gM) (r := (gRect c).toLoadRect) (S := (gSlot c).view.set) (by rw [View.set_reshape, View.set_slice]; exact subset_rfl)) $$ Hg
  iintro Hg
  rw [hr]
  iapply Hk
  iexact Hg

/-! ## The maxima -/

/-- Reading the device's own slot of the maxima, before anything is in it. -/
theorem step_aload (c : Dev nD) {oa : Fin 3 → ℕ} (hoa : oa = ![c.val, 0, 0]) {ba : ∀ a, oa a + S1x8x128.size a ≤ S16x8x128.size a}
    {hl : aM.view.LoadsAt (Rect.unit (s := S16x8x128) oa S1x8x128.size ba).toLoadRect}
    {α : Type} {Q : α → sProp 𝕄} {cont : Vec F S1x8x128 .f32 → Prog (TpuEff nD τ sig (Elt F) Λ₀ .tc) α} :
    aAny (F := F) c c
      ⊢ iprop((∀ v, aAny (F := F) c c -∗ wp frame (wpE (defs₀ (F := F)) 𝒱₀ (c : Thread nD τ) none) Set.univ (cont v) Q)
          -∗ wp frame (wpE (defs₀ (F := F)) 𝒱₀ (c : Thread nD τ) none) Set.univ
            (.op (.load aM (Rect.unit (s := S16x8x128) oa S1x8x128.size ba).toLoadRect hl) cont) Q) := by
  subst hoa
  unfold aAny
  iintro ⟨%f, Ha⟩ Hk
  iapply (wp_load 𝒱₀ (c : Thread nD τ) none Set.univ (m := aM) (r := (aRect c).toLoadRect) (S := (aSlot c).view.set) (by rw [View.set_reshape, View.set_slice]; exact subset_rfl)) $$ Ha
  iintro Ha
  iapply Hk
  iexists f; iexact Ha

/-- Storing its maximum there. -/
theorem step_astore (c : Dev nD) {oa : Fin 3 → ℕ} (hoa : oa = ![c.val, 0, 0]) {ba : ∀ a, oa a + S1x8x128.size a ≤ S16x8x128.size a}
    {w : FVec F S1x8x128 .f32} (hw : w = MX m c)
    {hx : (aM.access (Rect.unit (s := S16x8x128) oa S1x8x128.size ba)).Stores Finset.univ}
    {hm : Finset.univ = Finset.univ ∨ ∀ a, (Rect.unit (s := S16x8x128) oa S1x8x128.size ba).stride a = 1}
    {α : Type} {Q : α → sProp 𝕄} {cont : PUnit → Prog (TpuEff nD τ sig (Elt F) Λ₀ .tc) α} :
    aAny (F := F) c c
      ⊢ iprop((aP m c c fullShare -∗ wp frame (wpE (defs₀ (F := F)) 𝒱₀ (c : Thread nD τ) none) Set.univ (cont ⟨⟩) Q)
          -∗ wp frame (wpE (defs₀ (F := F)) 𝒱₀ (c : Thread nD τ) none) Set.univ
            (.op (.store aM (Rect.unit (s := S16x8x128) oa S1x8x128.size ba) w Finset.univ hx hm) cont) Q) := by
  subst hoa hw
  have hS : (aM.access (aRect c)).set = (aSlot c).view.set := by rw [View.set_reshape]
  unfold aAny aP
  iintro ⟨%f, Ha⟩ Hk
  iapply (wp_store 𝒱₀ (c : Thread nD τ) none Set.univ (m := aM) (r := aRect c) (Mk := Finset.univ) (S := (aSlot c).view.set) (by rw [← hS]; exact subset_rfl)) $$ Ha
  iintro Ha
  iapply Hk
  rw [← hS]
  iapply (Entails.of_eq (pointsTo_congr (stores_a m c f)))
  iexact Ha

/-- Maxima up to distance `k - 1` are sent. -/
def ASt (c : Dev nD) (k : ℕ) : sProp 𝕄 :=
  iprop(Owe (F := F) c (OA c k)
    ∗ bigSep (Finset.Ico k 16) (fun k => iprop(aP m c c (shareTokN fullShare (peer c k).val) ∗ aAny (F := F) (peer c k) c
        ∗ dutyTok ER (cell c (.asend (peer c k))) 0 (0 : Dev nD) ∗ dutyTok ER (cell (peer c k) (.arecv c)) 0 (0 : Dev nD)))
    ∗ bigSep (Finset.Ico 1 k) (fun k => cred (tallyAt (cell c (.asend (peer c k))) () NA)))

theorem step_asend (c : Dev nD) (k : ℕ) (h1 : 1 ≤ k) (hk : k < 16) {dv : Dev nD} (hdv : dv = peer c k)
    {oa : Fin 3 → ℕ} (hoa : oa = ![c.val, 0, 0]) {ba : ∀ a, oa a + S1x8x128.size a ≤ S16x8x128.size a}
    {od : Fin 3 → ℕ} (hod : od = ![c.val, 0, 0]) {bd : ∀ a, od a + S1x8x128.size a ≤ S16x8x128.size a}
    {sS sR : SemLoc sig} (hS : sS = (Kd.asend (peer c k)).sem) (hR : sR = (Kd.arecv c).sem)
    {hsc : ((aM.slice (Rect.unit (s := S16x8x128) od S1x8x128.size bd) (fun _ => rfl)).squeeze S8x128 squeezes_S1x8x128_S8x128 :
      Memref sig (Dev.tc dv : Thread nD τ).2.kind .vmem S8x128 .f32).view.ref.isScScratch = false}
    {hsrc : ((aM.slice (Rect.unit (s := S16x8x128) oa S1x8x128.size ba) (fun _ => rfl)).squeeze S8x128 squeezes_S1x8x128_S8x128).view.WordExact}
    {hdst : ((aM.slice (Rect.unit (s := S16x8x128) od S1x8x128.size bd) (fun _ => rfl)).squeeze S8x128 squeezes_S1x8x128_S8x128).view.WordExact}
    {hsem : DmaTarget.Typed .vmem sR (.remote (Dev.tc dv : Thread nD τ)
      ((aM.slice (Rect.unit (s := S16x8x128) od S1x8x128.size bd) (fun _ => rfl)).squeeze S8x128 squeezes_S1x8x128_S8x128) sS hsc)}
    {α : Type} {Q : α → sProp 𝕄} {cont : PUnit → Prog (TpuEff nD τ sig (Elt F) Λ₀ .tc) α} :
    iprop(Ctx m K ∗ ASt m c k)
      ⊢ iprop((ASt m c (k + 1) -∗ wp frame (wpE (defs₀ (F := F)) 𝒱₀ (c : Thread nD τ) none) Set.univ (cont ⟨⟩) Q)
          -∗ wp frame (wpE (defs₀ (F := F)) 𝒱₀ (c : Thread nD τ) none) Set.univ
            (.op (.enqueueDma ((aM.slice (Rect.unit (s := S16x8x128) oa S1x8x128.size ba) (fun _ => rfl)).squeeze S8x128 squeezes_S1x8x128_S8x128)
              (.remote (Dev.tc dv : Thread nD τ) ((aM.slice (Rect.unit (s := S16x8x128) od S1x8x128.size bd) (fun _ => rfl)).squeeze S8x128 squeezes_S1x8x128_S8x128) sS hsc)
              sR hsrc hdst hsem) cont) Q) := by
  subst hdv hoa hod hS hR
  unfold ASt Owe
  rw [bigSep_Ico_succ_bot hk, bigSep_Ico_succ_top h1]
  unfold aAny
  iintro ⟨#Hctx, ⟨%W, HO⟩, ⟨⟨Hb, ⟨%fd, Hg⟩, HtS, HtR⟩, Hrest⟩, Hcr⟩ Hk
  iapply (Rounds.wp_send_pointsTo 𝒱₀ ER (sched m) (c : Thread nD τ) none (κ₁ := K (c, .asend (peer c k))) (κ₂ := K (peer c k, .arecv c))
    (c' := (peer c k : Thread nD τ)) (src := aSlot c) (dst := aSlot c) (sS := (Kd.asend (peer c k)).sem) (sem := (Kd.arecv c).sem)
    (r₁ := 0) (r₂ := 0) (d₁ := (0 : Dev nD)) (d₂ := (0 : Dev nD)) (fd := fd) (fs := AM m) (q := shareTokN fullShare (peer c k).val)
    (by rw [show ((c : Thread nD τ), (Kd.asend (peer c k)).sem) = cell c (.asend (peer c k)) from rfl, duties_cell]; dsimp only [kdDuties]
        rw [if_pos ⟨rfl, peer_ne c h1 hk⟩]; exact Finset.mem_singleton_self _)
    (by rw [show ((peer c k : Thread nD τ), (Kd.arecv c).sem) = cell (peer c k) (.arecv c) from rfl, duties_cell]; dsimp only [kdDuties]
        rw [if_pos ⟨rfl, (peer_ne c h1 hk).symm⟩]; exact Finset.mem_singleton_self _)
    () () NA (credit_a c) ((amount_cell m c (.asend (peer c k)) 0 0).trans (kdAmount_asend _)) ((amount_cell m (peer c k) (.arecv c) 0 0).trans (kdAmount_arecv _))
    (O₀ := OA c k) (OA c (k + 1)) (OA_step c hk) (W := W)
    (by rw [show ((c : Thread nD τ), (Kd.asend (peer c k)).sem) = cell c (.asend (peer c k)) from rfl, payload_cell]; exact BI.Entails.refl _)
    (by rw [show ((peer c k : Thread nD τ), (Kd.arecv c).sem) = cell (peer c k) (.arecv c) from rfl, payload_cell]
        exact Entails.of_eq (pointsTo_congr (lands_a m c fd)))) $$ [Hb Hg HO HtS HtR]
  · isplitr; · iapply (Ctx_inv m K c (.asend (peer c k))); iexact Hctx
    isplitr; · iapply (Ctx_inv m K (peer c k) (.arecv c)); iexact Hctx
    isplitl [Hb]; · unfold aP; iexact Hb
    isplitl [Hg]; · iexact Hg
    isplitl [HO]; · iexact HO
    isplitl [HtS]; · iexact HtS
    isplitr; · iapply (Ctx_reached m K c (.asend (peer c k))); iexact Hctx
    isplitl [HtR]; · iexact HtR
    iapply (Ctx_reached m K (peer c k) (.arecv c)); iexact Hctx
  iintro ⟨Hc, HO⟩
  iapply Hk
  isplitl [HO]; · iexists W; iexact HO
  isplitl [Hrest]; · iexact Hrest
  isplitl [Hc]; · iexact Hc
  iexact Hcr

end Cert.MeshRun
-- ==== Proof.Runs.lean ====
/-
# Stretches of the program

Composing the operations of a device's program: what a stretch of it starts from and what it leaves.
-/
module

public import proofs.«01_k».proof.Proof.Moves
public import Idealize.SL.BI.BigOpNat

@[expose] public section

set_option maxRecDepth 8000

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (K : Dev nD × Kd → ℕ)

/-- Where the kernel's waits for row blocks and for maxima say the transfers land. -/
theorem off10_at : ∀ (r : Fin 15) (c : Dev nD), k0_off10 c (BitVec.ofNat 32 (1 + r.val)) = ![(src c (1 + r.val)).val, 0, 0] := by decide +kernel
theorem off14_at : ∀ (r : Fin 15) (c : Dev nD), k0_off14 c (BitVec.ofNat 32 (1 + r.val)) = ![(src c (1 + r.val)).val, 0, 0] := by decide +kernel

/-- A stretch `p` of device `c`'s program takes `P` to `R`, at the value it returns. -/
def Runs (c : Dev nD) {α : Type} (P : sProp 𝕄) (p : Prog (TpuEff nD τ sig (Elt F) Λ₀ .tc) α) (R : α → sProp 𝕄) : Prop :=
  ∀ Q : α → sProp 𝕄, iprop(Ctx m K ∗ P)
    ⊢ iprop((∀ r, R r -∗ Q r) -∗ wp frame (wpE (defs₀ (F := F)) 𝒱₀ (c : Thread nD τ) none) Set.univ p Q)

/-- The operation `e` takes `P` to `P'`, with the answer `v`. -/
def Step (c : Dev nD) {β : Type} (P : sProp 𝕄) (e : TpuEff nD τ sig (Elt F) Λ₀ .tc β) (P' : sProp 𝕄) (v : β) : Prop :=
  ∀ (α : Type) (Q : α → sProp 𝕄) (cont : β → Prog (TpuEff nD τ sig (Elt F) Λ₀ .tc) α), iprop(Ctx m K ∗ P)
      ⊢ iprop((P' -∗ wp frame (wpE (defs₀ (F := F)) 𝒱₀ (c : Thread nD τ) none) Set.univ (cont v) Q)
        -∗ wp frame (wpE (defs₀ (F := F)) 𝒱₀ (c : Thread nD τ) none) Set.univ (.op e cont) Q)

variable {m K}

theorem Runs.op {c : Dev nD} {α β : Type} {P P' : sProp 𝕄} {e : TpuEff nD τ sig (Elt F) Λ₀ .tc β} {v : β}
    {cont : β → Prog (TpuEff nD τ sig (Elt F) Λ₀ .tc) α} {R : α → sProp 𝕄}
    (h : Step m K c P e P' v)
    (next : Runs m K c P' (cont v) R) : Runs m K c P (.op e cont) R := by
  intro Q
  iintro ⟨#Hctx, HP⟩ Hk
  iapply (h α Q cont) $$ [HP]
  · isplitr; · iexact Hctx
    iexact HP
  iintro HP
  iapply (next Q) $$ [HP]
  · isplitr; · iexact Hctx
    iexact HP
  iexact Hk

theorem Runs.ret {c : Dev nD} {α : Type} {P : sProp 𝕄} {r : α} {R : α → sProp 𝕄} (h : P ⊢ R r) : Runs m K c P (.ret r) R := by
  intro Q
  rw [wp_ret]
  iintro ⟨#Hctx, HP⟩ Hk
  imodintro
  iapply Hk
  iapply h; iexact HP

theorem Runs.bind {c : Dev nD} {α β : Type} {P : sProp 𝕄} {p : Prog (TpuEff nD τ sig (Elt F) Λ₀ .tc) α} {R : α → sProp 𝕄}
    {k : α → Prog (TpuEff nD τ sig (Elt F) Λ₀ .tc) β} {R' : β → sProp 𝕄}
    (h : Runs m K c P p R) (next : ∀ r, Runs m K c (R r) (k r) R') : Runs m K c P (p >>= k) R' := by
  intro Q
  rw [wp_bind]
  iintro ⟨#Hctx, HP⟩ Hk
  iapply (h _) $$ [HP]
  · isplitr; · iexact Hctx
    iexact HP
  iintro %r HR
  iapply (next r Q) $$ [HR]
  · isplitr; · iexact Hctx
    iexact HR
  iexact Hk

theorem Runs.frame {c : Dev nD} {α : Type} {P : sProp 𝕄} {p : Prog (TpuEff nD τ sig (Elt F) Λ₀ .tc) α} {R : α → sProp 𝕄}
    (h : Runs m K c P p R) (G : sProp 𝕄) : Runs m K c iprop(P ∗ G) p (fun r => iprop(R r ∗ G)) := by
  intro Q
  iintro ⟨#Hctx, HP, HG⟩ Hk
  iapply (h Q) $$ [HP]
  · isplitr; · iexact Hctx
    iexact HP
  iintro %r HR
  iapply Hk
  isplitl [HR]; · iexact HR
  iexact HG

theorem Runs.pre {c : Dev nD} {α : Type} {P P' : sProp 𝕄} {p : Prog (TpuEff nD τ sig (Elt F) Λ₀ .tc) α} {R : α → sProp 𝕄}
    (hP : P ⊢ P') (h : Runs m K c P' p R) : Runs m K c P p R := by
  intro Q
  iintro ⟨#Hctx, HP⟩
  iapply (h Q)
  isplitr; · iexact Hctx
  iapply hP; iexact HP

theorem Runs.update {c : Dev nD} {α : Type} {P P' : sProp 𝕄} {p : Prog (TpuEff nD τ sig (Elt F) Λ₀ .tc) α} {R : α → sProp 𝕄}
    (hP : iprop(Ctx m K ∗ P) ⊢ iprop(|={Set.univ}=> P')) (h : Runs m K c P' p R) : Runs m K c P p R := by
  intro Q
  iintro ⟨#Hctx, HP⟩ Hk
  imod hP $$ [HP] with HP
  · isplitr; · iexact Hctx
    iexact HP
  iapply (h Q) $$ [HP]
  · isplitr; · iexact Hctx
    iexact HP
  iexact Hk

theorem Runs.post {c : Dev nD} {α : Type} {P : sProp 𝕄} {p : Prog (TpuEff nD τ sig (Elt F) Λ₀ .tc) α} {R R' : α → sProp 𝕄}
    (h : Runs m K c P p R) (hR : ∀ r, R r ⊢ R' r) : Runs m K c P p R' := by
  intro Q
  iintro ⟨#Hctx, HP⟩ Hk
  iapply (h Q) $$ [HP]
  · isplitr; · iexact Hctx
    iexact HP
  iintro %r HR
  iapply Hk
  iapply (hR r); iexact HR

theorem Runs.fact {c : Dev nD} {α : Type} {φ : Prop} {P : sProp 𝕄} {p : Prog (TpuEff nD τ sig (Elt F) Λ₀ .tc) α} {R : α → sProp 𝕄}
    (h : φ → Runs m K c P p R) : Runs m K c iprop(⌜φ⌝ ∗ P) p R := by
  intro Q
  iintro ⟨#Hctx, %hφ, HP⟩
  iapply (h hφ Q)
  isplitr; · iexact Hctx
  iexact HP

/-- Reading the device's number. -/
theorem Runs.deviceId {c : Dev nD} {α : Type} {P : sProp 𝕄} {k : Dev nD → Prog (TpuEff nD τ sig (Elt F) Λ₀ .tc) α} {R : α → sProp 𝕄}
    (h : Runs m K c P (k c) R) : Runs m K c P (.op .deviceId k) R := by
  intro Q
  rw [wp_deviceId]
  exact h Q

variable (m K)

/-- A stretch of the kernel, as printed, on the buffers this call gives it. -/
abbrev onArgs {β : Type 1} (f : (arg0 : Memref sig .tc .vmem S4096x256 .f32) → arg0.IsWhole → (arg1 : Memref sig .tc .hbm S4096x2048 .f32) → arg1.IsWhole
    → (arg2 : Memref sig .tc .vmem S256x2048 .f32) → arg2.IsWhole → (arg3 : Memref sig .tc .vmem S4096x256 .bf16) → arg3.IsWhole
    → (arg4 : Memref sig .tc .vmem S16x256x256 .bf16) → arg4.IsWhole → (arg5 : Memref sig .tc .vmem S4x256x2048 .f32) → arg5.IsWhole
    → (arg6 : Memref sig .tc .vmem S16x8x128 .f32) → arg6.IsWhole → DmaSems sig S16 → DmaSems sig S16 → DmaSems sig S16 → DmaSems sig S16
    → DmaSems sig S4 → DmaSems sig S_ → β) : β :=
  f xM (Memref.isWhole_whole _) wM (Memref.isWhole_whole _) oM (Memref.isWhole_whole _) bM (Memref.isWhole_whole _) gM (Memref.isWhole_whole _)
    vM (Memref.isWhole_whole _) aM (Memref.isWhole_whole _) cc0_scratch4 cc0_scratch5 cc0_scratch6 cc0_scratch7 cc0_scratch8 cc0_scratch9

theorem Runs.fin {c : Dev nD} {α : Type} {P P' : sProp 𝕄} {r : α} {φ : α → Prop} (h : φ r) (hP : P ⊢ P') :
    Runs m K c P (.ret r) (fun r => iprop(⌜φ r⌝ ∗ P')) :=
  .ret (by
    iintro HP
    isplitr; · ipureintro; exact h
    iapply hP; iexact HP)

theorem Step.frame {c : Dev nD} {β : Type} {P P' : sProp 𝕄} {e : TpuEff nD τ sig (Elt F) Λ₀ .tc β} {v : β}
    (h : Step m K c P e P' v) (G : sProp 𝕄) : Step m K c iprop(P ∗ G) e iprop(P' ∗ G) v := by
  intro α Q cont
  iintro ⟨#Hctx, HP, HG⟩ Hk
  iapply (h α Q cont) $$ [HP]
  · isplitr; · iexact Hctx
    iexact HP
  iintro HP
  iapply Hk
  isplitl [HP]; · iexact HP
  iexact HG

theorem Step.conv {c : Dev nD} {β : Type} {P P' R R' : sProp 𝕄} {e : TpuEff nD τ sig (Elt F) Λ₀ .tc β} {v : β}
    (h : Step m K c P e P' v) (hR : R ⊢ P) (hR' : P' ⊢ R') : Step m K c R e R' v := by
  intro α Q cont
  iintro ⟨#Hctx, HP⟩ Hk
  iapply (h α Q cont) $$ [HP]
  · isplitr; · iexact Hctx
    iapply hR; iexact HP
  iintro HP
  iapply Hk
  iapply hR'; iexact HP

variable {m K} in
theorem Runs.opf {c : Dev nD} {α β : Type} {P A A' G : sProp 𝕄} {e : TpuEff nD τ sig (Elt F) Λ₀ .tc β} {v : β}
    {cont : β → Prog (TpuEff nD τ sig (Elt F) Λ₀ .tc) α} {R : α → sProp 𝕄}
    (hP : P ⊢ iprop(A ∗ G)) (h : Step m K c A e A' v)
    (next : Runs m K c iprop(A' ∗ G) (cont v) R) : Runs m K c P (.op e cont) R :=
  .pre hP (.op (h.frame m K G) next)

variable {m K} in
theorem Runs.seq {c : Dev nD} {α β : Type} {P A G : sProp 𝕄} {p : Prog (TpuEff nD τ sig (Elt F) Λ₀ .tc) α} {R : α → sProp 𝕄}
    {k : α → Prog (TpuEff nD τ sig (Elt F) Λ₀ .tc) β} {R' : β → sProp 𝕄}
    (hP : P ⊢ iprop(A ∗ G)) (h : Runs m K c A p R) (next : ∀ r, Runs m K c iprop(R r ∗ G) (k r) R') : Runs m K c P (p >>= k) R' :=
  .pre hP (.bind (h.frame G) next)

variable {m K} in
theorem Runs.seqf {c : Dev nD} {α β : Type} {P A A' G : sProp 𝕄} {φ : α → Prop} {p : Prog (TpuEff nD τ sig (Elt F) Λ₀ .tc) α}
    {k : α → Prog (TpuEff nD τ sig (Elt F) Λ₀ .tc) β} {R' : β → sProp 𝕄}
    (hP : P ⊢ iprop(A ∗ G)) (h : Runs m K c A p (fun r => iprop(⌜φ r⌝ ∗ A')))
    (next : ∀ r, φ r → Runs m K c iprop(A' ∗ G) (k r) R') : Runs m K c P (p >>= k) R' :=
  .seq hP h fun r => .pre Laws.sep_assoc.1 (.fact (next r))

variable {m K} in
theorem Runs.ex {c : Dev nD} {α ι : Type} {P : ι → sProp 𝕄} {p : Prog (TpuEff nD τ sig (Elt F) Λ₀ .tc) α} {R : α → sProp 𝕄}
    (h : ∀ i, Runs m K c (P i) p R) : Runs m K c iprop(∃ i, P i) p R := by
  intro Q
  iintro ⟨#Hctx, %i, HP⟩
  iapply (h i Q)
  isplitr; · iexact Hctx
  iexact HP

end Cert.MeshRun
-- ==== Proof.Stages.lean ====
/-
# The kernel's operations by distance

Each kind of operation the kernel does once per distance, spelt as it is printed.
-/
module

public import proofs.«01_k».proof.Proof.Runs
public import Idealize.SL.BI.BigOpNat

@[expose] public section

set_option maxRecDepth 8000

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (K : Dev nD × Kd → ℕ)

theorem send_sem_of (i : Fin 16) {o : Fin 1 → ℕ} (h : o = ![i.val]) {b : ∀ a, o a + S1.size a ≤ S16.size a} :
    SemLoc.dma ((cc0_scratch4.slice (Rect.unit (s := S16) o S1.size b)).squeeze S_ squeezes_S1_S_).sem = (Kd.send i).sem := by
  subst h; exact send_sem_at i
theorem recv_sem_of (i : Fin 16) {o : Fin 1 → ℕ} (h : o = ![i.val]) {b : ∀ a, o a + S1.size a ≤ S16.size a} :
    SemLoc.dma ((cc0_scratch5.slice (Rect.unit (s := S16) o S1.size b)).squeeze S_ squeezes_S1_S_).sem = (Kd.recv i).sem := by
  subst h; exact recv_sem_at i
theorem asend_sem_of (i : Fin 16) {o : Fin 1 → ℕ} (h : o = ![i.val]) {b : ∀ a, o a + S1.size a ≤ S16.size a} :
    SemLoc.dma ((cc0_scratch6.slice (Rect.unit (s := S16) o S1.size b)).squeeze S_ squeezes_S1_S_).sem = (Kd.asend i).sem := by
  subst h; exact asend_sem_at i
theorem arecv_sem_of (i : Fin 16) {o : Fin 1 → ℕ} (h : o = ![i.val]) {b : ∀ a, o a + S1.size a ≤ S16.size a} :
    SemLoc.dma ((cc0_scratch7.slice (Rect.unit (s := S16) o S1.size b)).squeeze S_ squeezes_S1_S_).sem = (Kd.arecv i).sem := by
  subst h; exact arecv_sem_at i
theorem wsem_sem_of (i : Fin 4) {o : Fin 1 → ℕ} (h : o = ![i.val]) {b : ∀ a, o a + S1.size a ≤ S4.size a} :
    SemLoc.dma ((cc0_scratch8.slice (Rect.unit (s := S4) o S1.size b)).squeeze S_ squeezes_S1_S_).sem = (Kd.wsem i).sem := by
  subst h; exact wsem_sem_at i

theorem dist_lt (r : Fin 15) : 1 + r.val < 16 := by omega
theorem one_le_dist (r : Fin 15) : 1 ≤ 1 + r.val := by omega

/-! ## Each operation of the kernel, at the distance it works for -/

theorem signalS (c : Dev nD) {O : CellTallies nD τ sig Unit} (r : Fin 15) {dv : Dev nD} (hdv : dv.val = (peer c (1 + r.val)).val) :
    Step m K c (SigSt (F := F) c O (1 + r.val)) (.semSignal (dv : Thread nD τ) barS (1#32).toInt) (SigSt (F := F) c O (1 + r.val + 1)) ⟨⟩ :=
  fun _ _ _ => step_signal m K c (1 + r.val) (one_le_dist r) (dist_lt r) (Fin.ext hdv) rfl

theorem sendS (c : Dev nD) (r : Fin 15) {dv : Dev nD} (hdv : dv.val = (peer c (1 + r.val)).val)
    {b6 : ∀ a, k0_off6 c (BitVec.ofNat 32 (1 + r.val)) a + S256x256.size a ≤ S4096x256.size a}
    {b5 : ∀ a, k0_off5 c a + S1x256x256.size a ≤ S16x256x256.size a}
    {b3 : ∀ a, k0_off3 c (BitVec.ofNat 32 (1 + r.val)) a + S1.size a ≤ S16.size a} {b4 : ∀ a, k0_off4 c a + S1.size a ≤ S16.size a}
    {hsc : ((gM.slice (Rect.unit (s := S16x256x256) (k0_off5 c) S1x256x256.size b5) (fun _ => rfl)).squeeze S256x256 squeezes_S1x256x256_S256x256 :
      Memref sig (Dev.tc dv : Thread nD τ).2.kind .vmem S256x256 .bf16).view.ref.isScScratch = false}
    {hsrc : (bM.slice (Rect.unit (s := S4096x256) (k0_off6 c (BitVec.ofNat 32 (1 + r.val))) S256x256.size b6) (fun _ => rfl)).view.WordExact}
    {hdst : ((gM.slice (Rect.unit (s := S16x256x256) (k0_off5 c) S1x256x256.size b5) (fun _ => rfl)).squeeze S256x256 squeezes_S1x256x256_S256x256).view.WordExact}
    {hsem : DmaTarget.Typed .vmem (SemLoc.dma ((cc0_scratch5.slice (Rect.unit (s := S16) (k0_off4 c) S1.size b4)).squeeze S_ squeezes_S1_S_).sem) (.remote (Dev.tc dv : Thread nD τ)
      ((gM.slice (Rect.unit (s := S16x256x256) (k0_off5 c) S1x256x256.size b5) (fun _ => rfl)).squeeze S256x256 squeezes_S1x256x256_S256x256)
      (SemLoc.dma ((cc0_scratch4.slice (Rect.unit (s := S16) (k0_off3 c (BitVec.ofNat 32 (1 + r.val))) S1.size b3)).squeeze S_ squeezes_S1_S_).sem) hsc)} :
    Step m K c (SendSt m c (1 + r.val))
      (.enqueueDma (bM.slice (Rect.unit (s := S4096x256) (k0_off6 c (BitVec.ofNat 32 (1 + r.val))) S256x256.size b6) (fun _ => rfl))
        (.remote (Dev.tc dv : Thread nD τ) ((gM.slice (Rect.unit (s := S16x256x256) (k0_off5 c) S1x256x256.size b5) (fun _ => rfl)).squeeze S256x256 squeezes_S1x256x256_S256x256)
          (SemLoc.dma ((cc0_scratch4.slice (Rect.unit (s := S16) (k0_off3 c (BitVec.ofNat 32 (1 + r.val))) S1.size b3)).squeeze S_ squeezes_S1_S_).sem) hsc)
        (SemLoc.dma ((cc0_scratch5.slice (Rect.unit (s := S16) (k0_off4 c) S1.size b4)).squeeze S_ squeezes_S1_S_).sem) hsrc hdst hsem)
      (SendSt m c (1 + r.val + 1)) ⟨⟩ :=
  fun _ _ _ => step_send m K c (1 + r.val) (one_le_dist r) (dist_lt r) (Fin.ext hdv) (off6_at r c) (k0_off5_eq c)
    (send_sem_of _ (off3_at r c)) (recv_sem_of c (k0_off4_eq c))

theorem asendS (c : Dev nD) (r : Fin 15) {dv : Dev nD} (hdv : dv.val = (peer c (1 + r.val)).val)
    {ba bd : ∀ a, k0_off13 c a + S1x8x128.size a ≤ S16x8x128.size a}
    {b3 : ∀ a, k0_off3 c (BitVec.ofNat 32 (1 + r.val)) a + S1.size a ≤ S16.size a} {b4 : ∀ a, k0_off4 c a + S1.size a ≤ S16.size a}
    {hsc : ((aM.slice (Rect.unit (s := S16x8x128) (k0_off13 c) S1x8x128.size bd) (fun _ => rfl)).squeeze S8x128 squeezes_S1x8x128_S8x128 :
      Memref sig (Dev.tc dv : Thread nD τ).2.kind .vmem S8x128 .f32).view.ref.isScScratch = false}
    {hsrc : ((aM.slice (Rect.unit (s := S16x8x128) (k0_off13 c) S1x8x128.size ba) (fun _ => rfl)).squeeze S8x128 squeezes_S1x8x128_S8x128).view.WordExact}
    {hdst : ((aM.slice (Rect.unit (s := S16x8x128) (k0_off13 c) S1x8x128.size bd) (fun _ => rfl)).squeeze S8x128 squeezes_S1x8x128_S8x128).view.WordExact}
    {hsem : DmaTarget.Typed .vmem (SemLoc.dma ((cc0_scratch7.slice (Rect.unit (s := S16) (k0_off4 c) S1.size b4)).squeeze S_ squeezes_S1_S_).sem) (.remote (Dev.tc dv : Thread nD τ)
      ((aM.slice (Rect.unit (s := S16x8x128) (k0_off13 c) S1x8x128.size bd) (fun _ => rfl)).squeeze S8x128 squeezes_S1x8x128_S8x128)
      (SemLoc.dma ((cc0_scratch6.slice (Rect.unit (s := S16) (k0_off3 c (BitVec.ofNat 32 (1 + r.val))) S1.size b3)).squeeze S_ squeezes_S1_S_).sem) hsc)} :
    Step m K c (ASt m c (1 + r.val))
      (.enqueueDma ((aM.slice (Rect.unit (s := S16x8x128) (k0_off13 c) S1x8x128.size ba) (fun _ => rfl)).squeeze S8x128 squeezes_S1x8x128_S8x128)
        (.remote (Dev.tc dv : Thread nD τ) ((aM.slice (Rect.unit (s := S16x8x128) (k0_off13 c) S1x8x128.size bd) (fun _ => rfl)).squeeze S8x128 squeezes_S1x8x128_S8x128)
          (SemLoc.dma ((cc0_scratch6.slice (Rect.unit (s := S16) (k0_off3 c (BitVec.ofNat 32 (1 + r.val))) S1.size b3)).squeeze S_ squeezes_S1_S_).sem) hsc)
        (SemLoc.dma ((cc0_scratch7.slice (Rect.unit (s := S16) (k0_off4 c) S1.size b4)).squeeze S_ squeezes_S1_S_).sem) hsrc hdst hsem)
      (ASt m c (1 + r.val + 1)) ⟨⟩ :=
  fun _ _ _ => step_asend m K c (1 + r.val) (one_le_dist r) (dist_lt r) (Fin.ext hdv) (k0_off13_eq c) (k0_off13_eq c)
    (asend_sem_of _ (off3_at r c)) (arecv_sem_of c (k0_off4_eq c))

/-- Starting the fetch of the rows of the device at a distance. -/
theorem startS (c : Dev nD) (r : Fin 15) {l f : ℕ} (hl : l ≤ 1 + r.val) (hf : 1 + r.val < f)
    {bw : ∀ a, k0_off2 c (BitVec.ofNat 32 (1 + r.val)) a + S256x2048.size a ≤ S4096x2048.size a}
    {ov : Fin 3 → ℕ} (hov : ov = ![(wi (1 + r.val)).val, 0, 0]) {bv : ∀ a, ov a + S1x256x2048.size a ≤ S4x256x2048.size a}
    {os : Fin 1 → ℕ} (hos : os = ![(wi (1 + r.val)).val]) {bs : ∀ a, os a + S1.size a ≤ S4.size a}
    {hsrc : (wM.slice (Rect.unit (s := S4096x2048) (k0_off2 c (BitVec.ofNat 32 (1 + r.val))) S256x2048.size bw) (fun _ => rfl)).view.WordExact}
    {hdst : ((vM.slice (Rect.unit (s := S4x256x2048) ov S1x256x2048.size bv) (fun _ => rfl)).squeeze S256x2048 squeezes_S1x256x2048_S256x2048).view.WordExact}
    {hsem : DmaTarget.Typed (nD := nD) (τ := τ) .hbm (SemLoc.dma ((cc0_scratch8.slice (Rect.unit (s := S4) os S1.size bs)).squeeze S_ squeezes_S1_S_).sem)
      (DmaTarget.here (p := (c : Thread nD τ).2) ((vM.slice (Rect.unit (s := S4x256x2048) ov S1x256x2048.size bv) (fun _ => rfl)).squeeze S256x2048 squeezes_S1x256x2048_S256x2048))} :
    Step m K c (WSt m c (1 + r.val) l f)
      (.enqueueDma (wM.slice (Rect.unit (s := S4096x2048) (k0_off2 c (BitVec.ofNat 32 (1 + r.val))) S256x2048.size bw) (fun _ => rfl))
        (.here ((vM.slice (Rect.unit (s := S4x256x2048) ov S1x256x2048.size bv) (fun _ => rfl)).squeeze S256x2048 squeezes_S1x256x2048_S256x2048))
        (SemLoc.dma ((cc0_scratch8.slice (Rect.unit (s := S4) os S1.size bs)).squeeze S_ squeezes_S1_S_).sem) hsrc hdst hsem)
      (WSt m c (1 + r.val + 1) l f) ⟨⟩ :=
  fun _ _ _ => step_wstart m K c (1 + r.val) l f (dist_lt r) hl hf (off2_at r c) hov (wsem_sem_of _ hos)

/-- What the device holds in the middle of the run: `n` fetches started, `l` over, slots free up to fetch `f`; blocks from up to distance `k - 1` arrived. -/
def Loop (c : Dev nD) (n l f k : ℕ) : sProp 𝕄 :=
  iprop(WSt m c n l f ∗ Owe (F := F) c (OA c 1) ∗ WaitSt m c (fun k => .recv (src c k)) k)

theorem recvS (c : Dev nD) (r : Fin 15) {n l f : ℕ} {b9 : ∀ a, k0_off9 c (BitVec.ofNat 32 (1 + r.val)) a + S1.size a ≤ S16.size a}
    {b b' : ∀ a, k0_off10 c (BitVec.ofNat 32 (1 + r.val)) a + S1x256x256.size a ≤ S16x256x256.size a}
    {h₁ : ((gM.slice (Rect.unit (s := S16x256x256) (k0_off10 c (BitVec.ofNat 32 (1 + r.val))) S1x256x256.size b) (fun _ => rfl)).squeeze S256x256 squeezes_S1x256x256_S256x256).view.WordExact}
    {h₂ : ((gM.slice (Rect.unit (s := S16x256x256) (k0_off10 c (BitVec.ofNat 32 (1 + r.val))) S1x256x256.size b') (fun _ => rfl)).squeeze S256x256 squeezes_S1x256x256_S256x256).view.WordExact} :
    Step m K c (Loop m c n l f (1 + r.val))
      (.waitDma2 ((cc0_scratch5.slice (Rect.unit (s := S16) (k0_off9 c (BitVec.ofNat 32 (1 + r.val))) S1.size b9)).squeeze S_ squeezes_S1_S_).sem
        ((gM.slice (Rect.unit (s := S16x256x256) (k0_off10 c (BitVec.ofNat 32 (1 + r.val))) S1x256x256.size b) (fun _ => rfl)).squeeze S256x256 squeezes_S1x256x256_S256x256)
        ((gM.slice (Rect.unit (s := S16x256x256) (k0_off10 c (BitVec.ofNat 32 (1 + r.val))) S1x256x256.size b') (fun _ => rfl)).squeeze S256x256 squeezes_S1x256x256_S256x256) h₁ h₂)
      (Loop m c n l f (1 + r.val + 1)) ⟨⟩ := by
  have hN : ((gM.slice (Rect.unit (s := S16x256x256) (k0_off10 c (BitVec.ofNat 32 (1 + r.val))) S1x256x256.size b') (fun _ => rfl)).squeeze S256x256 squeezes_S1x256x256_S256x256).view.dmaCredit
      = kdAmount (.recv (src c (1 + r.val))) := by
    rw [kdAmount_recv]
    revert b'
    rw [off10_at r c]
    exact fun {b'} _ => credit_g _
  intro α Q cont
  unfold Loop
  iintro ⟨#Hctx, HW, HO, Hr⟩ Hk
  iapply (step_waits m K c (fun k => .recv (src c k)) (1 + r.val) (one_le_dist r) (dist_lt r)
    (by dsimp only [kdDuties]; exact if_pos ⟨rfl, src_ne c (one_le_dist r) (dist_lt r)⟩) (fun i h => by cases h)
    (recv_sem_of _ (off9_at r c)) hN (n := 2) (le_refl _) (above_OA c 1 (by decide))) $$ [HO Hr]
  · isplitr; · iexact Hctx
    isplitl [HO]; · iexact HO
    iexact Hr
  iintro ⟨HO, Hr⟩
  iapply Hk
  isplitl [HW]; · iexact HW
  isplitl [HO]; · iexact HO
  iexact Hr

theorem fetchedS (c : Dev nD) (l : ℕ) {n f k : ℕ} (hl : l < n) (hl' : l < 16)
    {os : Fin 1 → ℕ} (hos : os = ![(wi l).val]) {bs : ∀ a, os a + S1.size a ≤ S4.size a}
    {sp : Space} {s : Shape} {e : EltTy} {src : Memref sig .tc sp s e}
    {ov : Fin 3 → ℕ} (hov : ov = ![(wi l).val, 0, 0]) {bv : ∀ a, ov a + S1x256x2048.size a ≤ S4x256x2048.size a}
    {h₁ : src.view.WordExact} {h₂ : ((vM.slice (Rect.unit (s := S4x256x2048) ov S1x256x2048.size bv) (fun _ => rfl)).squeeze S256x2048 squeezes_S1x256x2048_S256x2048).view.WordExact} :
    Step m K c (Loop m c n l f k)
      (.waitDma2 ((cc0_scratch8.slice (Rect.unit (s := S4) os S1.size bs)).squeeze S_ squeezes_S1_S_).sem src
        ((vM.slice (Rect.unit (s := S4x256x2048) ov S1x256x2048.size bv) (fun _ => rfl)).squeeze S256x2048 squeezes_S1x256x2048_S256x2048) h₁ h₂)
      iprop(WHeld m c l ∗ Loop m c n (l + 1) f k) ⟨⟩ := by
  intro α Q cont
  unfold Loop
  iintro ⟨#Hctx, HW, HO, Hr⟩ Hk
  iapply (step_wwait m K c n l f hl hl' (above_OA c 1 (by decide)) (wsem_sem_of _ hos) hov) $$ [HW HO]
  · isplitr; · iexact Hctx
    isplitl [HO]; · iexact HO
    iexact HW
  iintro ⟨HO, HW, Hh⟩
  iapply Hk
  isplitl [Hh]; · iexact Hh
  isplitl [HW]; · iexact HW
  isplitl [HO]; · iexact HO
  iexact Hr

theorem loadWS (c : Dev nD) (l : ℕ) {n l' k : ℕ} (hn : n ≤ l + 4)
    {ov : Fin 3 → ℕ} (hov : ov = ![(wi l).val, 0, 0]) {bv : ∀ a, ov a + S1x256x2048.size a ≤ S4x256x2048.size a}
    {hl : vM.view.LoadsAt (Rect.unit (s := S4x256x2048) ov S1x256x2048.size bv).toLoadRect} :
    Step m K c iprop(WHeld m c l ∗ Loop m c n l' (l + 4) k) (.load vM (Rect.unit (s := S4x256x2048) ov S1x256x2048.size bv).toLoadRect hl)
      (Loop m c n l' (l + 4 + 1) k) (ldW m c l) := by
  intro α Q cont
  unfold Loop
  iintro ⟨#Hctx, Hh, HW, HO, Hr⟩ Hk
  iapply (step_wload m c n l l' (l + 4) rfl hn hov) $$ [HW Hh]
  · isplitl [HW]; · iexact HW
    iexact Hh
  iintro HW
  iapply Hk
  isplitl [HW]; · iexact HW
  isplitl [HO]; · iexact HO
  iexact Hr

theorem loadXS (c : Dev nD) (r : Fin 15) {n l f k : ℕ} (hk : 1 + r.val < k)
    {bg : ∀ a, k0_off11 c (BitVec.ofNat 32 (1 + r.val)) a + S1x256x256.size a ≤ S16x256x256.size a}
    {hl : gM.view.LoadsAt (Rect.unit (s := S16x256x256) (k0_off11 c (BitVec.ofNat 32 (1 + r.val))) S1x256x256.size bg).toLoadRect} :
    Step m K c (Loop m c n l f k) (.load gM (Rect.unit (s := S16x256x256) (k0_off11 c (BitVec.ofNat 32 (1 + r.val))) S1x256x256.size bg).toLoadRect hl)
      (Loop m c n l f k) (ldX m c (1 + r.val)) := by
  intro α Q cont
  unfold Loop
  iintro ⟨#Hctx, HW, HO, Hr⟩ Hk
  iapply (step_xload m c k (1 + r.val) (one_le_dist r) hk (off11_at r c)) $$ Hr
  iintro Hr
  iapply Hk
  isplitl [HW]; · iexact HW
  isplitl [HO]; · iexact HO
  iexact Hr

theorem nextS (c : Dev nD) (r : Fin 15) {l f k : ℕ} (hl : l ≤ 1 + r.val) (hf : 1 + r.val < f)
    {bw : ∀ a, k0_off2 c (BitVec.ofNat 32 (1 + r.val)) a + S256x2048.size a ≤ S4096x2048.size a}
    {ov : Fin 3 → ℕ} (hov : ov = ![(wi (1 + r.val)).val, 0, 0]) {bv : ∀ a, ov a + S1x256x2048.size a ≤ S4x256x2048.size a}
    {os : Fin 1 → ℕ} (hos : os = ![(wi (1 + r.val)).val]) {bs : ∀ a, os a + S1.size a ≤ S4.size a}
    {hsrc : (wM.slice (Rect.unit (s := S4096x2048) (k0_off2 c (BitVec.ofNat 32 (1 + r.val))) S256x2048.size bw) (fun _ => rfl)).view.WordExact}
    {hdst : ((vM.slice (Rect.unit (s := S4x256x2048) ov S1x256x2048.size bv) (fun _ => rfl)).squeeze S256x2048 squeezes_S1x256x2048_S256x2048).view.WordExact}
    {hsem : DmaTarget.Typed (nD := nD) (τ := τ) .hbm (SemLoc.dma ((cc0_scratch8.slice (Rect.unit (s := S4) os S1.size bs)).squeeze S_ squeezes_S1_S_).sem)
      (DmaTarget.here (p := (c : Thread nD τ).2) ((vM.slice (Rect.unit (s := S4x256x2048) ov S1x256x2048.size bv) (fun _ => rfl)).squeeze S256x2048 squeezes_S1x256x2048_S256x2048))} :
    Step m K c (Loop m c (1 + r.val) l f k)
      (.enqueueDma (wM.slice (Rect.unit (s := S4096x2048) (k0_off2 c (BitVec.ofNat 32 (1 + r.val))) S256x2048.size bw) (fun _ => rfl))
        (.here ((vM.slice (Rect.unit (s := S4x256x2048) ov S1x256x2048.size bv) (fun _ => rfl)).squeeze S256x2048 squeezes_S1x256x2048_S256x2048))
        (SemLoc.dma ((cc0_scratch8.slice (Rect.unit (s := S4) os S1.size bs)).squeeze S_ squeezes_S1_S_).sem) hsrc hdst hsem)
      (Loop m c (1 + r.val + 1) l f k) ⟨⟩ :=
  (startS m K c r hl hf hov hos).frame m K _

/-- Waiting for the maximum of the device at a distance. -/
theorem arecvS (c : Dev nD) (r : Fin 15) {b9 : ∀ a, k0_off9 c (BitVec.ofNat 32 (1 + r.val)) a + S1.size a ≤ S16.size a}
    {b b' : ∀ a, k0_off14 c (BitVec.ofNat 32 (1 + r.val)) a + S1x8x128.size a ≤ S16x8x128.size a}
    {h₁ : ((aM.slice (Rect.unit (s := S16x8x128) (k0_off14 c (BitVec.ofNat 32 (1 + r.val))) S1x8x128.size b) (fun _ => rfl)).squeeze S8x128 squeezes_S1x8x128_S8x128).view.WordExact}
    {h₂ : ((aM.slice (Rect.unit (s := S16x8x128) (k0_off14 c (BitVec.ofNat 32 (1 + r.val))) S1x8x128.size b') (fun _ => rfl)).squeeze S8x128 squeezes_S1x8x128_S8x128).view.WordExact} :
    Step m K c iprop(Owe (F := F) c 0 ∗ WaitSt m c (fun k => .arecv (src c k)) (1 + r.val))
      (.waitDma2 ((cc0_scratch7.slice (Rect.unit (s := S16) (k0_off9 c (BitVec.ofNat 32 (1 + r.val))) S1.size b9)).squeeze S_ squeezes_S1_S_).sem
        ((aM.slice (Rect.unit (s := S16x8x128) (k0_off14 c (BitVec.ofNat 32 (1 + r.val))) S1x8x128.size b) (fun _ => rfl)).squeeze S8x128 squeezes_S1x8x128_S8x128)
        ((aM.slice (Rect.unit (s := S16x8x128) (k0_off14 c (BitVec.ofNat 32 (1 + r.val))) S1x8x128.size b') (fun _ => rfl)).squeeze S8x128 squeezes_S1x8x128_S8x128) h₁ h₂)
      iprop(Owe (F := F) c 0 ∗ WaitSt m c (fun k => .arecv (src c k)) (1 + r.val + 1)) ⟨⟩ := by
  have hN : ((aM.slice (Rect.unit (s := S16x8x128) (k0_off14 c (BitVec.ofNat 32 (1 + r.val))) S1x8x128.size b') (fun _ => rfl)).squeeze S8x128 squeezes_S1x8x128_S8x128).view.dmaCredit
      = kdAmount (.arecv (src c (1 + r.val))) := by
    rw [kdAmount_arecv]
    revert b'
    rw [off14_at r c]
    exact fun {b'} _ => credit_a _
  exact fun _ _ _ => step_waits m K c (fun k => .arecv (src c k)) (1 + r.val) (one_le_dist r) (dist_lt r)
    (by dsimp only [kdDuties]; exact if_pos ⟨rfl, src_ne c (one_le_dist r) (dist_lt r)⟩) (fun i h => by cases h)
    (arecv_sem_of _ (off9_at r c)) hN (n := 3) (le_refl _) (above_zero 3)

/-- Waiting for a block of `x` to have left. -/
theorem sentS (c : Dev nD) (r : Fin 15) {b3 : ∀ a, k0_off3 c (BitVec.ofNat 32 (1 + r.val)) a + S1.size a ≤ S16.size a}
    {sp : Space} {s : Shape} {e : EltTy} {src : Memref sig .tc sp s e}
    {b6 : ∀ a, k0_off6 c (BitVec.ofNat 32 (1 + r.val)) a + S256x256.size a ≤ S4096x256.size a}
    {h₁ : src.view.WordExact} {h₂ : (bM.slice (Rect.unit (s := S4096x256) (k0_off6 c (BitVec.ofNat 32 (1 + r.val))) S256x256.size b6) (fun _ => rfl)).view.WordExact} :
    Step m K c iprop(Owe (F := F) c 0 ∗ WaitSt m c (fun k => .send (peer c k)) (1 + r.val))
      (.waitDma2 ((cc0_scratch4.slice (Rect.unit (s := S16) (k0_off3 c (BitVec.ofNat 32 (1 + r.val))) S1.size b3)).squeeze S_ squeezes_S1_S_).sem
        src (bM.slice (Rect.unit (s := S4096x256) (k0_off6 c (BitVec.ofNat 32 (1 + r.val))) S256x256.size b6) (fun _ => rfl)) h₁ h₂)
      iprop(Owe (F := F) c 0 ∗ WaitSt m c (fun k => .send (peer c k)) (1 + r.val + 1)) ⟨⟩ := by
  have hN : (bM.slice (Rect.unit (s := S4096x256) (k0_off6 c (BitVec.ofNat 32 (1 + r.val))) S256x256.size b6) (fun _ => rfl)).view.dmaCredit
      = kdAmount (.send (peer c (1 + r.val))) := by
    rw [kdAmount_send]
    revert b6
    rw [off6_at r c]
    exact fun {b6} _ => credit_b _
  exact fun _ _ _ => step_waits m K c (fun k => .send (peer c k)) (1 + r.val) (one_le_dist r) (dist_lt r)
    (by dsimp only [kdDuties]; exact if_pos ⟨rfl, peer_ne c (one_le_dist r) (dist_lt r)⟩) (fun i h => by cases h)
    (send_sem_of _ (off3_at r c)) hN (n := kdLev (.send (peer c (1 + r.val)))) (le_refl _) (above_zero _)

/-- Waiting for a maximum to have left. -/
theorem asentS (c : Dev nD) (r : Fin 15) {b3 : ∀ a, k0_off3 c (BitVec.ofNat 32 (1 + r.val)) a + S1.size a ≤ S16.size a}
    {sp : Space} {s : Shape} {e : EltTy} {src : Memref sig .tc sp s e}
    {ba : ∀ a, k0_off13 c a + S1x8x128.size a ≤ S16x8x128.size a}
    {h₁ : src.view.WordExact} {h₂ : ((aM.slice (Rect.unit (s := S16x8x128) (k0_off13 c) S1x8x128.size ba) (fun _ => rfl)).squeeze S8x128 squeezes_S1x8x128_S8x128).view.WordExact} :
    Step m K c iprop(Owe (F := F) c 0 ∗ WaitSt m c (fun k => .asend (peer c k)) (1 + r.val))
      (.waitDma2 ((cc0_scratch6.slice (Rect.unit (s := S16) (k0_off3 c (BitVec.ofNat 32 (1 + r.val))) S1.size b3)).squeeze S_ squeezes_S1_S_).sem
        src ((aM.slice (Rect.unit (s := S16x8x128) (k0_off13 c) S1x8x128.size ba) (fun _ => rfl)).squeeze S8x128 squeezes_S1x8x128_S8x128) h₁ h₂)
      iprop(Owe (F := F) c 0 ∗ WaitSt m c (fun k => .asend (peer c k)) (1 + r.val + 1)) ⟨⟩ := by
  have hN : ((aM.slice (Rect.unit (s := S16x8x128) (k0_off13 c) S1x8x128.size ba) (fun _ => rfl)).squeeze S8x128 squeezes_S1x8x128_S8x128).view.dmaCredit
      = kdAmount (.asend (peer c (1 + r.val))) := by
    rw [kdAmount_asend]
    revert ba
    rw [k0_off13_eq c]
    exact fun {ba} _ => credit_a c
  exact fun _ _ _ => step_waits m K c (fun k => .asend (peer c k)) (1 + r.val) (one_le_dist r) (dist_lt r)
    (by dsimp only [kdDuties]; exact if_pos ⟨rfl, peer_ne c (one_le_dist r) (dist_lt r)⟩) (fun i h => by cases h)
    (asend_sem_of _ (off3_at r c)) hN (n := kdLev (.asend (peer c (1 + r.val)))) (le_refl _) (above_zero _)

end Cert.MeshRun
-- ==== Proof.Signals.lean ====
/-
# The first stretches: fetches, signals, the cast of `x`, the barrier
-/
module

public import proofs.«01_k».proof.Proof.Stages
public import Idealize.SL.BI.BigOpNat

@[expose] public section

set_option maxRecDepth 8000

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (K : Dev nD × Kd → ℕ)

/-! ## Starting up -/

/-- The device's number comes first. -/
theorem part1 (c : Dev nD) {P : sProp 𝕄} :
    Runs m K c P (onArgs (k0_part1 (F := F))) (fun r => iprop(⌜r.1 = c⌝ ∗ P)) := by
  dsimp only [onArgs]
  simp only [k0_part1_eq_skeleton]; unfold k0_part1_skel
  simp only [Prog.lift, Prog.bind_op, Prog.bind_ret, Prog.pure_eq_ret]
  exact .deviceId (.fin m K (φ := fun r : Σ' (d0 : Dev nD) (v2 : BitVec 32) (v13 : BitVec 32) (v24 : BitVec 32), BitVec 32 => r.1 = c) rfl (BI.Entails.refl _))

theorem part2 (c : Dev nD) {P : sProp 𝕄} (w0 : BitVec 32) :
    Runs m K c P (onArgs (k0_part2 (F := F)) w0) (fun _ => P) := by
  dsimp only [onArgs]
  simp only [k0_part2_eq_skeleton]; unfold k0_part2_skel
  simp only [Prog.pure_eq_ret]
  exact .ret (BI.Entails.refl _)

theorem part3 (c : Dev nD) {P : sProp 𝕄} (w0 w1 w2 : BitVec 32) (w3 : BitVec 1) (w4 : BitVec 32) :
    Runs m K c P (onArgs (k0_part3 (F := F)) w0 w1 w2 w3 w4) (fun _ => P) := by
  dsimp only [onArgs]
  simp only [k0_part3_eq_skeleton]; unfold k0_part3_skel
  simp only [Prog.pure_eq_ret]
  exact .ret (BI.Entails.refl _)

theorem part4 (c : Dev nD) {P : sProp 𝕄} (w0 w1 w2 : BitVec 32) (w3 w4 : BitVec 1) :
    Runs m K c P (onArgs (k0_part4 (F := F)) w0 w1 w2 w3 w4) (fun _ => P) := by
  dsimp only [onArgs]
  simp only [k0_part4_eq_skeleton]; unfold k0_part4_skel
  simp only [Prog.pure_eq_ret]
  exact .ret (BI.Entails.refl _)

/-- The first fetch, of the device's own rows. -/
theorem startS0 (c : Dev nD)
    {bw : ∀ a, k0_off1 c a + S256x2048.size a ≤ S4096x2048.size a}
    {ov : Fin 3 → ℕ} (hov : ov = ![0, 0, 0]) {bv : ∀ a, ov a + S1x256x2048.size a ≤ S4x256x2048.size a}
    {os : Fin 1 → ℕ} (hos : os = ![0]) {bs : ∀ a, os a + S1.size a ≤ S4.size a}
    {hsrc : (wM.slice (Rect.unit (s := S4096x2048) (k0_off1 c) S256x2048.size bw) (fun _ => rfl)).view.WordExact}
    {hdst : ((vM.slice (Rect.unit (s := S4x256x2048) ov S1x256x2048.size bv) (fun _ => rfl)).squeeze S256x2048 squeezes_S1x256x2048_S256x2048).view.WordExact}
    {hsem : DmaTarget.Typed (nD := nD) (τ := τ) .hbm (SemLoc.dma ((cc0_scratch8.slice (Rect.unit (s := S4) os S1.size bs)).squeeze S_ squeezes_S1_S_).sem)
      (DmaTarget.here (p := (c : Thread nD τ).2) ((vM.slice (Rect.unit (s := S4x256x2048) ov S1x256x2048.size bv) (fun _ => rfl)).squeeze S256x2048 squeezes_S1x256x2048_S256x2048))} :
    Step m K c (WSt m c 0 0 4)
      (.enqueueDma (wM.slice (Rect.unit (s := S4096x2048) (k0_off1 c) S256x2048.size bw) (fun _ => rfl))
        (.here ((vM.slice (Rect.unit (s := S4x256x2048) ov S1x256x2048.size bv) (fun _ => rfl)).squeeze S256x2048 squeezes_S1x256x2048_S256x2048))
        (SemLoc.dma ((cc0_scratch8.slice (Rect.unit (s := S4) os S1.size bs)).squeeze S_ squeezes_S1_S_).sem) hsrc hdst hsem)
      (WSt m c 1 0 4) ⟨⟩ :=
  fun _ _ _ => step_wstart m K c 0 0 4 (by decide) (le_refl _) (by decide) (by rw [src_zero]; exact k0_off1_eq c) hov (wsem_sem_of (wi 0) hos)

theorem part5 (c : Dev nD) (w0 w1 : BitVec 32) :
    Runs m K c (WSt m c 0 0 4) (onArgs (k0_part5 (F := F)) c w0 w1)
      (fun _ => WSt m c 1 0 4) := by
  dsimp only [onArgs]
  simp only [k0_part5_eq_skeleton]; unfold k0_part5_skel
  simp only [semSignalWord, semWaitWord, Prog.lift, Prog.bind_op, Prog.bind_ret, Prog.pure_eq_ret]
  refine .op (startS0 m K c rfl rfl) ?_
  exact .ret (BI.Entails.refl _)

theorem part6 (c : Dev nD) {O : CellTallies nD τ sig Unit} (w0 w1 w2 : BitVec 32) :
    Runs m K c iprop(WSt m c 1 0 4 ∗ SigSt (F := F) c O 1) (onArgs (k0_part6 (F := F)) c w0 w1 w2)
      (fun r => iprop(⌜r.1 = barA⌝ ∗ (WSt m c 4 0 4 ∗ SigSt (F := F) c O 2))) := by
  dsimp only [onArgs]
  simp only [k0_part6_eq_skeleton]; unfold k0_part6_skel
  simp only [semSignalWord, semWaitWord, Prog.lift, Prog.bind_op, Prog.bind_ret, Prog.pure_eq_ret]
  refine .op ((startS m K c 0 (Nat.zero_le _) (by decide) rfl rfl).frame m K _) ?_
  refine .op ((startS m K c 1 (Nat.zero_le _) (by decide) rfl rfl).frame m K _) ?_
  refine .op ((startS m K c 2 (Nat.zero_le _) (by decide) rfl rfl).frame m K _) ?_
  refine .opf (Laws.sep_symm) (signalS m K c 0 (sigTab_at 0 c)) ?_
  exact .fin m K (φ := fun r : Σ' (v192 : Sems sig S_) (v206 : BitVec 32), BitVec 32 => r.1 = barA) rfl Laws.sep_symm

/-! ## The signals -/

theorem part7 (c : Dev nD) {O : CellTallies nD τ sig Unit} (w0 w1 w2 : BitVec 32) :
    Runs m K c (SigSt (F := F) c O 2) (onArgs (k0_part7 (F := F)) c w0 barA w1 w2)
      (fun _ => SigSt (F := F) c O 4) := by
  dsimp only [onArgs]
  simp only [k0_part7_eq_skeleton]; unfold k0_part7_skel
  simp only [semSignalWord, semWaitWord, Prog.lift, Prog.bind_op, Prog.bind_ret, Prog.pure_eq_ret]
  refine .op (signalS m K c 1 (sigTab_at 1 c)) ?_
  refine .op (signalS m K c 2 (sigTab_at 2 c)) ?_
  exact .ret (BI.Entails.refl _)

theorem part8 (c : Dev nD) {O : CellTallies nD τ sig Unit} (w0 w1 : BitVec 32) :
    Runs m K c (SigSt (F := F) c O 4) (onArgs (k0_part8 (F := F)) c w0 barA w1)
      (fun _ => SigSt (F := F) c O 7) := by
  dsimp only [onArgs]
  simp only [k0_part8_eq_skeleton]; unfold k0_part8_skel
  simp only [semSignalWord, semWaitWord, Prog.lift, Prog.bind_op, Prog.bind_ret, Prog.pure_eq_ret]
  refine .op (signalS m K c 3 (sigTab_at 3 c)) ?_
  refine .op (signalS m K c 4 (sigTab_at 4 c)) ?_
  refine .op (signalS m K c 5 (sigTab_at 5 c)) ?_
  exact .ret (BI.Entails.refl _)

theorem part9 (c : Dev nD) {O : CellTallies nD τ sig Unit} (w0 w1 w2 : BitVec 32) :
    Runs m K c (SigSt (F := F) c O 7) (onArgs (k0_part9 (F := F)) c w0 barA w1 w2)
      (fun _ => SigSt (F := F) c O 9) := by
  dsimp only [onArgs]
  simp only [k0_part9_eq_skeleton]; unfold k0_part9_skel
  simp only [semSignalWord, semWaitWord, Prog.lift, Prog.bind_op, Prog.bind_ret, Prog.pure_eq_ret]
  refine .op (signalS m K c 6 (sigTab_at 6 c)) ?_
  refine .op (signalS m K c 7 (sigTab_at 7 c)) ?_
  exact .ret (BI.Entails.refl _)

theorem part10 (c : Dev nD) {O : CellTallies nD τ sig Unit} (w0 w1 : BitVec 32) :
    Runs m K c (SigSt (F := F) c O 9) (onArgs (k0_part10 (F := F)) c w0 barA w1)
      (fun _ => SigSt (F := F) c O 12) := by
  dsimp only [onArgs]
  simp only [k0_part10_eq_skeleton]; unfold k0_part10_skel
  simp only [semSignalWord, semWaitWord, Prog.lift, Prog.bind_op, Prog.bind_ret, Prog.pure_eq_ret]
  refine .op (signalS m K c 8 (sigTab_at 8 c)) ?_
  refine .op (signalS m K c 9 (sigTab_at 9 c)) ?_
  refine .op (signalS m K c 10 (sigTab_at 10 c)) ?_
  exact .ret (BI.Entails.refl _)

theorem part11 (c : Dev nD) {O : CellTallies nD τ sig Unit} (w0 w1 w2 : BitVec 32) :
    Runs m K c (SigSt (F := F) c O 12) (onArgs (k0_part11 (F := F)) c w0 barA w1 w2)
      (fun _ => SigSt (F := F) c O 14) := by
  dsimp only [onArgs]
  simp only [k0_part11_eq_skeleton]; unfold k0_part11_skel
  simp only [semSignalWord, semWaitWord, Prog.lift, Prog.bind_op, Prog.bind_ret, Prog.pure_eq_ret]
  refine .op (signalS m K c 11 (sigTab_at 11 c)) ?_
  refine .op (signalS m K c 12 (sigTab_at 12 c)) ?_
  exact .ret (BI.Entails.refl _)

/-! ## Casting `x`, and the barrier -/

/-- The device's `x`, staged. -/
def xAt (c : Dev nD) : sProp 𝕄 := ((c : Thread nD τ).loc cc0_stg0_0 ↦[Finset.univ]{fullShare} xstg m c)
/-- The buffer of the cast `x`, holding anything; -/
def bAny (c : Dev nD) : sProp 𝕄 := iprop(∃ f : Vec F S4096x256 .bf16, ((c : Thread nD τ).loc cc0_scratch0 ↦[Finset.univ]{fullShare} f))
/-- holding the cast. -/
def bAt (c : Dev nD) : sProp 𝕄 := ((c : Thread nD τ).loc cc0_scratch0 ↦[Finset.univ]{fullShare} XB m c)

theorem zero2 : (![0, 0] : Fin 2 → ℕ) = fun _ => 0 := funext fun a => by fin_cases a <;> rfl
theorem zero3 : (![0, 0, 0] : Fin 3 → ℕ) = fun _ => 0 := funext fun a => by fin_cases a <;> rfl

theorem loadxS (c : Dev nD) {bx : ∀ a, (![0, 0] : Fin 2 → ℕ) a + S4096x256.size a ≤ S4096x256.size a}
    {hl : xM.view.LoadsAt (Rect.unit (s := S4096x256) ![0, 0] S4096x256.size bx).toLoadRect} :
    Step m K c (xAt m c) (.load xM (Rect.unit (s := S4096x256) ![0, 0] S4096x256.size bx).toLoadRect hl) (xAt m c) (xstg m c) := by
  have hr : xM.view.readAt (Elt F) (Rect.unit (s := S4096x256) ![0, 0] S4096x256.size bx).toLoadRect (xstg m c) = xstg m c :=
    Memref.readAt_unit_zero (Elt F) cc0_stg0_0 zero2 _ _
  intro α Q cont
  unfold xAt
  iintro ⟨#Hctx, Hx⟩ Hk
  iapply (wp_load 𝒱₀ (c : Thread nD τ) none Set.univ (m := xM) (Finset.subset_univ _)) $$ Hx
  iintro Hx
  rw [hr]
  iapply Hk; iexact Hx

theorem loadbS (c : Dev nD) (f : Vec F S4096x256 .bf16) {bx : ∀ a, (![0, 0] : Fin 2 → ℕ) a + S4096x256.size a ≤ S4096x256.size a}
    {hl : bM.view.LoadsAt (Rect.unit (s := S4096x256) ![0, 0] S4096x256.size bx).toLoadRect} :
    Step m K c (((c : Thread nD τ).loc cc0_scratch0 ↦[Finset.univ]{fullShare} f)) (.load bM (Rect.unit (s := S4096x256) ![0, 0] S4096x256.size bx).toLoadRect hl)
      (((c : Thread nD τ).loc cc0_scratch0 ↦[Finset.univ]{fullShare} f)) (bM.view.readAt (Elt F) (Rect.unit (s := S4096x256) ![0, 0] S4096x256.size bx).toLoadRect f) := by
  intro α Q cont
  iintro ⟨#Hctx, Hx⟩ Hk
  iapply (wp_load 𝒱₀ (c : Thread nD τ) none Set.univ (m := bM) (Finset.subset_univ _)) $$ Hx
  iintro Hx
  iapply Hk; iexact Hx

theorem storebS (c : Dev nD) (f : Vec F S4096x256 .bf16) {bx : ∀ a, (![0, 0] : Fin 2 → ℕ) a + S4096x256.size a ≤ S4096x256.size a}
    {hx : (bM.access (Rect.unit (s := S4096x256) ![0, 0] S4096x256.size bx)).Stores Finset.univ}
    {hm : Finset.univ = Finset.univ ∨ ∀ a, (Rect.unit (s := S4096x256) ![0, 0] S4096x256.size bx).stride a = 1} :
    Step m K c (((c : Thread nD τ).loc cc0_scratch0 ↦[Finset.univ]{fullShare} f))
      (.store bM (Rect.unit (s := S4096x256) ![0, 0] S4096x256.size bx) (k0_pay1 (xstg m c)) Finset.univ hx hm) (bAt m c) ⟨⟩ := by
  have hw : (bM.access (Rect.unit (s := S4096x256) ![0, 0] S4096x256.size bx)).write (Elt F) f (XB m c) Finset.univ = XB m c :=
    Memref.write_access_unit_zero_univ (Elt F) cc0_scratch0 zero2 _ f _
  intro α Q cont
  unfold bAt
  iintro ⟨#Hctx, Hb⟩ Hk
  iapply (wp_store 𝒱₀ (c : Thread nD τ) none Set.univ (m := bM) (r := Rect.unit (s := S4096x256) ![0, 0] S4096x256.size bx) (Mk := Finset.univ) (Finset.subset_univ _)) $$ Hb
  iintro Hb
  rw [show k0_pay1 (xstg m c) = XB m c from rfl, hw]
  iapply Hk; iexact Hb

theorem barrierS (c : Dev nD) {O : CellTallies nD τ sig Unit} (hO : Above 1 O) :
    Step m K c iprop(Owe (F := F) c O ∗ cred (tallyAt (cell c .bar) () 15) ∗ atPos ER (cell c .bar) 0 ∅ 0) (.semWait barS (15#32).toInt)
      iprop(Owe (F := F) c O ∗ semVal (cell c .bar) 0 ∗ bigSep (Finset.Ico 1 16) (fun k => iprop(gAny (F := F) (peer c k) c ∗ aAny (F := F) (peer c k) c))) ⟨⟩ :=
  fun _ _ _ => step_barrier m K c hO rfl

/-- All signalled: nothing is owed to the barriers any more. -/
theorem SigSt_end (c : Dev nD) (O : CellTallies nD τ sig Unit) : SigSt (F := F) c O 16 ⊢ Owe (F := F) c O := by
  unfold SigSt
  rw [OB_end, add_zero]
  iintro ⟨H, -⟩
  iexact H

theorem part12 (c : Dev nD) {O : CellTallies nD τ sig Unit} (hO : Above 1 O) (w0 w1 : BitVec 32) :
    Runs m K c iprop(SigSt (F := F) c O 14 ∗ xAt m c ∗ bAny (F := F) c ∗ cred (tallyAt (cell c .bar) () 15) ∗ atPos ER (cell c .bar) 0 ∅ 0) (onArgs (k0_part12 (F := F)) c w0 barA w1)
      (fun _ => iprop(xAt m c ∗ bAt m c ∗ Owe (F := F) c O ∗ semVal (cell c .bar) 0 ∗ bigSep (Finset.Ico 1 16) (fun k => iprop(gAny (F := F) (peer c k) c ∗ aAny (F := F) (peer c k) c)))) := by
  dsimp only [onArgs]
  simp only [k0_part12_eq_skeleton]; unfold k0_part12_skel
  simp only [semSignalWord, semWaitWord, Prog.lift, Prog.bind_op, Prog.bind_ret, Prog.pure_eq_ret]
  refine .op ((signalS m K c 13 (sigTab_at 13 c)).frame m K _) ?_
  refine .op ((signalS m K c 14 (sigTab_at 14 c)).frame m K _) ?_
  unfold bAny
  refine .pre (P' := iprop(∃ f : Vec F S4096x256 .bf16, xAt m c ∗ ((c : Thread nD τ).loc cc0_scratch0 ↦[Finset.univ]{fullShare} f) ∗ Owe (F := F) c O ∗ cred (tallyAt (cell c .bar) () 15) ∗ atPos ER (cell c .bar) 0 ∅ 0)) ?_ ?_
  · iintro ⟨Hs, Hx, ⟨%f, Hb⟩, Hc, Ha⟩
    iexists f
    ihave HO := (SigSt_end c O) $$ Hs
    iframe
  refine .ex fun f => ?_
  refine .op ((loadxS m K c).frame m K _) ?_
  refine .opf (G := iprop(xAt m c ∗ Owe (F := F) c O ∗ cred (tallyAt (cell c .bar) () 15) ∗ atPos ER (cell c .bar) 0 ∅ 0)) Laws.sep_left_comm.1 (loadbS m K c f) ?_
  refine .op ((storebS m K c f).frame m K _) ?_
  refine .opf (G := iprop(bAt m c ∗ xAt m c)) ?_ (barrierS m K c hO) ?_
  · iintro ⟨Hb, Hx, HO, Hc, Ha⟩; iframe
  refine .ret ?_
  iintro ⟨⟨HO, Hz, Hg⟩, Hb, Hx⟩; iframe

end Cert.MeshRun
-- ==== Proof.Sends.lean ====
/-
# The sends of the blocks of `x`, and the local copy
-/
module

public import proofs.«01_k».proof.Proof.Stages
public import Idealize.SL.BI.BigOpNat

@[expose] public section

set_option maxRecDepth 8000

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (K : Dev nD × Kd → ℕ)

/-! ## The sends of the blocks of `x` -/

theorem part13 (c : Dev nD) (w0 w1 : BitVec 32) (w2 : BitVec 1) (w3 : BitVec 32) :
    Runs m K c (SendSt m c 1) (onArgs (k0_part13 (F := F)) c w0 w1 w2 w3)
      (fun _ => SendSt m c 3) := by
  dsimp only [onArgs]
  simp only [k0_part13_eq_skeleton]; unfold k0_part13_skel
  simp only [semSignalWord, semWaitWord, Prog.lift, Prog.bind_op, Prog.bind_ret, Prog.pure_eq_ret]
  refine .op (sendS m K c 0 (sendTab_at 0 c)) ?_
  refine .op (sendS m K c 1 (sendTab_at 1 c)) ?_
  exact .ret (BI.Entails.refl _)

theorem part14 (c : Dev nD) (w0 w1 w2 : BitVec 32) :
    Runs m K c (SendSt m c 3) (onArgs (k0_part14 (F := F)) c w0 w1 w2)
      (fun _ => SendSt m c 4) := by
  dsimp only [onArgs]
  simp only [k0_part14_eq_skeleton]; unfold k0_part14_skel
  simp only [semSignalWord, semWaitWord, Prog.lift, Prog.bind_op, Prog.bind_ret, Prog.pure_eq_ret]
  refine .op (sendS m K c 2 (sendTab_at 2 c)) ?_
  exact .ret (BI.Entails.refl _)

theorem part15 (c : Dev nD) (w0 : BitVec 32) :
    Runs m K c (SendSt m c 4) (onArgs (k0_part15 (F := F)) c w0)
      (fun _ => SendSt m c 6) := by
  dsimp only [onArgs]
  simp only [k0_part15_eq_skeleton]; unfold k0_part15_skel
  simp only [semSignalWord, semWaitWord, Prog.lift, Prog.bind_op, Prog.bind_ret, Prog.pure_eq_ret]
  refine .op (sendS m K c 3 (sendTab_at 3 c)) ?_
  refine .op (sendS m K c 4 (sendTab_at 4 c)) ?_
  exact .ret (BI.Entails.refl _)

theorem part16 (c : Dev nD) (w0 w1 : BitVec 32) :
    Runs m K c (SendSt m c 6) (onArgs (k0_part16 (F := F)) c w0 w1)
      (fun _ => SendSt m c 8) := by
  dsimp only [onArgs]
  simp only [k0_part16_eq_skeleton]; unfold k0_part16_skel
  simp only [semSignalWord, semWaitWord, Prog.lift, Prog.bind_op, Prog.bind_ret, Prog.pure_eq_ret]
  refine .op (sendS m K c 5 (sendTab_at 5 c)) ?_
  refine .op (sendS m K c 6 (sendTab_at 6 c)) ?_
  exact .ret (BI.Entails.refl _)

theorem part17 (c : Dev nD) (w0 w1 w2 : BitVec 32) (w3 w4 : BitVec 1) :
    Runs m K c (SendSt m c 8) (onArgs (k0_part17 (F := F)) c w0 w1 w2 w3 w4)
      (fun _ => SendSt m c 10) := by
  dsimp only [onArgs]
  simp only [k0_part17_eq_skeleton]; unfold k0_part17_skel
  simp only [semSignalWord, semWaitWord, Prog.lift, Prog.bind_op, Prog.bind_ret, Prog.pure_eq_ret]
  refine .op (sendS m K c 7 (sendTab_at 7 c)) ?_
  refine .op (sendS m K c 8 (sendTab_at 8 c)) ?_
  exact .ret (BI.Entails.refl _)

theorem part18 (c : Dev nD) (w0 w1 : BitVec 32) :
    Runs m K c (SendSt m c 10) (onArgs (k0_part18 (F := F)) c w0 w1)
      (fun _ => SendSt m c 11) := by
  dsimp only [onArgs]
  simp only [k0_part18_eq_skeleton]; unfold k0_part18_skel
  simp only [semSignalWord, semWaitWord, Prog.lift, Prog.bind_op, Prog.bind_ret, Prog.pure_eq_ret]
  refine .op (sendS m K c 9 (sendTab_at 9 c)) ?_
  exact .ret (BI.Entails.refl _)

theorem part19 (c : Dev nD) (w0 : BitVec 32) :
    Runs m K c (SendSt m c 11) (onArgs (k0_part19 (F := F)) c w0)
      (fun _ => SendSt m c 13) := by
  dsimp only [onArgs]
  simp only [k0_part19_eq_skeleton]; unfold k0_part19_skel
  simp only [semSignalWord, semWaitWord, Prog.lift, Prog.bind_op, Prog.bind_ret, Prog.pure_eq_ret]
  refine .op (sendS m K c 10 (sendTab_at 10 c)) ?_
  refine .op (sendS m K c 11 (sendTab_at 11 c)) ?_
  exact .ret (BI.Entails.refl _)

theorem part20 (c : Dev nD) (w0 w1 : BitVec 32) (w2 : BitVec 1) (w3 : BitVec 32) :
    Runs m K c (SendSt m c 13) (onArgs (k0_part20 (F := F)) c w0 w1 w2 w3)
      (fun _ => SendSt m c 15) := by
  dsimp only [onArgs]
  simp only [k0_part20_eq_skeleton]; unfold k0_part20_skel
  simp only [semSignalWord, semWaitWord, Prog.lift, Prog.bind_op, Prog.bind_ret, Prog.pure_eq_ret]
  refine .op (sendS m K c 12 (sendTab_at 12 c)) ?_
  refine .op (sendS m K c 13 (sendTab_at 13 c)) ?_
  exact .ret (BI.Entails.refl _)

/-! ## The local copy, and the first rows of `w` -/

theorem localS (c : Dev nD) {b7 : ∀ a, k0_off7 c a + S256x256.size a ≤ S4096x256.size a}
    {b5 : ∀ a, k0_off5 c a + S1x256x256.size a ≤ S16x256x256.size a}
    {hsrc : (bM.slice (Rect.unit (s := S4096x256) (k0_off7 c) S256x256.size b7) (fun _ => rfl)).view.WordExact}
    {hdst : ((gM.slice (Rect.unit (s := S16x256x256) (k0_off5 c) S1x256x256.size b5) (fun _ => rfl)).squeeze S256x256 squeezes_S1x256x256_S256x256).view.WordExact}
    {hsem : DmaTarget.Typed (nD := nD) (τ := τ) .vmem (SemLoc.dma cc0_scratch9.sem)
      (DmaTarget.here (p := (c : Thread nD τ).2) ((gM.slice (Rect.unit (s := S16x256x256) (k0_off5 c) S1x256x256.size b5) (fun _ => rfl)).squeeze S256x256 squeezes_S1x256x256_S256x256))} :
    Step m K c iprop(bP m c c ∗ gAny (F := F) c c ∗ dutyTok ER (cell c .loc) 0 (0 : Dev nD))
      (.enqueueDma (bM.slice (Rect.unit (s := S4096x256) (k0_off7 c) S256x256.size b7) (fun _ => rfl))
        (.here ((gM.slice (Rect.unit (s := S16x256x256) (k0_off5 c) S1x256x256.size b5) (fun _ => rfl)).squeeze S256x256 squeezes_S1x256x256_S256x256))
        (SemLoc.dma cc0_scratch9.sem) hsrc hdst hsem)
      (cred (tallyAt (cell c .loc) () NX)) ⟨⟩ :=
  fun _ _ _ => step_local m K c (k0_off7_eq c) (k0_off5_eq c) loc_sem_at

theorem localWaitS (c : Dev nD) {O : CellTallies nD τ sig Unit} (hO : Above 0 O) {sp : Space} {s : Shape} {e : EltTy} {src : Memref sig .tc sp s e}
    {b5 : ∀ a, k0_off5 c a + S1x256x256.size a ≤ S16x256x256.size a} {h₁ : src.view.WordExact}
    {h₂ : ((gM.slice (Rect.unit (s := S16x256x256) (k0_off5 c) S1x256x256.size b5) (fun _ => rfl)).squeeze S256x256 squeezes_S1x256x256_S256x256).view.WordExact} :
    Step m K c iprop(cred (tallyAt (cell c .loc) () NX) ∗ Owe (F := F) c O ∗ atPos ER (cell c .loc) 0 ∅ 0)
      (.waitDma2 cc0_scratch9.sem src ((gM.slice (Rect.unit (s := S16x256x256) (k0_off5 c) S1x256x256.size b5) (fun _ => rfl)).squeeze S256x256 squeezes_S1x256x256_S256x256) h₁ h₂)
      iprop(Owe (F := F) c O ∗ semVal (cell c .loc) 0 ∗ gP m c c ∗ bP m c c) ⟨⟩ := by
  have hN : ((gM.slice (Rect.unit (s := S16x256x256) (k0_off5 c) S1x256x256.size b5) (fun _ => rfl)).squeeze S256x256 squeezes_S1x256x256_S256x256).view.dmaCredit = kdAmount .loc := by
    rw [kdAmount_loc]
    revert b5
    rw [k0_off5_eq c]
    exact fun {b5} _ => credit_g c
  intro α Q cont
  iintro ⟨#Hctx, Hc, HO, Ha⟩ Hk
  iapply (step_wait m K c .loc 0 (by dsimp only [kdDuties]; exact if_pos rfl) loc_sem_at hN (n := 0) (le_refl _) hO) $$ [Hc HO Ha]
  · isplitr; · iexact Hctx
    rw [kdAmount_loc]
    iframe
  dsimp only [kdPay]
  iintro ⟨HO, Ha, -, Hg, Hb⟩
  imod (step_close m K c .loc (0 + 1) (le_refl _) (.inr (fun i h => by cases h))) $$ [Ha] with Hz
  · isplitr; · iexact Hctx
    iexact Ha
  iapply Hk
  iframe

/-- All sent: only the maxima are still owed. -/
theorem SendSt_end (c : Dev nD) :
    SendSt m c 16 ⊢ iprop(Owe (F := F) c (OA c 1) ∗ bigSep (Finset.Ico 1 16) (fun k => cred (tallyAt (cell c (.send (peer c k))) () NX))) := by
  unfold SendSt
  rw [OX_end, add_zero]
  iintro ⟨HO, -, Hc⟩
  iframe

theorem part21 (c : Dev nD) (w0 w1 w2 : BitVec 32) :
    Runs m K c iprop(SendSt m c 15 ∗ (bP m c c ∗ gAny (F := F) c c ∗ dutyTok ER (cell c .loc) 0 (0 : Dev nD)) ∗ atPos ER (cell c .loc) 0 ∅ 0 ∗ WSt m c 4 0 4 ∗ WaitSt m c (fun k => .recv (src c k)) 1) (onArgs (k0_part21 (F := F)) c w0 w1 w2)
      (fun r => iprop(⌜r = acc0 m c⌝ ∗ gP m c c ∗ Loop m c 4 1 5 1 ∗ bP m c c ∗ semVal (cell c .loc) 0 ∗ bigSep (Finset.Ico 1 16) (fun k => cred (tallyAt (cell c (.send (peer c k))) () NX)))) := by
  dsimp only [onArgs]
  simp only [k0_part21_eq_skeleton]; unfold k0_part21_skel
  simp only [semSignalWord, semWaitWord, Prog.lift, Prog.bind_op, Prog.bind_ret, Prog.pure_eq_ret]
  refine .op ((sendS m K c 14 (sendTab_at 14 c)).frame m K _) ?_
  refine .opf Laws.sep_left_comm.1 (localS m K c) ?_
  refine .opf (G := iprop(bigSep (Finset.Ico 1 16) (fun k => cred (tallyAt (cell c (.send (peer c k))) () NX)) ∗ WSt m c 4 0 4 ∗ WaitSt m c (fun k => .recv (src c k)) 1)) ?_ (localWaitS m K c (O := OA c 1) (above_OA c 1 (by decide))) ?_
  · iintro ⟨Hc, Hs, Ha, HW, Hr⟩
    ihave ⟨HO, Hs⟩ := (SendSt_end m c) $$ Hs
    iframe
  refine .opf (A := Loop m c 4 0 4 1) (G := iprop(gP m c c ∗ bP m c c ∗ semVal (cell c .loc) 0 ∗ bigSep (Finset.Ico 1 16) (fun k => cred (tallyAt (cell c (.send (peer c k))) () NX)))) ?_ (fetchedS m K c 0 (by decide) (by decide) rfl rfl) ?_
  · unfold Loop; iintro ⟨⟨HO, Hz, Hg, Hb⟩, Hs, HW, Hr⟩; iframe
  refine .op ((loadWS m K c 0 (le_refl _) rfl).frame m K _) ?_
  refine .fin m K (φ := fun r => r = acc0 m c) rfl ?_
  iintro ⟨HL, Hg, Hb, Hz, Hs⟩; iframe

end Cert.MeshRun
-- ==== Proof.Product.lean ====
/-
# The stretches that compute the product
-/
module

public import proofs.«01_k».proof.Proof.Stages
public import Idealize.SL.BI.BigOpNat

@[expose] public section

set_option maxRecDepth 8000

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (K : Dev nD × Kd → ℕ)

/-! ## The product, one device's rows after another -/

theorem loadX0S (c : Dev nD) {bg : ∀ a, k0_off8 c a + S1x256x256.size a ≤ S16x256x256.size a}
    {hl : gM.view.LoadsAt (Rect.unit (s := S16x256x256) (k0_off8 c) S1x256x256.size bg).toLoadRect} :
    Step m K c (gP m c c) (.load gM (Rect.unit (s := S16x256x256) (k0_off8 c) S1x256x256.size bg).toLoadRect hl) (gP m c c) (ldX m c 0) := by
  intro α Q cont
  iintro ⟨#Hctx, Hg⟩
  iapply (step_xload0 m c (k0_off8_eq c))
  iexact Hg

theorem part22 (c : Dev nD) (w0 w1 w2 : BitVec 32) :
    Runs m K c iprop(gP m c c ∗ Loop m c 4 1 5 1) (onArgs (k0_part22 (F := F)) c w0 w1 w2 (acc0 m c))
      (fun r => iprop(⌜r.1 = acc1a m c ∧ r.2 = acc1b m c⌝ ∗ Loop m c 5 2 6 2 ∗ gP m c c)) := by
  dsimp only [onArgs]
  simp only [k0_part22_eq_skeleton]; unfold k0_part22_skel
  simp only [semSignalWord, semWaitWord, Prog.lift, Prog.bind_op, Prog.bind_ret, Prog.pure_eq_ret]
  refine .op ((loadX0S m K c).frame m K _) ?_
  refine .pre Laws.sep_symm ?_
  refine .op ((nextS m K c 3 (by decide) (by decide) rfl rfl).frame m K _) ?_
  refine .op ((recvS m K c 0).frame m K _) ?_
  refine .op ((fetchedS m K c 1 (by decide) (by decide) rfl rfl).frame m K _) ?_
  refine .pre Laws.sep_assoc.1 ?_
  refine .pre Laws.sep_assoc.2 ?_
  refine .op ((loadWS m K c 1 (by decide) rfl).frame m K _) ?_
  refine .op ((loadXS m K c 0 (by decide)).frame m K _) ?_
  exact .fin m K (φ := fun r : Σ' (v727 : FVec F S256x2048 .f32), FVec F S256x2048 .f32 => r.1 = acc1a m c ∧ r.2 = acc1b m c) ⟨rfl, rfl⟩ (BI.Entails.refl _)

theorem part23 (c : Dev nD) (w0 w1 w2 : BitVec 32) :
    Runs m K c (Loop m c 5 2 6 2) (onArgs (k0_part23 (F := F)) c w0 w1 w2 (acc1a m c) (acc1b m c))
      (fun r => iprop(⌜r = acc2 m c⌝ ∗ Loop m c 6 3 7 3)) := by
  dsimp only [onArgs]
  simp only [k0_part23_eq_skeleton]; unfold k0_part23_skel
  simp only [semSignalWord, semWaitWord, Prog.lift, Prog.bind_op, Prog.bind_ret, Prog.pure_eq_ret]
  refine .op (nextS m K c 4 (by decide) (by decide) rfl rfl) ?_
  refine .op (recvS m K c 1) ?_
  refine .op (fetchedS m K c 2 (by decide) (by decide) rfl rfl) ?_
  refine .op (loadWS m K c 2 (by decide) rfl) ?_
  refine .op (loadXS m K c 1 (by decide)) ?_
  exact .fin m K (φ := fun r => r = acc2 m c) rfl (BI.Entails.refl _)

theorem part24 (c : Dev nD) (w0 w1 : BitVec 32) :
    Runs m K c (Loop m c 6 3 7 3) (onArgs (k0_part24 (F := F)) c w0 w1 (acc2 m c))
      (fun r => iprop(⌜r = acc3 m c⌝ ∗ Loop m c 8 4 8 4)) := by
  dsimp only [onArgs]
  simp only [k0_part24_eq_skeleton]; unfold k0_part24_skel
  simp only [semSignalWord, semWaitWord, Prog.lift, Prog.bind_op, Prog.bind_ret, Prog.pure_eq_ret]
  refine .op (nextS m K c 5 (by decide) (by decide) rfl rfl) ?_
  refine .op (recvS m K c 2) ?_
  refine .op (fetchedS m K c 3 (by decide) (by decide) rfl rfl) ?_
  refine .op (loadWS m K c 3 (by decide) rfl) ?_
  refine .op (loadXS m K c 2 (by decide)) ?_
  refine .op (nextS m K c 6 (by decide) (by decide) rfl rfl) ?_
  exact .fin m K (φ := fun r => r = acc3 m c) rfl (BI.Entails.refl _)

theorem part25 (c : Dev nD) (w0 w1 w2 : BitVec 32) :
    Runs m K c (Loop m c 8 4 8 4) (onArgs (k0_part25 (F := F)) c w0 w1 w2 (acc3 m c))
      (fun r => iprop(⌜r = acc4 m c⌝ ∗ Loop m c 9 5 9 5)) := by
  dsimp only [onArgs]
  simp only [k0_part25_eq_skeleton]; unfold k0_part25_skel
  simp only [semSignalWord, semWaitWord, Prog.lift, Prog.bind_op, Prog.bind_ret, Prog.pure_eq_ret]
  refine .op (recvS m K c 3) ?_
  refine .op (fetchedS m K c 4 (by decide) (by decide) rfl rfl) ?_
  refine .op (loadWS m K c 4 (by decide) rfl) ?_
  refine .op (loadXS m K c 3 (by decide)) ?_
  refine .op (nextS m K c 7 (by decide) (by decide) rfl rfl) ?_
  exact .fin m K (φ := fun r => r = acc4 m c) rfl (BI.Entails.refl _)

theorem part26 (c : Dev nD) (w0 w1 w2 : BitVec 32) :
    Runs m K c (Loop m c 9 5 9 5) (onArgs (k0_part26 (F := F)) c w0 w1 w2 (acc4 m c))
      (fun r => iprop(⌜r = acc5 m c⌝ ∗ Loop m c 10 6 10 6)) := by
  dsimp only [onArgs]
  simp only [k0_part26_eq_skeleton]; unfold k0_part26_skel
  simp only [semSignalWord, semWaitWord, Prog.lift, Prog.bind_op, Prog.bind_ret, Prog.pure_eq_ret]
  refine .op (recvS m K c 4) ?_
  refine .op (fetchedS m K c 5 (by decide) (by decide) rfl rfl) ?_
  refine .op (loadWS m K c 5 (by decide) rfl) ?_
  refine .op (loadXS m K c 4 (by decide)) ?_
  refine .op (nextS m K c 8 (by decide) (by decide) rfl rfl) ?_
  exact .fin m K (φ := fun r => r = acc5 m c) rfl (BI.Entails.refl _)

theorem part27 (c : Dev nD) (w0 w1 w2 : BitVec 32) :
    Runs m K c (Loop m c 10 6 10 6) (onArgs (k0_part27 (F := F)) c w0 w1 w2 (acc5 m c))
      (fun r => iprop(⌜r = acc6 m c⌝ ∗ Loop m c 11 7 11 8)) := by
  dsimp only [onArgs]
  simp only [k0_part27_eq_skeleton]; unfold k0_part27_skel
  simp only [semSignalWord, semWaitWord, Prog.lift, Prog.bind_op, Prog.bind_ret, Prog.pure_eq_ret]
  refine .op (recvS m K c 5) ?_
  refine .op (fetchedS m K c 6 (by decide) (by decide) rfl rfl) ?_
  refine .op (loadWS m K c 6 (by decide) rfl) ?_
  refine .op (loadXS m K c 5 (by decide)) ?_
  refine .op (nextS m K c 9 (by decide) (by decide) rfl rfl) ?_
  refine .op (recvS m K c 6) ?_
  exact .fin m K (φ := fun r => r = acc6 m c) rfl (BI.Entails.refl _)

theorem part28 (c : Dev nD) (w0 w1 w2 : BitVec 32) :
    Runs m K c (Loop m c 11 7 11 8) (onArgs (k0_part28 (F := F)) c w0 w1 w2 (acc6 m c))
      (fun r => iprop(⌜r = acc7 m c⌝ ∗ WHeld m c 8 ∗ Loop m c 12 9 12 9)) := by
  dsimp only [onArgs]
  simp only [k0_part28_eq_skeleton]; unfold k0_part28_skel
  simp only [semSignalWord, semWaitWord, Prog.lift, Prog.bind_op, Prog.bind_ret, Prog.pure_eq_ret]
  refine .op (fetchedS m K c 7 (by decide) (by decide) rfl rfl) ?_
  refine .op (loadWS m K c 7 (by decide) rfl) ?_
  refine .op (loadXS m K c 6 (by decide)) ?_
  refine .op (nextS m K c 10 (by decide) (by decide) rfl rfl) ?_
  refine .op (recvS m K c 7) ?_
  refine .op (fetchedS m K c 8 (by decide) (by decide) rfl rfl) ?_
  exact .fin m K (φ := fun r => r = acc7 m c) rfl (BI.Entails.refl _)

theorem part29 (c : Dev nD) (w0 w1 w2 : BitVec 32) :
    Runs m K c iprop(WHeld m c 8 ∗ Loop m c 12 9 12 9) (onArgs (k0_part29 (F := F)) c w0 w1 w2 (acc7 m c))
      (fun r => iprop(⌜r.1 = acc8 m c ∧ r.2 = acc9 m c⌝ ∗ Loop m c 13 10 14 10)) := by
  dsimp only [onArgs]
  simp only [k0_part29_eq_skeleton]; unfold k0_part29_skel
  simp only [semSignalWord, semWaitWord, Prog.lift, Prog.bind_op, Prog.bind_ret, Prog.pure_eq_ret]
  refine .op (loadWS m K c 8 (by decide) rfl) ?_
  refine .op (loadXS m K c 7 (by decide)) ?_
  refine .op (nextS m K c 11 (by decide) (by decide) rfl rfl) ?_
  refine .op (recvS m K c 8) ?_
  refine .op (fetchedS m K c 9 (by decide) (by decide) rfl rfl) ?_
  refine .op (loadWS m K c 9 (by decide) rfl) ?_
  exact .fin m K (φ := fun r : Σ' (v943 : FVec F S256x2048 .f32), FVec F S256x2048 .bf16 => r.1 = acc8 m c ∧ r.2 = acc9 m c) ⟨rfl, rfl⟩ (BI.Entails.refl _)

theorem part30 (c : Dev nD) (w0 w1 w2 : BitVec 32) :
    Runs m K c (Loop m c 13 10 14 10) (onArgs (k0_part30 (F := F)) c w0 w1 w2 (acc8 m c) (acc9 m c))
      (fun r => iprop(⌜r = acc10 m c⌝ ∗ Loop m c 14 11 15 11)) := by
  dsimp only [onArgs]
  simp only [k0_part30_eq_skeleton]; unfold k0_part30_skel
  simp only [semSignalWord, semWaitWord, Prog.lift, Prog.bind_op, Prog.bind_ret, Prog.pure_eq_ret]
  refine .op (loadXS m K c 8 (by decide)) ?_
  refine .op (nextS m K c 12 (by decide) (by decide) rfl rfl) ?_
  refine .op (recvS m K c 9) ?_
  refine .op (fetchedS m K c 10 (by decide) (by decide) rfl rfl) ?_
  refine .op (loadWS m K c 10 (by decide) rfl) ?_
  refine .op (loadXS m K c 9 (by decide)) ?_
  exact .fin m K (φ := fun r => r = acc10 m c) rfl (BI.Entails.refl _)

theorem part31 (c : Dev nD) (w0 w1 : BitVec 32) :
    Runs m K c (Loop m c 14 11 15 11) (onArgs (k0_part31 (F := F)) c w0 w1 (acc10 m c))
      (fun r => iprop(⌜r = acc11 m c⌝ ∗ Loop m c 15 12 16 12)) := by
  dsimp only [onArgs]
  simp only [k0_part31_eq_skeleton]; unfold k0_part31_skel
  simp only [semSignalWord, semWaitWord, Prog.lift, Prog.bind_op, Prog.bind_ret, Prog.pure_eq_ret]
  refine .op (nextS m K c 13 (by decide) (by decide) rfl rfl) ?_
  refine .op (recvS m K c 10) ?_
  refine .op (fetchedS m K c 11 (by decide) (by decide) rfl rfl) ?_
  refine .op (loadWS m K c 11 (by decide) rfl) ?_
  refine .op (loadXS m K c 10 (by decide)) ?_
  exact .fin m K (φ := fun r => r = acc11 m c) rfl (BI.Entails.refl _)

theorem part32 (c : Dev nD) (w0 w1 : BitVec 32) :
    Runs m K c (Loop m c 15 12 16 12) (onArgs (k0_part32 (F := F)) c w0 w1 (acc11 m c))
      (fun r => iprop(⌜r = acc12 m c⌝ ∗ Loop m c 16 13 17 14)) := by
  dsimp only [onArgs]
  simp only [k0_part32_eq_skeleton]; unfold k0_part32_skel
  simp only [semSignalWord, semWaitWord, Prog.lift, Prog.bind_op, Prog.bind_ret, Prog.pure_eq_ret]
  refine .op (nextS m K c 14 (by decide) (by decide) rfl rfl) ?_
  refine .op (recvS m K c 11) ?_
  refine .op (fetchedS m K c 12 (by decide) (by decide) rfl rfl) ?_
  refine .op (loadWS m K c 12 (by decide) rfl) ?_
  refine .op (loadXS m K c 11 (by decide)) ?_
  refine .op (recvS m K c 12) ?_
  exact .fin m K (φ := fun r => r = acc12 m c) rfl (BI.Entails.refl _)

theorem part33 (c : Dev nD) (w0 w1 : BitVec 32) :
    Runs m K c (Loop m c 16 13 17 14) (onArgs (k0_part33 (F := F)) c w0 w1 (acc12 m c))
      (fun r => iprop(⌜r.1 = acc13 m c ∧ r.2.1 = acc14 m c ∧ r.2.2 = ldX m c 14⌝ ∗ Loop m c 16 15 19 15)) := by
  dsimp only [onArgs]
  simp only [k0_part33_eq_skeleton]; unfold k0_part33_skel
  simp only [semSignalWord, semWaitWord, Prog.lift, Prog.bind_op, Prog.bind_ret, Prog.pure_eq_ret]
  refine .op (fetchedS m K c 13 (by decide) (by decide) rfl rfl) ?_
  refine .op (loadWS m K c 13 (by decide) rfl) ?_
  refine .op (loadXS m K c 12 (by decide)) ?_
  refine .op (recvS m K c 13) ?_
  refine .op (fetchedS m K c 14 (by decide) (by decide) rfl rfl) ?_
  refine .op (loadWS m K c 14 (by decide) rfl) ?_
  refine .op (loadXS m K c 13 (by decide)) ?_
  exact .fin m K (φ := fun r : Σ' (v1072 : FVec F S256x2048 .f32) (v1088 : FVec F S256x2048 .bf16), Vec F S1x256x256 .bf16 => r.1 = acc13 m c ∧ r.2.1 = acc14 m c ∧ r.2.2 = ldX m c 14) ⟨rfl, rfl, rfl⟩ (BI.Entails.refl _)

theorem astoreS (c : Dev nD) {bl bs : ∀ a, k0_off12 c a + S1x8x128.size a ≤ S16x8x128.size a}
    {hl : aM.view.LoadsAt (Rect.unit (s := S16x8x128) (k0_off12 c) S1x8x128.size bl).toLoadRect}
    {w : FVec F S1x8x128 .f32} (hw : w = MX m c)
    {hx : (aM.access (Rect.unit (s := S16x8x128) (k0_off12 c) S1x8x128.size bs)).Stores Finset.univ}
    {hm : Finset.univ = Finset.univ ∨ ∀ a, (Rect.unit (s := S16x8x128) (k0_off12 c) S1x8x128.size bs).stride a = 1}
    {α : Type} {P : sProp 𝕄} {cont : PUnit → Prog (TpuEff nD τ sig (Elt F) Λ₀ .tc) α} {R : α → sProp 𝕄}
    (next : Runs m K c iprop(P ∗ aP m c c fullShare) (cont ⟨⟩) R) :
    Runs m K c iprop(P ∗ aAny (F := F) c c) (.op (.load aM (Rect.unit (s := S16x8x128) (k0_off12 c) S1x8x128.size bl).toLoadRect hl) fun _ =>
      .op (.store aM (Rect.unit (s := S16x8x128) (k0_off12 c) S1x8x128.size bs) w Finset.univ hx hm) cont) R := by
  intro Q
  iintro ⟨#Hctx, HP, Ha⟩ Hk
  iapply (step_aload c (k0_off12_eq c)) $$ Ha
  iintro %v Ha
  iapply (step_astore m c (k0_off12_eq c) hw) $$ Ha
  iintro Ha
  iapply (next Q) $$ [HP Ha]
  · isplitr; · iexact Hctx
    iframe
  iexact Hk

theorem part34 (c : Dev nD) (w0 w1 : BitVec 32) :
    Runs m K c iprop(Loop m c 16 15 19 15 ∗ aAny (F := F) c c) (onArgs (k0_part34 (F := F)) c w0 w1 (acc13 m c) (acc14 m c) (ldX m c 14))
      (fun r => iprop(⌜r.1 = RL m c⌝ ∗ Loop m c 16 16 20 16 ∗ aP m c c fullShare)) := by
  dsimp only [onArgs]
  simp only [k0_part34_eq_skeleton]; unfold k0_part34_skel
  simp only [semSignalWord, semWaitWord, Prog.lift, Prog.bind_op, Prog.bind_ret, Prog.pure_eq_ret]
  refine .op ((recvS m K c 14).frame m K _) ?_
  refine .op ((fetchedS m K c 15 (by decide) (by decide) rfl rfl).frame m K _) ?_
  refine .op ((loadWS m K c 15 (by decide) rfl).frame m K _) ?_
  refine .op ((loadXS m K c 14 (by decide)).frame m K _) ?_
  refine astoreS m K c rfl ?_
  exact .fin m K (φ := fun r : Σ' (v1114 : FVec F S256x2048 .f32), BitVec 32 => r.1 = RL m c) rfl (BI.Entails.refl _)

end Cert.MeshRun
-- ==== Proof.Maxima.lean ====
/-
# The exchange of the maxima, and the result
-/
module

public import proofs.«01_k».proof.Proof.Signals
public import Idealize.SL.BI.BigOpNat

@[expose] public section

set_option maxRecDepth 8000

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (K : Dev nD × Kd → ℕ)

/-! ## The sends of the maxima -/

theorem part35 (c : Dev nD) (w0 w1 : BitVec 32) :
    Runs m K c (ASt m c 1) (onArgs (k0_part35 (F := F)) c w0 w1)
      (fun _ => ASt m c 2) := by
  dsimp only [onArgs]
  simp only [k0_part35_eq_skeleton]; unfold k0_part35_skel
  simp only [semSignalWord, semWaitWord, Prog.lift, Prog.bind_op, Prog.bind_ret, Prog.pure_eq_ret]
  refine .op (asendS m K c 0 (asendTab_at 0 c)) ?_
  exact .ret (BI.Entails.refl _)

theorem part36 (c : Dev nD) (w0 : BitVec 32) :
    Runs m K c (ASt m c 2) (onArgs (k0_part36 (F := F)) c w0)
      (fun _ => ASt m c 4) := by
  dsimp only [onArgs]
  simp only [k0_part36_eq_skeleton]; unfold k0_part36_skel
  simp only [semSignalWord, semWaitWord, Prog.lift, Prog.bind_op, Prog.bind_ret, Prog.pure_eq_ret]
  refine .op (asendS m K c 1 (asendTab_at 1 c)) ?_
  refine .op (asendS m K c 2 (asendTab_at 2 c)) ?_
  exact .ret (BI.Entails.refl _)

theorem part37 (c : Dev nD) (w0 w1 w2 : BitVec 32) (w3 : BitVec 1) :
    Runs m K c (ASt m c 4) (onArgs (k0_part37 (F := F)) c w0 w1 w2 w3)
      (fun _ => ASt m c 6) := by
  dsimp only [onArgs]
  simp only [k0_part37_eq_skeleton]; unfold k0_part37_skel
  simp only [semSignalWord, semWaitWord, Prog.lift, Prog.bind_op, Prog.bind_ret, Prog.pure_eq_ret]
  refine .op (asendS m K c 3 (asendTab_at 3 c)) ?_
  refine .op (asendS m K c 4 (asendTab_at 4 c)) ?_
  exact .ret (BI.Entails.refl _)

theorem part38 (c : Dev nD) (w0 w1 w2 : BitVec 32) (w3 : BitVec 1) (w4 : BitVec 32) :
    Runs m K c (ASt m c 6) (onArgs (k0_part38 (F := F)) c w0 w1 w2 w3 w4)
      (fun _ => ASt m c 7) := by
  dsimp only [onArgs]
  simp only [k0_part38_eq_skeleton]; unfold k0_part38_skel
  simp only [semSignalWord, semWaitWord, Prog.lift, Prog.bind_op, Prog.bind_ret, Prog.pure_eq_ret]
  refine .op (asendS m K c 5 (asendTab_at 5 c)) ?_
  exact .ret (BI.Entails.refl _)

theorem part39 (c : Dev nD) (w0 : BitVec 32) :
    Runs m K c (ASt m c 7) (onArgs (k0_part39 (F := F)) c w0)
      (fun _ => ASt m c 9) := by
  dsimp only [onArgs]
  simp only [k0_part39_eq_skeleton]; unfold k0_part39_skel
  simp only [semSignalWord, semWaitWord, Prog.lift, Prog.bind_op, Prog.bind_ret, Prog.pure_eq_ret]
  refine .op (asendS m K c 6 (asendTab_at 6 c)) ?_
  refine .op (asendS m K c 7 (asendTab_at 7 c)) ?_
  exact .ret (BI.Entails.refl _)

theorem part40 (c : Dev nD) (w0 w1 w2 : BitVec 32) :
    Runs m K c (ASt m c 9) (onArgs (k0_part40 (F := F)) c w0 w1 w2)
      (fun _ => ASt m c 11) := by
  dsimp only [onArgs]
  simp only [k0_part40_eq_skeleton]; unfold k0_part40_skel
  simp only [semSignalWord, semWaitWord, Prog.lift, Prog.bind_op, Prog.bind_ret, Prog.pure_eq_ret]
  refine .op (asendS m K c 8 (asendTab_at 8 c)) ?_
  refine .op (asendS m K c 9 (asendTab_at 9 c)) ?_
  exact .ret (BI.Entails.refl _)

theorem part41 (c : Dev nD) (w0 w1 w2 : BitVec 32) (w3 : BitVec 1) (w4 : BitVec 32) :
    Runs m K c (ASt m c 11) (onArgs (k0_part41 (F := F)) c w0 w1 w2 w3 w4)
      (fun _ => ASt m c 13) := by
  dsimp only [onArgs]
  simp only [k0_part41_eq_skeleton]; unfold k0_part41_skel
  simp only [semSignalWord, semWaitWord, Prog.lift, Prog.bind_op, Prog.bind_ret, Prog.pure_eq_ret]
  refine .op (asendS m K c 10 (asendTab_at 10 c)) ?_
  refine .op (asendS m K c 11 (asendTab_at 11 c)) ?_
  exact .ret (BI.Entails.refl _)

theorem part42 (c : Dev nD) (w0 w1 : BitVec 32) :
    Runs m K c (ASt m c 13) (onArgs (k0_part42 (F := F)) c w0 w1)
      (fun _ => ASt m c 14) := by
  dsimp only [onArgs]
  simp only [k0_part42_eq_skeleton]; unfold k0_part42_skel
  simp only [semSignalWord, semWaitWord, Prog.lift, Prog.bind_op, Prog.bind_ret, Prog.pure_eq_ret]
  refine .op (asendS m K c 12 (asendTab_at 12 c)) ?_
  exact .ret (BI.Entails.refl _)

theorem part43 (c : Dev nD) (w0 : BitVec 32) :
    Runs m K c (ASt m c 14) (onArgs (k0_part43 (F := F)) c w0)
      (fun _ => ASt m c 16) := by
  dsimp only [onArgs]
  simp only [k0_part43_eq_skeleton]; unfold k0_part43_skel
  simp only [semSignalWord, semWaitWord, Prog.lift, Prog.bind_op, Prog.bind_ret, Prog.pure_eq_ret]
  refine .op (asendS m K c 13 (asendTab_at 13 c)) ?_
  refine .op (asendS m K c 14 (asendTab_at 14 c)) ?_
  exact .ret (BI.Entails.refl _)

/-! ## The maxima of the others -/

theorem part44 (c : Dev nD) (w0 w1 w2 : BitVec 32) (w3 : BitVec 1) :
    Runs m K c iprop(Owe (F := F) c 0 ∗ WaitSt m c (fun k => .arecv (src c k)) 1) (onArgs (k0_part44 (F := F)) c w0 w1 w2 w3)
      (fun _ => iprop(Owe (F := F) c 0 ∗ WaitSt m c (fun k => .arecv (src c k)) 3)) := by
  dsimp only [onArgs]
  simp only [k0_part44_eq_skeleton]; unfold k0_part44_skel
  simp only [semSignalWord, semWaitWord, Prog.lift, Prog.bind_op, Prog.bind_ret, Prog.pure_eq_ret]
  refine .op (arecvS m K c 0) ?_
  refine .op (arecvS m K c 1) ?_
  exact .ret (BI.Entails.refl _)

theorem part45 (c : Dev nD) (w0 w1 w2 : BitVec 32) (w3 : BitVec 1) :
    Runs m K c iprop(Owe (F := F) c 0 ∗ WaitSt m c (fun k => .arecv (src c k)) 3) (onArgs (k0_part45 (F := F)) c w0 w1 w2 w3)
      (fun _ => iprop(Owe (F := F) c 0 ∗ WaitSt m c (fun k => .arecv (src c k)) 5)) := by
  dsimp only [onArgs]
  simp only [k0_part45_eq_skeleton]; unfold k0_part45_skel
  simp only [semSignalWord, semWaitWord, Prog.lift, Prog.bind_op, Prog.bind_ret, Prog.pure_eq_ret]
  refine .op (arecvS m K c 2) ?_
  refine .op (arecvS m K c 3) ?_
  exact .ret (BI.Entails.refl _)

theorem part46 (c : Dev nD) (w0 w1 w2 w3 : BitVec 32) :
    Runs m K c iprop(Owe (F := F) c 0 ∗ WaitSt m c (fun k => .arecv (src c k)) 5) (onArgs (k0_part46 (F := F)) c w0 w1 w2 w3)
      (fun _ => iprop(Owe (F := F) c 0 ∗ WaitSt m c (fun k => .arecv (src c k)) 6)) := by
  dsimp only [onArgs]
  simp only [k0_part46_eq_skeleton]; unfold k0_part46_skel
  simp only [semSignalWord, semWaitWord, Prog.lift, Prog.bind_op, Prog.bind_ret, Prog.pure_eq_ret]
  refine .op (arecvS m K c 4) ?_
  exact .ret (BI.Entails.refl _)

theorem part47 (c : Dev nD) (w0 : BitVec 32) :
    Runs m K c iprop(Owe (F := F) c 0 ∗ WaitSt m c (fun k => .arecv (src c k)) 6) (onArgs (k0_part47 (F := F)) c w0)
      (fun _ => iprop(Owe (F := F) c 0 ∗ WaitSt m c (fun k => .arecv (src c k)) 8)) := by
  dsimp only [onArgs]
  simp only [k0_part47_eq_skeleton]; unfold k0_part47_skel
  simp only [semSignalWord, semWaitWord, Prog.lift, Prog.bind_op, Prog.bind_ret, Prog.pure_eq_ret]
  refine .op (arecvS m K c 5) ?_
  refine .op (arecvS m K c 6) ?_
  exact .ret (BI.Entails.refl _)

theorem part48 (c : Dev nD) (w0 : BitVec 32) :
    Runs m K c iprop(Owe (F := F) c 0 ∗ WaitSt m c (fun k => .arecv (src c k)) 8) (onArgs (k0_part48 (F := F)) c w0)
      (fun _ => iprop(Owe (F := F) c 0 ∗ WaitSt m c (fun k => .arecv (src c k)) 10)) := by
  dsimp only [onArgs]
  simp only [k0_part48_eq_skeleton]; unfold k0_part48_skel
  simp only [semSignalWord, semWaitWord, Prog.lift, Prog.bind_op, Prog.bind_ret, Prog.pure_eq_ret]
  refine .op (arecvS m K c 7) ?_
  refine .op (arecvS m K c 8) ?_
  exact .ret (BI.Entails.refl _)

theorem part49 (c : Dev nD) (w0 w1 w2 : BitVec 32) :
    Runs m K c iprop(Owe (F := F) c 0 ∗ WaitSt m c (fun k => .arecv (src c k)) 10) (onArgs (k0_part49 (F := F)) c w0 w1 w2)
      (fun _ => iprop(Owe (F := F) c 0 ∗ WaitSt m c (fun k => .arecv (src c k)) 12)) := by
  dsimp only [onArgs]
  simp only [k0_part49_eq_skeleton]; unfold k0_part49_skel
  simp only [semSignalWord, semWaitWord, Prog.lift, Prog.bind_op, Prog.bind_ret, Prog.pure_eq_ret]
  refine .op (arecvS m K c 9) ?_
  refine .op (arecvS m K c 10) ?_
  exact .ret (BI.Entails.refl _)

theorem part50 (c : Dev nD) (w0 w1 w2 : BitVec 32) (w3 w4 : BitVec 1) (w5 : BitVec 32) :
    Runs m K c iprop(Owe (F := F) c 0 ∗ WaitSt m c (fun k => .arecv (src c k)) 12) (onArgs (k0_part50 (F := F)) c w0 w1 w2 w3 w4 w5)
      (fun _ => iprop(Owe (F := F) c 0 ∗ WaitSt m c (fun k => .arecv (src c k)) 14)) := by
  dsimp only [onArgs]
  simp only [k0_part50_eq_skeleton]; unfold k0_part50_skel
  simp only [semSignalWord, semWaitWord, Prog.lift, Prog.bind_op, Prog.bind_ret, Prog.pure_eq_ret]
  refine .op (arecvS m K c 11) ?_
  refine .op (arecvS m K c 12) ?_
  exact .ret (BI.Entails.refl _)

theorem part51 (c : Dev nD) (w0 w1 w2 : BitVec 32) :
    Runs m K c iprop(Owe (F := F) c 0 ∗ WaitSt m c (fun k => .arecv (src c k)) 14) (onArgs (k0_part51 (F := F)) c w0 w1 w2)
      (fun _ => iprop(Owe (F := F) c 0 ∗ WaitSt m c (fun k => .arecv (src c k)) 16)) := by
  dsimp only [onArgs]
  simp only [k0_part51_eq_skeleton]; unfold k0_part51_skel
  simp only [semSignalWord, semWaitWord, Prog.lift, Prog.bind_op, Prog.bind_ret, Prog.pure_eq_ret]
  refine .op (arecvS m K c 13) ?_
  refine .op (arecvS m K c 14) ?_
  exact .ret (BI.Entails.refl _)

/-! ## The result -/

/-- The maxima of all devices, read together. -/
def aAll (c : Dev nD) : sProp 𝕄 := ((c : Thread nD τ).loc cc0_scratch3 ↦[Finset.univ]{shareDrop fullShare 16} AM m)
/-- The buffer of the result, holding anything; -/
def oAny (c : Dev nD) : sProp 𝕄 := iprop(∃ f : Vec F S256x2048 .f32, ((c : Thread nD τ).loc cc0_stg1_0 ↦[Finset.univ]{fullShare} f))
/-- holding the result. -/
def oAt (c : Dev nD) : sProp 𝕄 := ((c : Thread nD τ).loc cc0_stg1_0 ↦[Finset.univ]{fullShare} OUT m c)

theorem loadaS (c : Dev nD) {ba : ∀ a, (![0, 0, 0] : Fin 3 → ℕ) a + S16x8x128.size a ≤ S16x8x128.size a}
    {hl : aM.view.LoadsAt (Rect.unit (s := S16x8x128) ![0, 0, 0] S16x8x128.size ba).toLoadRect} :
    Step m K c (aAll m c) (.load aM (Rect.unit (s := S16x8x128) ![0, 0, 0] S16x8x128.size ba).toLoadRect hl) (aAll m c) (AM m) := by
  have hr : aM.view.readAt (Elt F) (Rect.unit (s := S16x8x128) ![0, 0, 0] S16x8x128.size ba).toLoadRect (AM m) = AM m :=
    Memref.readAt_unit_zero (Elt F) cc0_scratch3 zero3 _ _
  intro α Q cont
  unfold aAll
  iintro ⟨#Hctx, Hx⟩ Hk
  iapply (wp_load 𝒱₀ (c : Thread nD τ) none Set.univ (m := aM) (Finset.subset_univ _)) $$ Hx
  iintro Hx
  rw [hr]
  iapply Hk; iexact Hx

theorem loadoS (c : Dev nD) (f : Vec F S256x2048 .f32) {bx : ∀ a, (![0, 0] : Fin 2 → ℕ) a + S256x2048.size a ≤ S256x2048.size a}
    {hl : oM.view.LoadsAt (Rect.unit (s := S256x2048) ![0, 0] S256x2048.size bx).toLoadRect} :
    Step m K c (((c : Thread nD τ).loc cc0_stg1_0 ↦[Finset.univ]{fullShare} f)) (.load oM (Rect.unit (s := S256x2048) ![0, 0] S256x2048.size bx).toLoadRect hl)
      (((c : Thread nD τ).loc cc0_stg1_0 ↦[Finset.univ]{fullShare} f)) (oM.view.readAt (Elt F) (Rect.unit (s := S256x2048) ![0, 0] S256x2048.size bx).toLoadRect f) := by
  intro α Q cont
  iintro ⟨#Hctx, Hx⟩ Hk
  iapply (wp_load 𝒱₀ (c : Thread nD τ) none Set.univ (m := oM) (Finset.subset_univ _)) $$ Hx
  iintro Hx
  iapply Hk; iexact Hx

theorem storeoS (c : Dev nD) (f : Vec F S256x2048 .f32) {bx : ∀ a, (![0, 0] : Fin 2 → ℕ) a + S256x2048.size a ≤ S256x2048.size a}
    {hx : (oM.access (Rect.unit (s := S256x2048) ![0, 0] S256x2048.size bx)).Stores Finset.univ}
    {hm : Finset.univ = Finset.univ ∨ ∀ a, (Rect.unit (s := S256x2048) ![0, 0] S256x2048.size bx).stride a = 1} :
    Step m K c (((c : Thread nD τ).loc cc0_stg1_0 ↦[Finset.univ]{fullShare} f))
      (.store oM (Rect.unit (s := S256x2048) ![0, 0] S256x2048.size bx) (k0_pay20 (RL m c) (AM m)) Finset.univ hx hm) (oAt m c) ⟨⟩ := by
  have hw : (oM.access (Rect.unit (s := S256x2048) ![0, 0] S256x2048.size bx)).write (Elt F) f (OUT m c) Finset.univ = OUT m c :=
    Memref.write_access_unit_zero_univ (Elt F) cc0_stg1_0 zero2 _ f _
  intro α Q cont
  unfold oAt
  iintro ⟨#Hctx, Hb⟩ Hk
  iapply (wp_store 𝒱₀ (c : Thread nD τ) none Set.univ (m := oM) (r := Rect.unit (s := S256x2048) ![0, 0] S256x2048.size bx) (Mk := Finset.univ) (Finset.subset_univ _)) $$ Hb
  iintro Hb
  rw [show k0_pay20 (RL m c) (AM m) = OUT m c from rfl, hw]
  iapply Hk; iexact Hb

theorem part52 (c : Dev nD) :
    Runs m K c iprop(aAll m c ∗ oAny (F := F) c ∗ Owe (F := F) c 0 ∗ WaitSt m c (fun k => .send (peer c k)) 1) (onArgs (k0_part52 (F := F)) c (RL m c))
      (fun _ => iprop(iprop(Owe (F := F) c 0 ∗ WaitSt m c (fun k => .send (peer c k)) 4) ∗ oAt m c ∗ aAll m c)) := by
  dsimp only [onArgs]
  simp only [k0_part52_eq_skeleton]; unfold k0_part52_skel
  simp only [semSignalWord, semWaitWord, Prog.lift, Prog.bind_op, Prog.bind_ret, Prog.pure_eq_ret]
  unfold oAny
  refine .pre (P' := iprop(∃ f : Vec F S256x2048 .f32, aAll m c ∗ ((c : Thread nD τ).loc cc0_stg1_0 ↦[Finset.univ]{fullShare} f) ∗ Owe (F := F) c 0 ∗ WaitSt m c (fun k => .send (peer c k)) 1)) ?_ ?_
  · iintro ⟨Ha, ⟨%f, Ho⟩, HO, Hs⟩
    iexists f
    iframe
  refine .ex fun f => ?_
  refine .op ((loadaS m K c).frame m K _) ?_
  refine .opf (G := iprop(aAll m c ∗ Owe (F := F) c 0 ∗ WaitSt m c (fun k => .send (peer c k)) 1)) Laws.sep_left_comm.1 (loadoS m K c f) ?_
  refine .op ((storeoS m K c f).frame m K _) ?_
  refine .opf (G := iprop(oAt m c ∗ aAll m c)) ?_ (sentS m K c 0) ?_
  · iintro ⟨Ho, Ha, HO, Hs⟩; iframe
  refine .op ((sentS m K c 1).frame m K _) ?_
  refine .op ((sentS m K c 2).frame m K _) ?_
  exact .ret (BI.Entails.refl _)

theorem part53 (c : Dev nD) :
    Runs m K c iprop(Owe (F := F) c 0 ∗ WaitSt m c (fun k => .send (peer c k)) 4) (onArgs (k0_part53 (F := F)) c)
      (fun _ => iprop(Owe (F := F) c 0 ∗ WaitSt m c (fun k => .send (peer c k)) 10)) := by
  dsimp only [onArgs]
  simp only [k0_part53_eq_skeleton]; unfold k0_part53_skel
  simp only [semSignalWord, semWaitWord, Prog.lift, Prog.bind_op, Prog.bind_ret, Prog.pure_eq_ret]
  refine .op (sentS m K c 3) ?_
  refine .op (sentS m K c 4) ?_
  refine .op (sentS m K c 5) ?_
  refine .op (sentS m K c 6) ?_
  refine .op (sentS m K c 7) ?_
  refine .op (sentS m K c 8) ?_
  exact .ret (BI.Entails.refl _)

theorem part54 (c : Dev nD) :
    Runs m K c iprop(Owe (F := F) c 0 ∗ WaitSt m c (fun k => .send (peer c k)) 10) (onArgs (k0_part54 (F := F)) c)
      (fun _ => iprop(Owe (F := F) c 0 ∗ WaitSt m c (fun k => .send (peer c k)) 16)) := by
  dsimp only [onArgs]
  simp only [k0_part54_eq_skeleton]; unfold k0_part54_skel
  simp only [semSignalWord, semWaitWord, Prog.lift, Prog.bind_op, Prog.bind_ret, Prog.pure_eq_ret]
  refine .op (sentS m K c 9) ?_
  refine .op (sentS m K c 10) ?_
  refine .op (sentS m K c 11) ?_
  refine .op (sentS m K c 12) ?_
  refine .op (sentS m K c 13) ?_
  refine .op (sentS m K c 14) ?_
  exact .ret (BI.Entails.refl _)

theorem part55 (c : Dev nD) :
    Runs m K c iprop(Owe (F := F) c 0 ∗ WaitSt m c (fun k => .asend (peer c k)) 1) (onArgs (k0_part55 (F := F)) c)
      (fun _ => iprop(Owe (F := F) c 0 ∗ WaitSt m c (fun k => .asend (peer c k)) 6)) := by
  dsimp only [onArgs]
  simp only [k0_part55_eq_skeleton]; unfold k0_part55_skel
  simp only [semSignalWord, semWaitWord, Prog.lift, Prog.bind_op, Prog.bind_ret, Prog.pure_eq_ret]
  refine .op (asentS m K c 0) ?_
  refine .op (asentS m K c 1) ?_
  refine .op (asentS m K c 2) ?_
  refine .op (asentS m K c 3) ?_
  refine .op (asentS m K c 4) ?_
  exact .ret (BI.Entails.refl _)

theorem part56 (c : Dev nD) :
    Runs m K c iprop(Owe (F := F) c 0 ∗ WaitSt m c (fun k => .asend (peer c k)) 6) (onArgs (k0_part56 (F := F)) c)
      (fun _ => iprop(Owe (F := F) c 0 ∗ WaitSt m c (fun k => .asend (peer c k)) 11)) := by
  dsimp only [onArgs]
  simp only [k0_part56_eq_skeleton]; unfold k0_part56_skel
  simp only [semSignalWord, semWaitWord, Prog.lift, Prog.bind_op, Prog.bind_ret, Prog.pure_eq_ret]
  refine .op (asentS m K c 5) ?_
  refine .op (asentS m K c 6) ?_
  refine .op (asentS m K c 7) ?_
  refine .op (asentS m K c 8) ?_
  refine .op (asentS m K c 9) ?_
  exact .ret (BI.Entails.refl _)

end Cert.MeshRun
-- ==== Proof.Body.lean ====
/-
# The kernel's body, stretch after stretch
-/
module

public import proofs.«01_k».proof.Proof.Signals
public import proofs.«01_k».proof.Proof.Sends
public import proofs.«01_k».proof.Proof.Product
public import proofs.«01_k».proof.Proof.Maxima
public import Idealize.SL.BI.BigOpNat

@[expose] public section

set_option maxRecDepth 8000

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (K : Dev nD × Kd → ℕ)

/-! ## Regrouping between the stretches -/

theorem bigSep_peel {M : Type} [URA M] (c : Dev nD) (A : Dev nD → sProp M) :
    bigSep Finset.univ A = iprop(A c ∗ bigSep (Finset.Ico 1 16) (fun k => A (peer c k))) := by
  rw [← bigSep_others_peer c A]; exact bigSep_univ_at A c
theorem bigSep_peel_src {M : Type} [URA M] (c : Dev nD) (A : Dev nD → sProp M) :
    bigSep Finset.univ A = iprop(A c ∗ bigSep (Finset.Ico 1 16) (fun k => A (src c k))) := by
  rw [← bigSep_others_src c A]; exact bigSep_univ_at A c

/-- The cast `x`, block by block. -/
theorem bAt_eq (c : Dev nD) : bAt m c = bigSep Finset.univ (fun d : Dev nD => bP m c d) := by
  unfold bAt bP
  rw [Ring.pointsTo_blocks (fun d : Fin 16 => (bRect d).set) bRect_disjoint bRect_cover]
  exact bigSep_congr fun d _ => by rw [set_bRow]

/-- A slot of the maxima, shared out: one share to read it, one for each device's transfer. -/
theorem aP_shares (c s : Dev nD) :
    aP m c s fullShare = iprop(aP m c s (shareDrop fullShare 16) ∗ bigSep Finset.univ (fun d : Dev nD => aP m c s (shareTokN fullShare d.val))) := by
  have h : Finset.range 16 = Finset.univ.map (Fin.valEmbedding (n := 16)) := by decide
  have e := Transfers.pointsTo_toks_range (Ix := Unit) (Name := ℕ) (U := UU) (Lvl := ℕ) (ℓ := (aSlot s).view.loc (c : Thread nD τ)) (S := (aSlot s).view.set) (f := AM m) fullShare 16
  unfold aP
  rw [Entails.antisymm e.1 e.2, h, bigSep_map]
  rfl

/-- All slots of the maxima, at the share to read them. -/
theorem aAll_eq (c : Dev nD) : aAll m c = bigSep Finset.univ (fun s : Dev nD => aP m c s (shareDrop fullShare 16)) := by
  unfold aAll aP
  rw [Ring.pointsTo_blocks (fun d : Fin 16 => (aRect d).set) aRect_disjoint aRect_cover]
  exact bigSep_congr fun d _ => by rw [set_aSlot]

/-! ## What the kernel starts with, and what it leaves -/

/-- The payments of the transfers of `x`; -/
abbrev XToks (c : Dev nD) : sProp 𝕄 := bigSep (Finset.Ico 1 16) (fun k => iprop(dutyTok ER (cell c (.send (peer c k))) 0 (0 : Dev nD) ∗ dutyTok ER (cell (peer c k) (.recv c)) 0 (0 : Dev nD)))
/-- of the maxima. -/
abbrev AToks (c : Dev nD) : sProp 𝕄 := bigSep (Finset.Ico 1 16) (fun k => iprop(dutyTok ER (cell c (.asend (peer c k))) 0 (0 : Dev nD) ∗ dutyTok ER (cell (peer c k) (.arecv c)) 0 (0 : Dev nD)))
/-- Where the device stands at its send cells. -/
abbrev XPos (c : Dev nD) : sProp 𝕄 := bigSep (Finset.Ico 1 16) (fun k => atPos ER (cell c (.send (peer c k))) 0 ∅ 0)
abbrev APos (c : Dev nD) : sProp 𝕄 := bigSep (Finset.Ico 1 16) (fun k => atPos ER (cell c (.asend (peer c k))) 0 ∅ 0)
/-- The credits of its transfers, to be waited for. -/
abbrev XCred (c : Dev nD) : sProp 𝕄 := bigSep (Finset.Ico 1 16) (fun k => cred (tallyAt (cell c (.send (peer c k))) () NX))
abbrev ACred (c : Dev nD) : sProp 𝕄 := bigSep (Finset.Ico 1 16) (fun k => cred (tallyAt (cell c (.asend (peer c k))) () NA))
/-- The slots for its maximum on the others, as the barrier hands them over. -/
abbrev ASlots (c : Dev nD) : sProp 𝕄 := bigSep (Finset.Ico 1 16) (fun k => aAny (F := F) (peer c k) c)
/-- The shares of a received maximum that are not read. -/
abbrev ASpare (c : Dev nD) : sProp 𝕄 := bigSep (Finset.Ico 1 16) (fun k => bigSep Finset.univ (fun d : Dev nD => aP m c (src c k) (shareTokN fullShare d.val)))

def Rest2 (c : Dev nD) : sProp 𝕄 :=
  iprop(XToks (F := F) c ∗ (gAny (F := F) c c ∗ dutyTok ER (cell c .loc) 0 (0 : Dev nD)) ∗ atPos ER (cell c .loc) 0 ∅ 0 ∗ WaitSt m c (fun k => .recv (src c k)) 1
    ∗ aAny (F := F) c c ∗ AToks (F := F) c ∗ WaitSt m c (fun k => .arecv (src c k)) 1 ∗ oAny (F := F) c ∗ XPos (F := F) c ∗ APos (F := F) c)

/-- What the kernel starts with, but for the rows it fetches first; -/
def Rest1 (c : Dev nD) : sProp 𝕄 :=
  iprop((xAt m c ∗ bAny (F := F) c ∗ cred (tallyAt (cell c .bar) () 15) ∗ atPos ER (cell c .bar) 0 ∅ 0) ∗ Rest2 m c)
/-- with them. -/
def BodyPre (c : Dev nD) : sProp 𝕄 :=
  iprop(WSt m c 0 0 4 ∗ SigSt (F := F) c (OA c 1 + OX c 1) 1 ∗ Rest1 m c)

/-- Kept while `x` is sent; -/
def Rest3 (c : Dev nD) : sProp 𝕄 :=
  iprop(xAt m c ∗ semVal (cell c .bar) 0 ∗ ASlots (F := F) c ∗ aAny (F := F) c c ∗ AToks (F := F) c ∗ WaitSt m c (fun k => .arecv (src c k)) 1
    ∗ oAny (F := F) c ∗ XPos (F := F) c ∗ APos (F := F) c)
/-- while the product is computed; -/
def Rest4 (c : Dev nD) : sProp 𝕄 := iprop((bP m c c ∗ semVal (cell c .loc) 0 ∗ XCred (F := F) c) ∗ Rest3 m c)
/-- while it finishes; -/
def Rest5 (c : Dev nD) : sProp 𝕄 :=
  iprop(gP m c c ∗ (bP m c c ∗ semVal (cell c .loc) 0 ∗ XCred (F := F) c) ∗ xAt m c ∗ semVal (cell c .bar) 0 ∗ ASlots (F := F) c ∗ AToks (F := F) c
    ∗ WaitSt m c (fun k => .arecv (src c k)) 1 ∗ oAny (F := F) c ∗ XPos (F := F) c ∗ APos (F := F) c)
/-- done with all but the maxima; -/
def Done (c : Dev nD) : sProp 𝕄 :=
  iprop(xAt m c ∗ semVal (cell c .bar) 0 ∗ semVal (cell c .loc) 0 ∗ WSt m c 16 16 20 ∗ gP m c c ∗ bP m c c ∗ WaitSt m c (fun k => .recv (src c k)) 16
    ∗ aP m c c (shareTokN fullShare c.val))
/-- kept while the maxima are sent, -/
def Rest6 (c : Dev nD) : sProp 𝕄 :=
  iprop(aP m c c (shareDrop fullShare 16) ∗ XCred (F := F) c ∗ WaitSt m c (fun k => .arecv (src c k)) 1 ∗ oAny (F := F) c ∗ XPos (F := F) c ∗ APos (F := F) c ∗ Done m c)
/-- while they are received, -/
def Rest7 (c : Dev nD) : sProp 𝕄 :=
  iprop(aP m c c (shareDrop fullShare 16) ∗ XCred (F := F) c ∗ ACred (F := F) c ∗ oAny (F := F) c ∗ XPos (F := F) c ∗ APos (F := F) c ∗ Done m c)
/-- after the result is written, -/
def Rest8 (c : Dev nD) : sProp 𝕄 :=
  iprop(ACred (F := F) c ∗ APos (F := F) c ∗ ASpare m c ∗ bigSep (Finset.Ico 1 16) (fun k => semVal (cell c (.arecv (src c k))) 0) ∗ Done m c)
/-- and at the last waits. -/
def Rest9 (c : Dev nD) : sProp 𝕄 :=
  iprop(WaitSt m c (fun k => .send (peer c k)) 16 ∗ (oAt m c ∗ aAll m c) ∗ ASpare m c ∗ bigSep (Finset.Ico 1 16) (fun k => semVal (cell c (.arecv (src c k))) 0) ∗ Done m c)

/-- What the kernel leaves. -/
def BodyPost (c : Dev nD) : sProp 𝕄 := iprop((Owe (F := F) c 0 ∗ WaitSt m c (fun k => .asend (peer c k)) 16) ∗ Rest9 m c)

theorem WaitSt_of (c : Dev nD) (A : ℕ → Kd) :
    iprop(bigSep (Finset.Ico 1 16) (fun k => cred (tallyAt (cell c (A k)) () (kdAmount (A k)))) ∗ bigSep (Finset.Ico 1 16) (fun k => atPos ER (cell c (A k)) 0 ∅ 0)) ⊢ WaitSt m c A 1 := by
  unfold WaitSt
  rw [bigSep_sep', Finset.Ico_self, bigSep_empty]
  iintro ⟨H1, H2⟩
  iframe
  iempintro

theorem WaitSt_done (c : Dev nD) (A : ℕ → Kd) :
    WaitSt m c A 16 ⊢ iprop(bigSep (Finset.Ico 1 16) (fun k => semVal (cell c (A k)) 0) ∗ bigSep (Finset.Ico 1 16) (fun k => kdPay m c 0 0 (A k))) := by
  unfold WaitSt
  rw [Finset.Ico_self, bigSep_empty, bigSep_sep']
  iintro ⟨-, H1, H2⟩
  iframe

theorem to_barrier (c : Dev nD) : iprop(SigSt (F := F) c (OA c 1 + OX c 1) 14 ∗ WSt m c 4 0 4 ∗ Rest1 m c)
    ⊢ iprop((SigSt (F := F) c (OA c 1 + OX c 1) 14 ∗ xAt m c ∗ bAny (F := F) c ∗ cred (tallyAt (cell c .bar) () 15) ∗ atPos ER (cell c .bar) 0 ∅ 0)
      ∗ WSt m c 4 0 4 ∗ Rest2 m c) := by
  unfold Rest1
  iintro ⟨HS, HW, HX, HR⟩
  iframe

theorem to_sends (c : Dev nD) :
    iprop((xAt m c ∗ bAt m c ∗ Owe (F := F) c (OA c 1 + OX c 1) ∗ semVal (cell c .bar) 0 ∗ bigSep (Finset.Ico 1 16) (fun k => iprop(gAny (F := F) (peer c k) c ∗ aAny (F := F) (peer c k) c)))
      ∗ WSt m c 4 0 4 ∗ Rest2 m c)
    ⊢ iprop(SendSt m c 1 ∗ ((bP m c c ∗ gAny (F := F) c c ∗ dutyTok ER (cell c .loc) 0 (0 : Dev nD)) ∗ atPos ER (cell c .loc) 0 ∅ 0 ∗ WSt m c 4 0 4 ∗ WaitSt m c (fun k => .recv (src c k)) 1) ∗ Rest3 m c) := by
  unfold Rest2 Rest3 SendSt
  rw [bAt_eq, bigSep_peel c, Finset.Ico_self, bigSep_empty]
  simp only [bigSep_sep']
  iintro ⟨⟨Hx, ⟨Hb, Hbs⟩, HO, Hz, Hg, Ha⟩, HW, ⟨Ht1, Ht2⟩, ⟨Hgc, Htl⟩, Hl, Hrv, Hac, HA, HAR, Ho, Hp1, Hp2⟩
  iframe
  iempintro

theorem to_product (c : Dev nD) : iprop(SendSt m c 15 ∗ ((bP m c c ∗ gAny (F := F) c c ∗ dutyTok ER (cell c .loc) 0 (0 : Dev nD)) ∗ atPos ER (cell c .loc) 0 ∅ 0 ∗ WSt m c 4 0 4 ∗ WaitSt m c (fun k => .recv (src c k)) 1) ∗ Rest3 m c)
    ⊢ iprop((SendSt m c 15 ∗ (bP m c c ∗ gAny (F := F) c c ∗ dutyTok ER (cell c .loc) 0 (0 : Dev nD)) ∗ atPos ER (cell c .loc) 0 ∅ 0 ∗ WSt m c 4 0 4 ∗ WaitSt m c (fun k => .recv (src c k)) 1) ∗ Rest3 m c) :=
  Laws.sep_assoc.2

theorem in_product (c : Dev nD) : iprop((gP m c c ∗ Loop m c 4 1 5 1 ∗ bP m c c ∗ semVal (cell c .loc) 0 ∗ XCred (F := F) c) ∗ Rest3 m c)
    ⊢ iprop((gP m c c ∗ Loop m c 4 1 5 1) ∗ Rest4 m c) := by
  unfold Rest4
  iintro ⟨⟨Hg, HL, H⟩, HR⟩
  iframe

theorem end_product (c : Dev nD) : iprop(Loop m c 16 15 19 15 ∗ gP m c c ∗ Rest4 m c)
    ⊢ iprop((Loop m c 16 15 19 15 ∗ aAny (F := F) c c) ∗ Rest5 m c) := by
  unfold Rest4 Rest5 Rest3
  iintro ⟨HL, Hg, HB, H1, H2, H3, H4, H5⟩
  iframe

theorem to_maxima (c : Dev nD) : iprop((Loop m c 16 16 20 16 ∗ aP m c c fullShare) ∗ Rest5 m c) ⊢ iprop(ASt m c 1 ∗ Rest6 m c) := by
  unfold Rest5 Rest6 ASt Done Loop
  rw [aP_shares, bigSep_peel c (fun d => aP m c c (shareTokN fullShare d.val)), Finset.Ico_self, bigSep_empty]
  simp only [bigSep_sep']
  iintro ⟨⟨⟨HW, HO, Hrv⟩, Had, Hac, Has⟩, Hg, ⟨Hb, Hz, HX⟩, Hx, Hzb, HS, ⟨Ht1, Ht2⟩, HAR, Ho, Hp1, Hp2⟩
  iframe
  iempintro

theorem to_received (c : Dev nD) : iprop(ASt m c 16 ∗ Rest6 m c) ⊢ iprop((Owe (F := F) c 0 ∗ WaitSt m c (fun k => .arecv (src c k)) 1) ∗ Rest7 m c) := by
  unfold Rest6 Rest7 ASt
  rw [OA_end]
  iintro ⟨⟨HO, -, HC⟩, H1, H2, H3, H4⟩
  iframe

theorem arecv_shares (c : Dev nD) : bigSep (Finset.Ico 1 16) (fun k => kdPay m c 0 0 (.arecv (src c k)))
    ⊢ iprop(bigSep (Finset.Ico 1 16) (fun k => aP m c (src c k) (shareDrop fullShare 16)) ∗ ASpare m c) := by
  unfold ASpare
  rw [← bigSep_sep']
  exact Entails.of_eq (bigSep_congr fun k _ => aP_shares m c (src c k))

theorem to_result (c : Dev nD) : iprop((Owe (F := F) c 0 ∗ WaitSt m c (fun k => .arecv (src c k)) 16) ∗ Rest7 m c)
    ⊢ iprop((aAll m c ∗ oAny (F := F) c ∗ Owe (F := F) c 0 ∗ WaitSt m c (fun k => .send (peer c k)) 1) ∗ Rest8 m c) := by
  unfold Rest7 Rest8
  rw [aAll_eq, bigSep_peel_src c (fun s => aP m c s (shareDrop fullShare 16))]
  iintro ⟨⟨HO, HAR⟩, Had, HX, HC, Ho, Hp1, Hp2, HD⟩
  ihave ⟨Hz, Hpay⟩ := (WaitSt_done m c _) $$ HAR
  ihave ⟨Hd, Hsp⟩ := (arecv_shares m c) $$ Hpay
  ihave HS := (WaitSt_of m c (fun k => .send (peer c k))) $$ [HX Hp1]
  · dsimp only [kdAmount_send]
    iframe
  iframe

theorem to_last (c : Dev nD) : iprop((Owe (F := F) c 0 ∗ WaitSt m c (fun k => .send (peer c k)) 16) ∗ (oAt m c ∗ aAll m c) ∗ Rest8 m c)
    ⊢ iprop((Owe (F := F) c 0 ∗ WaitSt m c (fun k => .asend (peer c k)) 1) ∗ Rest9 m c) := by
  unfold Rest8 Rest9
  iintro ⟨⟨HO, HS⟩, HoA, HC, Hp, Hsp, Hz, HD⟩
  ihave HA := (WaitSt_of m c (fun k => .asend (peer c k))) $$ [HC Hp]
  · dsimp only [kdAmount_asend]
    iframe
  iframe

/-! ## The whole body -/

set_option maxHeartbeats 4000000 in
theorem part57 (c : Dev nD) :
    Runs m K c (BodyPre m c) (onArgs (k0_part57 (F := F)))
      (fun r => iprop(⌜r = c⌝ ∗ ((Owe (F := F) c 0 ∗ WaitSt m c (fun k => .asend (peer c k)) 11) ∗ Rest9 m c))) := by
  unfold BodyPre
  dsimp only [onArgs]
  simp only [k0_part57_eq_skeleton]; unfold k0_part57_skel
  refine .bind (part1 m K c) ?_
  rintro ⟨d0, v2, v13, v24, v35⟩
  refine .fact fun h => ?_
  dsimp only at h
  subst d0
  refine .bind (part2 m K c _) ?_
  rintro ⟨v46, v57, v68, v69, c16, v70, c1⟩
  refine .bind (part3 m K c _ _ _ _ _) ?_
  rintro ⟨v79, v90, v101, v104, v105, v106, v107⟩
  refine .bind (part4 m K c _ _ _ _ _) ?_
  rintro ⟨v112, v123, v134, v145⟩
  refine .seq (BI.Entails.refl _) (part5 m K c _ _) ?_
  rintro ⟨v156, v167⟩
  refine .seqf Laws.sep_assoc.2 (part6 m K c _ _ _) ?_
  rintro ⟨v192, v206, v208⟩ rfl
  refine .seq (G := iprop(WSt m c 4 0 4 ∗ Rest1 m c)) (by iintro ⟨⟨HW, HS⟩, HR⟩; iframe) (part7 m K c _ _ _) fun v7 => ?_
  refine .seq (BI.Entails.refl _) (part8 m K c _ _) ?_
  rintro ⟨v271, v273⟩
  refine .seq (BI.Entails.refl _) (part9 m K c _ _ _) fun v9 => ?_
  refine .seq (BI.Entails.refl _) (part10 m K c _ _) ?_
  rintro ⟨v336, v338⟩
  refine .seq (BI.Entails.refl _) (part11 m K c _ _ _) fun v11 => ?_
  refine .seq (to_barrier m c) (part12 m K c ((above_OA c 1 (by decide)).add (above_OX c 1 (by decide))) _ _) ?_
  rintro ⟨v397, v402, v403⟩
  refine .seq (to_sends m c) (part13 m K c _ _ _ _) ?_
  rintro ⟨v436, v438⟩
  refine .seq (BI.Entails.refl _) (part14 m K c _ _ _) fun v14 => ?_
  refine .seq (BI.Entails.refl _) (part15 m K c _) fun v15 => ?_
  refine .seq (BI.Entails.refl _) (part16 m K c _ _) ?_
  rintro ⟨v543, v544, v545, v546⟩
  refine .seq (BI.Entails.refl _) (part17 m K c _ _ _ _ _) fun v17 => ?_
  refine .seq (BI.Entails.refl _) (part18 m K c _ _) fun v18 => ?_
  refine .seq (BI.Entails.refl _) (part19 m K c _) ?_
  rintro ⟨v649, v654, v655⟩
  refine .seq (BI.Entails.refl _) (part20 m K c _ _ _ _) ?_
  rintro ⟨v688, v690⟩
  refine .seqf (to_product m c) (part21 m K c _ _ _) ?_
  rintro r21 rfl
  refine .seqf (in_product m c) (part22 m K c _ _ _) ?_
  rintro ⟨v727, v753⟩ ⟨rfl, rfl⟩
  refine .seqf Laws.sep_assoc.1 (part23 m K c _ _ _) ?_
  rintro r23 rfl
  refine .seqf (BI.Entails.refl _) (part24 m K c _ _) ?_
  rintro r24 rfl
  refine .seqf (BI.Entails.refl _) (part25 m K c _ _ _) ?_
  rintro r25 rfl
  refine .seqf (BI.Entails.refl _) (part26 m K c _ _ _) ?_
  rintro r26 rfl
  refine .seqf (BI.Entails.refl _) (part27 m K c _ _ _) ?_
  rintro r27 rfl
  refine .seqf (BI.Entails.refl _) (part28 m K c _ _ _) ?_
  rintro r28 rfl
  refine .seqf (BI.Entails.refl _) (part29 m K c _ _ _) ?_
  rintro ⟨v943, v965⟩ ⟨rfl, rfl⟩
  refine .seqf (BI.Entails.refl _) (part30 m K c _ _ _) ?_
  rintro r30 rfl
  refine .seqf (BI.Entails.refl _) (part31 m K c _ _) ?_
  rintro r31 rfl
  refine .seqf (BI.Entails.refl _) (part32 m K c _ _) ?_
  rintro r32 rfl
  refine .seqf (BI.Entails.refl _) (part33 m K c _ _) ?_
  rintro ⟨v1072, v1088, v1090⟩ ⟨rfl, rfl, rfl⟩
  refine .seqf (end_product m c) (part34 m K c _ _) ?_
  rintro ⟨v1114, c807⟩ rfl
  refine .seq (to_maxima m c) (part35 m K c _ _) fun v35 => ?_
  refine .seq (BI.Entails.refl _) (part36 m K c _) ?_
  rintro ⟨v1190, v1191, v1196⟩
  refine .seq (BI.Entails.refl _) (part37 m K c _ _ _ _) ?_
  rintro ⟨v1230, c873, v1231, c875⟩
  refine .seq (BI.Entails.refl _) (part38 m K c _ _ _ _ _) fun v38 => ?_
  refine .seq (BI.Entails.refl _) (part39 m K c _) ?_
  rintro ⟨v1304, c919⟩
  refine .seq (BI.Entails.refl _) (part40 m K c _ _ _) ?_
  rintro ⟨v1337, v1338, v1339, c942⟩
  refine .seq (BI.Entails.refl _) (part41 m K c _ _ _ _ _) fun v41 => ?_
  refine .seq (BI.Entails.refl _) (part42 m K c _ _) fun v42 => ?_
  refine .seq (BI.Entails.refl _) (part43 m K c _) ?_
  rintro ⟨v1442, v1443, v1448⟩
  refine .seq (to_received m c) (part44 m K c _ _ _ _) ?_
  rintro ⟨v1480, v1481, v1482⟩
  refine .seq (BI.Entails.refl _) (part45 m K c _ _ _ _) ?_
  rintro ⟨v1516, c1055, c1056⟩
  refine .seq (BI.Entails.refl _) (part46 m K c _ _ _ _) fun v46 => ?_
  refine .seq (BI.Entails.refl _) (part47 m K c _) fun v47 => ?_
  refine .seq (BI.Entails.refl _) (part48 m K c _) ?_
  rintro ⟨v1621, c1126⟩
  refine .seq (BI.Entails.refl _) (part49 m K c _ _ _) ?_
  rintro ⟨v1651, v1652, v1653, v1654, c1151⟩
  refine .seq (BI.Entails.refl _) (part50 m K c _ _ _ _ _ _) ?_
  rintro ⟨v1687, v1689⟩
  refine .seq (BI.Entails.refl _) (part51 m K c _ _ _) fun v51 => ?_
  refine .seq (to_result m c) (part52 m K c) fun v52 => ?_
  refine .seq Laws.sep_assoc.1 (part53 m K c) fun v53 => ?_
  refine .seq (BI.Entails.refl _) (part54 m K c) fun v54 => ?_
  refine .seq (to_last m c) (part55 m K c) fun v55 => ?_
  refine .seq (BI.Entails.refl _) (part56 m K c) fun v56 => ?_
  exact .fin m K (φ := fun r => r = c) rfl (BI.Entails.refl _)

theorem body_run (c : Dev nD) : Runs m K c (BodyPre m c) (onArgs (cc0_body (F := F))) (fun _ => BodyPost m c) := by
  dsimp only [onArgs]
  simp only [cc0_body_eq_skeleton]; unfold cc0_body_skel
  refine .bind (part57 m K c) ?_
  intro d0
  refine .fact fun h => ?_
  subst d0
  simp only [Prog.lift, Prog.bind_op, Prog.bind_ret, Prog.pure_eq_ret]
  refine .op ((asentS m K c 10).frame m K _) ?_
  refine .op ((asentS m K c 11).frame m K _) ?_
  refine .op ((asentS m K c 12).frame m K _) ?_
  refine .op ((asentS m K c 13).frame m K _) ?_
  refine .op ((asentS m K c 14).frame m K _) ?_
  exact .ret (BI.Entails.refl _)

end Cert.MeshRun
-- ==== Proof.Ends.lean ====
/-
# Before and after the body

What a device holds at launch — its buffers whole, where it stands at its cells, the payments it is to make and the
credits it will receive — is what the body starts with; and from what the body leaves, all buffers are whole again and
all semaphores zero.
-/
module

public import proofs.«01_k».proof.Proof.Body

@[expose] public section

set_option maxRecDepth 8000

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (m : (ℓ : Loc nD τ sig) → Buf (Elt F) ℓ) (K : Dev nD × Kd → ℕ)

/-! ## Buffers and their slots -/

/-- A buffer held whole is held slot by slot, -/
theorem gAny_split (c : Dev nD) (f : Buf (Elt F) ((c : Thread nD τ).loc cc0_scratch1)) :
    ((c : Thread nD τ).loc cc0_scratch1 ↦[Finset.univ]{fullShare} f : sProp 𝕄) ⊢ bigSep Finset.univ (fun s : Dev nD => gAny c s) := by
  rw [Ring.pointsTo_blocks (fun d : Fin 16 => (gRect d).set) gRect_disjoint gRect_cover]
  refine bigSep_mono fun s _ => ?_
  unfold gAny; rw [set_gSlot]
  exact Laws.exists_intro (Φ := fun g => (gSlot s).view.loc (c : Thread nD τ) ↦[(gRect s).set]{fullShare} g) f
theorem aAny_split (c : Dev nD) (f : Buf (Elt F) ((c : Thread nD τ).loc cc0_scratch3)) :
    ((c : Thread nD τ).loc cc0_scratch3 ↦[Finset.univ]{fullShare} f : sProp 𝕄) ⊢ bigSep Finset.univ (fun s : Dev nD => aAny c s) := by
  rw [Ring.pointsTo_blocks (fun d : Fin 16 => (aRect d).set) aRect_disjoint aRect_cover]
  refine bigSep_mono fun s _ => ?_
  unfold aAny; rw [set_aSlot]
  exact Laws.exists_intro (Φ := fun g => (aSlot s).view.loc (c : Thread nD τ) ↦[(aRect s).set]{fullShare} g) f
theorem vAny_split (c : Dev nD) (f : Buf (Elt F) ((c : Thread nD τ).loc cc0_scratch2)) :
    ((c : Thread nD τ).loc cc0_scratch2 ↦[Finset.univ]{fullShare} f : sProp 𝕄) ⊢ bigSep Finset.univ (fun i : Fin 4 => vAny c i) := by
  rw [Ring.pointsTo_blocks (fun d : Fin 4 => (vRect d).set) vRect_disjoint vRect_cover]
  refine bigSep_mono fun s _ => ?_
  unfold vAny; rw [set_vSlot]
  exact Laws.exists_intro (Φ := fun g => (vSlot s).view.loc (c : Thread nD τ) ↦[(vRect s).set]{fullShare} g) f
/-- and back. -/
theorem vAny_join (c : Dev nD) (f₀ : Buf (Elt F) ((c : Thread nD τ).loc cc0_scratch2)) :
    bigSep Finset.univ (fun i : Fin 4 => vAny c i) ⊢ (∃ f, ((c : Thread nD τ).loc cc0_scratch2 ↦[Finset.univ]{fullShare} f) : sProp 𝕄) := by
  refine BI.Entails.trans ?_ (Ring.pointsTo_blocks_join_exists (fun d : Fin 4 => (vRect d).set) vRect_disjoint vRect_cover f₀)
  refine bigSep_mono fun s _ => ?_
  unfold vAny; rw [set_vSlot]
  exact BI.Entails.refl _
theorem gP_join (c : Dev nD) :
    bigSep Finset.univ (fun s : Dev nD => gP m c s) = ((c : Thread nD τ).loc cc0_scratch1 ↦[Finset.univ]{fullShare} XG m c : sProp 𝕄) := by
  rw [Ring.pointsTo_blocks (fun d : Fin 16 => (gRect d).set) gRect_disjoint gRect_cover]
  exact bigSep_congr fun s _ => by unfold gP; rw [set_gSlot]
theorem aP_join (c : Dev nD) :
    bigSep Finset.univ (fun s : Dev nD => aP m c s fullShare) = ((c : Thread nD τ).loc cc0_scratch3 ↦[Finset.univ]{fullShare} AM m : sProp 𝕄) := by
  rw [Ring.pointsTo_blocks (fun d : Fin 16 => (aRect d).set) aRect_disjoint aRect_cover]
  exact bigSep_congr fun s _ => by unfold aP; rw [set_aSlot]
/-- The weights, whole. -/
def wAt (c : Dev nD) : sProp 𝕄 := (c : Thread nD τ).loc main_arg1 ↦[Finset.univ]{fullShare} W m c
/-- The weights, row block by row block, in the order a device takes them. -/
theorem wP_join (c : Dev nD) :
    bigSep (Finset.Ico 0 16) (fun k => wP m c (src c k)) = wAt m c := by
  unfold wAt
  rw [← bigSep_order c (fun d => wP m c d), Ring.pointsTo_blocks (fun d : Fin 16 => (wRect d).set) wRect_disjoint wRect_cover]
  exact bigSep_congr fun s _ => by unfold wP; rw [set_wRow]

/-- The four slots, as the first four fetches take them, -/
theorem bigSep_slots {M : Type} [URA M] (A : Fin 4 → sProp M) : bigSep Finset.univ A = bigSep (Finset.Ico 0 4) (fun k => A (wi k)) := by
  rw [bigSep_univ_eq_bigSepL ((List.range' 0 4).map wi) (by decide) (by decide), bigSepL_map', ← bigSep_Ico_list 0 4]
/-- and as the four after the last would. -/
theorem bigSep_slots' {M : Type} [URA M] (A : Fin 4 → sProp M) : bigSep Finset.univ A = bigSep (Finset.Ico 16 20) (fun k => A (wi k)) := by
  rw [bigSep_univ_eq_bigSepL ((List.range' 16 4).map wi) (by decide) (by decide), bigSepL_map', ← bigSep_Ico_list 16 4]

/-! ## Before -/

/-- The payments a device makes. -/
def PayToks (c : Dev nD) : sProp 𝕄 :=
  iprop(bigSep (Finset.Ico 1 16) (fun k => dutyTok ER (cell (peer c k) .bar) 0 c) ∗ XToks (F := F) c ∗ AToks (F := F) c
    ∗ bigSep (Finset.Ico 0 16) (fun k => dutyTok ER (cell c (.wsem (wi k))) (k / 4) (0 : Dev nD)) ∗ dutyTok ER (cell c .loc) 0 (0 : Dev nD))
/-- The credits it will receive. -/
def Creds (c : Dev nD) : sProp 𝕄 :=
  iprop(cred (tallyAt (cell c .bar) () 15) ∗ bigSep (Finset.Ico 1 16) (fun k => cred (tallyAt (cell c (.recv (src c k))) () NX))
    ∗ bigSep (Finset.Ico 1 16) (fun k => cred (tallyAt (cell c (.arecv (src c k))) () NA)))
/-- Where it stands at launch at every cell of its own. -/
def Pos (c : Dev nD) : sProp 𝕄 := bigSep Finset.univ (fun k : Kd => atPos ER (cell c k) 0 ∅ 0)
/-- Its buffers whole. -/
def Bufs (c : Dev nD) : sProp 𝕄 :=
  iprop((∃ f, (c : Thread nD τ).loc cc0_scratch0 ↦[Finset.univ]{fullShare} f) ∗ (∃ f, (c : Thread nD τ).loc cc0_scratch1 ↦[Finset.univ]{fullShare} f)
    ∗ (∃ f, (c : Thread nD τ).loc cc0_scratch2 ↦[Finset.univ]{fullShare} f) ∗ (∃ f, (c : Thread nD τ).loc cc0_scratch3 ↦[Finset.univ]{fullShare} f))
/-- The cells it shares with no one, which it uses for nothing. -/
def Idle (c : Dev nD) : sProp 𝕄 :=
  iprop(atPos ER (cell c (.send c)) 0 ∅ 0 ∗ atPos ER (cell c (.recv c)) 0 ∅ 0 ∗ atPos ER (cell c (.asend c)) 0 ∅ 0 ∗ atPos ER (cell c (.arecv c)) 0 ∅ 0)

theorem Pos_eq (c : Dev nD) : (Pos c : sProp 𝕄)
    = iprop(atPos ER (cell c .bar) 0 ∅ 0 ∗ (atPos ER (cell c (.send c)) 0 ∅ 0 ∗ XPos c)
      ∗ (atPos ER (cell c (.recv c)) 0 ∅ 0 ∗ bigSep (Finset.Ico 1 16) (fun k => atPos ER (cell c (.recv (src c k))) 0 ∅ 0))
      ∗ (atPos ER (cell c (.asend c)) 0 ∅ 0 ∗ APos c)
      ∗ (atPos ER (cell c (.arecv c)) 0 ∅ 0 ∗ bigSep (Finset.Ico 1 16) (fun k => atPos ER (cell c (.arecv (src c k))) 0 ∅ 0))
      ∗ bigSep (Finset.Ico 0 4) (fun k => atPos ER (cell c (.wsem (wi k))) 0 ∅ 0) ∗ atPos ER (cell c .loc) 0 ∅ 0) := by
  unfold Pos
  rw [bigSep_kinds, bigSep_peel c (fun i : Dev nD => (atPos ER (cell c (.send i)) 0 ∅ 0 : sProp 𝕄)),
    bigSep_peel_src c (fun i : Dev nD => (atPos ER (cell c (.recv i)) 0 ∅ 0 : sProp 𝕄)),
    bigSep_peel c (fun i : Dev nD => (atPos ER (cell c (.asend i)) 0 ∅ 0 : sProp 𝕄)),
    bigSep_peel_src c (fun i : Dev nD => (atPos ER (cell c (.arecv i)) 0 ∅ 0 : sProp 𝕄)),
    bigSep_slots (fun i => (atPos ER (cell c (.wsem i)) 0 ∅ 0 : sProp 𝕄))]

/-- The weights' cells have reached the first fetches' round. -/
theorem reached_slots (c : Dev nD) : Ctx m K ⊢ bigSep (Finset.Ico 0 4) (fun k => (reached ER (cell c (.wsem (wi k))) (k / 4) : sProp 𝕄)) :=
  (BI.bigSep_of_persistent _ _).trans (bigSep_mono fun k hk => by
    rw [Nat.div_eq_of_lt (Finset.mem_Ico.mp hk).2]; exact Ctx_reached m K c _)

theorem pos_slots (c : Dev nD) : bigSep (Finset.Ico 0 4) (fun k => (atPos ER (cell c (.wsem (wi k))) 0 ∅ 0 : sProp 𝕄))
    = bigSep (Finset.Ico 0 4) (fun k => atPos ER (cell c (.wsem (wi k))) (k / 4) ∅ 0) :=
  bigSep_congr fun k hk => by rw [Nat.div_eq_of_lt (Finset.mem_Ico.mp hk).2]

theorem before_body (c : Dev nD) :
    iprop(Ctx m K ∗ Pos (F := F) c ∗ PayToks (F := F) c ∗ Creds (F := F) c ∗ wAt m c
      ∗ Bufs (F := F) c ∗ xAt m c ∗ oAny (F := F) c ∗ Owe (F := F) c (O₀ c))
    ⊢ iprop(BodyPre m c ∗ Idle (F := F) c) := by
  rw [Pos_eq, ← wP_join, pos_slots]
  unfold PayToks Creds Bufs BodyPre Idle Rest1 Rest2 WSt SigSt bAny O₀
  simp only [bigSep_sep', Finset.Ico_self, bigSep_empty]
  iintro ⟨#HC, ⟨HpB, ⟨HpS, HXP⟩, ⟨HpR, HRP⟩, ⟨HpA, HAP⟩, ⟨HpV, HVP⟩, HWP, HLP⟩, ⟨HtB, ⟨HtX, HtX'⟩, ⟨HtA, HtA'⟩, HtW, HtL⟩, ⟨HcB, HcR, HcA⟩, Hw,
    ⟨Hb, ⟨%g, Hg⟩, ⟨%v, Hv⟩, ⟨%a, Ha⟩⟩, Hx, Ho, HO⟩
  ihave Hg := (gAny_split c g) $$ Hg
  ihave Hv := (vAny_split c v) $$ Hv
  ihave Ha := (aAny_split c a) $$ Ha
  ihave ⟨Hgc, Hg⟩ := (Entails.of_eq (bigSep_peel c (fun s => gAny (F := F) c s))) $$ Hg
  ihave ⟨Hac, Ha⟩ := (Entails.of_eq (bigSep_peel c (fun s => aAny (F := F) c s))) $$ Ha
  ihave Hv := (Entails.of_eq (bigSep_slots (fun i => vAny (F := F) c i))) $$ Hv
  ihave HR := (reached_slots m K c) $$ HC
  ihave HWR := (WaitSt_of m c (fun k => .recv (src c k))) $$ [HcR HRP]
  · isplitl [HcR]; · iexact HcR
    iexact HRP
  ihave HWA := (WaitSt_of m c (fun k => .arecv (src c k))) $$ [HcA HVP]
  · isplitl [HcA]; · iexact HcA
    iexact HVP
  iframe
  isplitr
  · isplitr <;> iempintro
  isplitr; · iempintro
  iexact HR

/-! ## After -/

/-- A cell a device shares with no one is closed unused. -/
theorem idle_close (c : Dev nD) (k : Kd) (h : k = .send c ∨ k = .recv c ∨ k = .asend c ∨ k = .arecv c) :
    iprop(Ctx m K ∗ atPos ER (cell c k) 0 ∅ 0) ⊢ iprop(|={Set.univ}=> (semVal (cell c k) 0 : sProp 𝕄)) := by
  iintro ⟨#Hctx, Ha⟩
  iapply (Rounds.cell_close ER (sched m) (κ := K (c, k)) (Set.mem_univ _) (fun h => h) (R := 0) (duties_self m c k h))
  isplitr; · iapply (Ctx_inv m K c k); iexact Hctx
  iexact Ha

/-- The weights' cells are closed after the last fetch. -/
theorem slots_close (c : Dev nD) :
    iprop(Ctx m K ∗ bigSep (Finset.Ico 16 20) (fun k => atPos ER (cell c (.wsem (wi k))) (k / 4) ∅ 0))
      ⊢ iprop(|={Set.univ}=> (bigSep Finset.univ (fun i : Fin 4 => semVal (cell c (.wsem i)) 0) : sProp 𝕄)) := by
  rw [bigSep_slots' (fun i : Fin 4 => (semVal (cell c (.wsem i)) 0 : sProp 𝕄))]
  refine (sep_mono_left (BI.bigSep_of_persistent (Finset.Ico 16 20) (Ctx m K))).trans ?_
  rw [← bigSep_sep']
  refine (bigSep_mono fun k hk => ?_).trans (bigSep_fupd _ _)
  have h := Finset.mem_Ico.mp hk
  exact step_close m K c (.wsem (wi k)) (k / 4) (by omega) (.inl (by omega))

/-- All its semaphores at zero. -/
def Zeros (c : Dev nD) : sProp 𝕄 := bigSep Finset.univ (fun k : Kd => semVal (cell c k) 0)

theorem Zeros_eq (c : Dev nD) : (Zeros c : sProp 𝕄)
    = iprop(semVal (cell c .bar) 0 ∗ (semVal (cell c (.send c)) 0 ∗ bigSep (Finset.Ico 1 16) (fun k => semVal (cell c (.send (peer c k))) 0))
      ∗ (semVal (cell c (.recv c)) 0 ∗ bigSep (Finset.Ico 1 16) (fun k => semVal (cell c (.recv (src c k))) 0))
      ∗ (semVal (cell c (.asend c)) 0 ∗ bigSep (Finset.Ico 1 16) (fun k => semVal (cell c (.asend (peer c k))) 0))
      ∗ (semVal (cell c (.arecv c)) 0 ∗ bigSep (Finset.Ico 1 16) (fun k => semVal (cell c (.arecv (src c k))) 0))
      ∗ bigSep Finset.univ (fun i : Fin 4 => semVal (cell c (.wsem i)) 0) ∗ semVal (cell c .loc) 0) := by
  unfold Zeros
  rw [bigSep_kinds, bigSep_peel c (fun i : Dev nD => (semVal (cell c (.send i)) 0 : sProp 𝕄)),
    bigSep_peel_src c (fun i : Dev nD => (semVal (cell c (.recv i)) 0 : sProp 𝕄)),
    bigSep_peel c (fun i : Dev nD => (semVal (cell c (.asend i)) 0 : sProp 𝕄)),
    bigSep_peel_src c (fun i : Dev nD => (semVal (cell c (.arecv i)) 0 : sProp 𝕄))]

/-- The slots of the maxima, all shares together again. -/
theorem maxima_join (c : Dev nD) :
    iprop(aAll m c ∗ ASpare m c ∗ aP m c c (shareTokN fullShare c.val) ∗ bigSep (Finset.Ico 1 16) (fun k => kdPay m c 0 0 (.asend (peer c k))))
      ⊢ ((c : Thread nD τ).loc cc0_scratch3 ↦[Finset.univ]{fullShare} AM m : sProp 𝕄) := by
  rw [← aP_join, bigSep_congr (s := Finset.univ) (fun (s : Dev nD) _ => aP_shares m c s), bigSep_sep', ← aAll_eq,
    bigSep_peel_src c (fun s => bigSep Finset.univ (fun d : Dev nD => aP m c s (shareTokN fullShare d.val))),
    bigSep_peel c (fun d : Dev nD => aP m c c (shareTokN fullShare d.val))]
  unfold ASpare
  dsimp only [kdPay]
  iintro ⟨H1, H2, H3, H4⟩
  iframe

theorem after_body (c : Dev nD) :
    iprop(Ctx m K ∗ BodyPost m c ∗ Idle (F := F) c)
    ⊢ iprop(|={Set.univ}=> (Zeros (F := F) c ∗ Owe (F := F) c 0 ∗ wAt m c
      ∗ Bufs (F := F) c ∗ xAt m c ∗ oAt m c)) := by
  rw [Zeros_eq, ← wP_join]
  unfold BodyPost Idle Rest9 Done WSt Bufs
  simp only [bigSep_sep', Finset.Ico_self, bigSep_empty]
  iintro ⟨#HC, ⟨⟨HO, HWA⟩, HWS, ⟨Ho, Ha⟩, Hsp, HzV, Hx, HzB, HzL, ⟨-, -, Hw, Hv, -, HWP⟩, Hg, Hb, HWR, Hac⟩, HiS, HiR, HiA, HiV⟩
  ihave ⟨HzA, HpA⟩ := (WaitSt_done m c _) $$ HWA
  ihave ⟨HzS, HpS⟩ := (WaitSt_done m c _) $$ HWS
  ihave ⟨HzR, HpR⟩ := (WaitSt_done m c _) $$ HWR
  imod (idle_close m K c (.send c) (.inl rfl)) $$ [HiS] with HiS
  · isplitr; · iexact HC
    iexact HiS
  imod (idle_close m K c (.recv c) (.inr (.inl rfl))) $$ [HiR] with HiR
  · isplitr; · iexact HC
    iexact HiR
  imod (idle_close m K c (.asend c) (.inr (.inr (.inl rfl)))) $$ [HiA] with HiA
  · isplitr; · iexact HC
    iexact HiA
  imod (idle_close m K c (.arecv c) (.inr (.inr (.inr rfl)))) $$ [HiV] with HiV
  · isplitr; · iexact HC
    iexact HiV
  imod (slots_close m K c) $$ [HWP] with HWP
  · isplitr; · iexact HC
    iexact HWP
  imodintro
  ihave Ha := (maxima_join m c) $$ [Ha Hsp Hac HpA]
  · iframe
  ihave Hv := (Entails.of_eq (bigSep_slots' (fun i => vAny (F := F) c i)).symm) $$ Hv
  ihave Hv := (vAny_join c (WV m c 0)) $$ Hv
  ihave Hg := ((Entails.of_eq (bigSep_peel_src c (fun s => gP m c s)).symm).trans (Entails.of_eq (gP_join m c))) $$ [Hg HpR]
  · isplitl [Hg]; · iexact Hg
    iexact HpR
  ihave Hb := ((Entails.of_eq (bigSep_peel c (fun d => bP m c d)).symm).trans (Entails.of_eq (bAt_eq m c).symm)) $$ [Hb HpS]
  · isplitl [Hb]; · iexact Hb
    iexact HpS
  unfold bAt
  iframe
  isplitl [Hb]; · iexists _; iexact Hb
  isplitl [Hg]; · iexists _; iexact Hg
  iexists _; iexact Ha

end Cert.MeshRun
-- ==== Proof.Deal.lean ====
/-
# The launch: what every device is dealt

Every payment of every cell is minted at launch, each device holding those of its own cells. They are dealt out again
to the devices that make them: a barrier's and a receive cell's to the devices that signal and send. Every cell is
then opened, and the credit a device's cells will receive is the sum of what the others owe.
-/
module

public import proofs.«01_k».proof.Proof.Ends

@[expose] public section

set_option maxRecDepth 8000

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Kd → ℕ)

/-! ## The launch element -/

/-- All cells; -/
def allCells : Finset (GSem nD τ sig) := Finset.univ.map ⟨fun p : Dev nD × Kd => cell p.1 p.2, cell_injective⟩
/-- at every cell, in each of four rounds, a payment per device; -/
abbrev tokOf (p : Dev nD × Kd × Fin 4 × Dev nD) : GSem nD τ sig × ℕ × Dev nD := (cell p.1 p.2.1, p.2.2.1.val, p.2.2.2)
theorem tokOf_injective : Function.Injective tokOf := by
  rintro ⟨c, k, r, d⟩ ⟨c', k', r', d'⟩ h
  have h1 := cell_injective (a₁ := (c, k)) (a₂ := (c', k')) (congrArg (fun x : GSem nD τ sig × ℕ × Dev nD => x.1) h)
  have h2 : r = r' := Fin.ext (congrArg (fun x : GSem nD τ sig × ℕ × Dev nD => x.2.1) h)
  have h3 : d = d' := congrArg (fun x : GSem nD τ sig × ℕ × Dev nD => x.2.2) h
  obtain ⟨rfl, rfl⟩ := Prod.mk.inj h1
  rw [h2, h3]
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The payments minted at one cell. -/
def Tok (c : Dev nD) (k : Kd) : sProp 𝕄 :=
  bigSep Finset.univ (fun r : Fin 4 => bigSep Finset.univ (fun d : Dev nD => dutyTok ER (cell c k) r.val d))

/-- What the launch element deals device `c`. -/
def G (c : Dev nD) : sProp 𝕄 :=
  iprop(bigSep Finset.univ (fun k : Kd => roundState ER (sched m) (cell c k) 0)
    ∗ bigSep Finset.univ (fun k : Kd => iprop(atPos ER (cell c k) 0 ∅ 0 ∗ reached ER (cell c k) 0)) ∗ bigSep Finset.univ (fun k : Kd => Tok (F := F) c k))

theorem fund_all : BI.own (ER (initOf allCells allToks)) ⊢ (|==> bigSep Finset.univ (G m) : sProp 𝕄) := by
  have hX (Φ : GSem nD τ sig → sProp 𝕄) : bigSep allCells Φ = bigSep Finset.univ (fun c : Dev nD => bigSep Finset.univ fun k : Kd => Φ (cell c k)) := by
    unfold allCells; rw [bigSep_map, bigSep_univ_prod]; rfl
  have hT : bigSep allToks (fun x => (dutyTok ER x.1 x.2.1 x.2.2 : sProp 𝕄)) = bigSep Finset.univ (fun c : Dev nD => bigSep Finset.univ fun k : Kd => Tok c k) := by
    unfold allToks; rw [bigSep_map, bigSep_univ_prod]
    refine bigSep_congr fun c _ => ?_
    rw [bigSep_univ_prod]
    refine bigSep_congr fun k _ => ?_
    unfold Tok
    rw [bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The payments, dealt to who makes them -/

theorem Tok_at (c : Dev nD) (k : Kd) (r : Fin 4) (d : Dev nD) : Tok c k ⊢ (dutyTok ER (cell c k) r.val d : sProp 𝕄) :=
  (BI.bigSep_elim (Φ := fun r : Fin 4 => bigSep Finset.univ (fun d : Dev nD => (dutyTok ER (cell c k) r.val d : sProp 𝕄))) (Finset.mem_univ r)).trans
    (BI.bigSep_elim (Φ := fun d : Dev nD => (dutyTok ER (cell c k) r.val d : sProp 𝕄)) (Finset.mem_univ d))
theorem Tok_first (c : Dev nD) (k : Kd) : Tok c k ⊢ (dutyTok ER (cell c k) 0 (0 : Dev nD) : sProp 𝕄) := Tok_at c k 0 0
theorem Tok_bar (c : Dev nD) : Tok c .bar ⊢ (bigSep Finset.univ (fun d : Dev nD => dutyTok ER (cell c .bar) 0 d) : sProp 𝕄) :=
  BI.bigSep_elim (Φ := fun r : Fin 4 => bigSep Finset.univ (fun d : Dev nD => (dutyTok ER (cell c .bar) r.val d : sProp 𝕄))) (Finset.mem_univ (0 : Fin 4))

/-- The sixteen fetches, as the rounds of the four slots. -/
theorem bigSep_fetches {M : Type} [URA M] (A : Fin 4 → ℕ → sProp M) :
    bigSep Finset.univ (fun i : Fin 4 => bigSep Finset.univ (fun r : Fin 4 => A i r.val)) = bigSep (Finset.Ico 0 16) (fun k => A (wi k) (k / 4)) := by
  rw [← bigSep_univ_prod (fun p : Fin 4 × Fin 4 => A p.1 p.2.val),
    bigSep_univ_eq_bigSepL ((List.range' 0 16).map (fun k => ((wi k, ⟨k / 4 % 4, Nat.mod_lt _ (by decide)⟩) : Fin 4 × Fin 4))) (by decide) (by decide),
    bigSepL_map', ← bigSep_Ico_list 0 16]
  refine bigSep_congr fun k hk => ?_
  have h : k / 4 % 4 = k / 4 := by have := Finset.mem_Ico.mp hk; omega
  show A (wi k) (k / 4 % 4) = _
  rw [h]
theorem Tok_slots (c : Dev nD) :
    bigSep Finset.univ (fun i : Fin 4 => Tok c (.wsem i)) ⊢ (bigSep (Finset.Ico 0 16) (fun k => dutyTok ER (cell c (.wsem (wi k))) (k / 4) (0 : Dev nD)) : sProp 𝕄) := by
  rw [← bigSep_fetches (fun i r => (dutyTok ER (cell c (.wsem i)) r (0 : Dev nD) : sProp 𝕄))]
  exact bigSep_mono fun i _ => bigSep_mono fun r _ => BI.bigSep_elim (Φ := fun d : Dev nD => (dutyTok ER (cell c (.wsem i)) r.val d : sProp 𝕄)) (Finset.mem_univ (0 : Dev nD))

/-- The payments at a device's own cells that are made at all. -/
theorem Tok_own (c : Dev nD) : bigSep Finset.univ (fun k : Kd => Tok c k)
    ⊢ (iprop(bigSep Finset.univ (fun d : Dev nD => dutyTok ER (cell c .bar) 0 d) ∗ bigSep Finset.univ (fun i : Dev nD => dutyTok ER (cell c (.send i)) 0 (0 : Dev nD))
      ∗ bigSep Finset.univ (fun i : Dev nD => dutyTok ER (cell c (.recv i)) 0 (0 : Dev nD)) ∗ bigSep Finset.univ (fun i : Dev nD => dutyTok ER (cell c (.asend i)) 0 (0 : Dev nD))
      ∗ bigSep Finset.univ (fun i : Dev nD => dutyTok ER (cell c (.arecv i)) 0 (0 : Dev nD))
      ∗ bigSep (Finset.Ico 0 16) (fun k => dutyTok ER (cell c (.wsem (wi k))) (k / 4) (0 : Dev nD)) ∗ dutyTok ER (cell c .loc) 0 (0 : Dev nD)) : sProp 𝕄) := by
  rw [bigSep_kinds]
  exact BI.sep_mono (Tok_bar c) (BI.sep_mono (bigSep_mono fun i _ => Tok_first c _) (BI.sep_mono (bigSep_mono fun i _ => Tok_first c _)
    (BI.sep_mono (bigSep_mono fun i _ => Tok_first c _) (BI.sep_mono (bigSep_mono fun i _ => Tok_first c _) (BI.sep_mono (Tok_slots c) (Tok_first c .loc))))))

/-- What every device holds for every device, dealt to the other; of a device for itself, dropped. -/
theorem deal_across {M : Type} [URA M] (A : Dev nD → Dev nD → sProp M) :
    bigSep Finset.univ (fun c => bigSep Finset.univ (fun d => A c d)) ⊢ bigSep Finset.univ (fun d => bigSep (Finset.Ico 1 16) (fun k => A (peer d k) d)) := by
  rw [bigSep_univ_comm]
  refine bigSep_mono fun d _ => ?_
  rw [← bigSep_others_peer d (fun c => A c d)]
  exact BI.bigSep_subset (Finset.erase_subset _ _)
theorem deal_own {M : Type} [URA M] (A : Dev nD → Dev nD → sProp M) :
    bigSep Finset.univ (fun c => bigSep Finset.univ (fun d => A c d)) ⊢ bigSep Finset.univ (fun c => bigSep (Finset.Ico 1 16) (fun k => A c (peer c k))) := by
  refine bigSep_mono fun d _ => ?_
  rw [← bigSep_others_peer d (fun c => A d c)]
  exact BI.bigSep_subset (Finset.erase_subset _ _)

theorem deal : bigSep Finset.univ (fun c : Dev nD => bigSep Finset.univ (fun k : Kd => Tok c k)) ⊢ (bigSep Finset.univ (fun c : Dev nD => PayToks c) : sProp 𝕄) := by
  have h : bigSep Finset.univ (fun c : Dev nD => bigSep Finset.univ (fun k : Kd => Tok (F := F) c k)) ⊢ _ := bigSep_mono fun c _ => Tok_own c
  unfold PayToks
  simp only [bigSep_sep'] at h ⊢
  iintro H
  ihave H := h $$ H
  icases H with ⟨H1, H2, H3, H4, H5, H6, H7⟩
  ihave H1 := (deal_across (fun c d => (dutyTok ER (cell c .bar) 0 d : sProp 𝕄))) $$ H1
  ihave H2 := (deal_own (fun c i => (dutyTok ER (cell c (.send i)) 0 (0 : Dev nD) : sProp 𝕄))) $$ H2
  ihave H3 := (deal_across (fun c i => (dutyTok ER (cell c (.recv i)) 0 (0 : Dev nD) : sProp 𝕄))) $$ H3
  ihave H4 := (deal_own (fun c i => (dutyTok ER (cell c (.asend i)) 0 (0 : Dev nD) : sProp 𝕄))) $$ H4
  ihave H5 := (deal_across (fun c i => (dutyTok ER (cell c (.arecv i)) 0 (0 : Dev nD) : sProp 𝕄))) $$ H5
  iframe

/-! ## The semaphores of the launch -/

/-- The kernel's own semaphores: all but the barrier's. -/
abbrev Own : Type := Fin 16 ⊕ Fin 16 ⊕ Fin 16 ⊕ Fin 16 ⊕ Fin 4 ⊕ Unit
def osem (k : Own) : SemLoc sig := (Kd.parts.symm (.inr k)).sem

theorem osem_injective : Function.Injective osem := fun a b h => Sum.inr_injective (Kd.parts.symm.injective (sem_injective h))
theorem ownSemFacts : Pipeline.OwnSemFacts cfg0.spec osem := ⟨by decide +kernel, osem_injective, by decide +kernel⟩

theorem unscopedSems0_eq (c : Dev nD) : (unscopedSems0 c : sProp 𝕄) = semVal (cell c .bar) 0 := by
  unfold unscopedSems0; rw [bigSep_eq_bigSepL_of_eq [SemLoc.reg barS] (by decide) (by decide)]; rfl

theorem zeros_own (c : Dev nD) :
    (Zeros c : sProp 𝕄) = iprop(unscopedSems0 c ∗ Pipeline.ownSems0 (Ix := Unit) (Name := ℕ) (U := UU) (Lvl := ℕ) (Val := Elt F) (τ := τ) osem c) := by
  rw [unscopedSems0_eq]
  unfold Zeros Pipeline.ownSems0
  rw [bigSep_univ_equiv Kd.parts.symm, bigSep_univ_sum, Finset.univ_unique, bigSep_singleton]
  rfl

/-! ## Every cell opened -/

/-- What every device knows of the cells. -/
def Recs : sProp 𝕄 :=
  iprop(bigSep Finset.univ (fun p : Dev nD × Kd => cellInv ER (sched m) (K p) (cell p.1 p.2))
    ∗ bigSep Finset.univ (fun p : Dev nD × Kd => reached ER (cell p.1 p.2) 0))
instance Recs_persistent : BI.Persistent (Recs m K) := by unfold Recs; infer_instance

/-- What a device has when all cells are opened. -/
def G' (c : Dev nD) : sProp 𝕄 := iprop(∃ K, Recs m K ∗ Pos c ∗ PayToks c)

/-- Where a device's cells are opened. -/
abbrev Opened (c : Dev nD) : sProp 𝕄 := bigSep Finset.univ (fun k : Kd => iprop(∃ κ : ℕ, cellInv ER (sched m) κ (cell c k)))

theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop(Opened m c
          ∗ bigSep Finset.univ (fun k : Kd => iprop(atPos ER (cell c k) 0 ∅ 0 ∗ reached ER (cell c k) 0)) ∗ bigSep Finset.univ (fun k : Kd => Tok (F := F) c k)) := by
  unfold G
  iintro ⟨Hos, Hus, Hst, Hat, Htok⟩
  ihave Hv := (Entails.of_eq (zeros_own (F := F) c).symm) $$ [Hos Hus]
  · isplitl [Hus] <;> iassumption
  imod (show iprop(Zeros c ∗ bigSep Finset.univ fun k : Kd => roundState ER (sched m) (cell c k) 0)
      ⊢ (|={Set.univ}=> Opened m c : sProp 𝕄) from by
        unfold Zeros
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem keep_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    bigSep Finset.univ (fun c : Dev nD => iprop(Opened m c
          ∗ bigSep Finset.univ (fun k : Kd => iprop(atPos ER (cell c k) 0 ∅ 0 ∗ reached ER (cell c k) 0)) ∗ bigSep Finset.univ (fun k : Kd => Tok (F := F) c k)))
      ⊢ bigSep Finset.univ (G' m) := by
  rw [bigSep_sep', bigSep_sep', ← bigSep_univ_prod (fun p : Dev nD × Kd => iprop(∃ κ : ℕ, cellInv ER (sched m) κ (cell p.1 p.2))),
    bigSep_congr (s := Finset.univ) (fun (c : Dev nD) _ => bigSep_sep' Finset.univ (fun k : Kd => (atPos ER (cell c k) 0 ∅ 0 : sProp 𝕄)) (fun k => reached ER (cell c k) 0)),
    bigSep_sep', ← bigSep_univ_prod (fun p : Dev nD × Kd => (reached ER (cell p.1 p.2) 0 : sProp 𝕄))]
  iintro ⟨HI, ⟨Hat, #HR⟩, Htok⟩
  ihave HK := (BI.bigSep_exists_pi Finset.univ (fun (p : Dev nD × Kd) (κ : ℕ) => (cellInv ER (sched m) κ (cell p.1 p.2) : sProp 𝕄))) $$ HI
  icases HK with ⟨%K, #HI⟩
  ihave Htk := (deal (F := F)) $$ Htok
  iapply (keep_persistent (R := Recs m K) (Φ := fun c : Dev nD => iprop(Pos (F := F) c ∗ PayToks c)) fun c _ => by
    unfold G'
    iintro H
    iexists K
    iexact H)
  isplitr
  · unfold Recs; isplitl; · iexact HI
    iexact HR
  · rw [bigSep_sep']
    isplitl [Hat]; · unfold Pos; iexact Hat
    iexact Htk

/-- All semaphores of every device at once. -/
theorem glob : (bigSep Finset.univ (fun c => iprop(Pipeline.ownSems0 (Ix := Unit) (Name := ℕ) (U := UU) (Lvl := ℕ) (Val := Elt F) (τ := τ) osem c ∗ unscopedSems0 c ∗ G m c)) : sProp 𝕄)
    ⊢ |={Set.univ}=> bigSep Finset.univ (G' m) :=
  ((bigSep_mono fun c _ => open_cells m c).trans (bigSep_fupd _ _)).trans (BI.fupd_mono (regroup m))

/-! ## The credits -/

theorem peers_hit : ∀ d c : Dev nD, ((Finset.Ico 1 16).filter (fun k => peer d k = c)).card = if d = c then 0 else 1 := by decide +kernel

theorem tally_cell (a c : Dev nD) (k k' : Kd) (n : ℕ) :
    (tallyAt (cell a k) () n : CellTallies nD τ sig Unit) (cell c k') () = if k = k' then (if a = c then n else 0) else 0 := by
  rw [tallyAt_apply]
  by_cases hk : k = k'
  · by_cases ha : a = c
    · subst hk ha; rw [if_pos ⟨rfl, rfl⟩, if_pos rfl, if_pos rfl]
    · rw [if_pos hk, if_neg ha, if_neg]
      rintro ⟨h, -⟩
      exact ha (Prod.mk.inj (cell_injective (a₁ := (c, k')) (a₂ := (a, k)) h)).1.symm
  · rw [if_neg hk, if_neg]
    rintro ⟨h, -⟩
    exact hk (Prod.mk.inj (cell_injective (a₁ := (c, k')) (a₂ := (a, k)) h)).2.symm

/-- What device `d` owes one kind of cell of its peers, seen at one cell. -/
theorem owed_at (d c : Dev nD) (k k' : Kd) (n : ℕ) :
    (∑ l ∈ Finset.Ico 1 16, tallyAt (cell (peer d l) k) () n : CellTallies nD τ sig Unit) (cell c k') () = if k = k' then (if d = c then 0 else n) else 0 := by
  rw [Finset.sum_apply, Finsupp.finset_sum_apply, Finset.sum_congr rfl fun l _ => tally_cell (peer d l) c k k' n]
  by_cases hk : k = k'
  · simp only [if_pos hk]
    rw [← Finset.sum_filter, Finset.sum_const, peers_hit]
    by_cases h : d = c
    · rw [if_pos h, if_pos h, zero_smul]
    · rw [if_neg h, if_neg h, one_smul]
  · simp only [if_neg hk, Finset.sum_const_zero]

theorem owed_all (d c : Dev nD) (k' : Kd) : O₀ d (cell c k') ()
    = (if Kd.arecv d = k' then (if d = c then 0 else NA) else 0) + (if Kd.recv d = k' then (if d = c then 0 else NX) else 0)
      + (if Kd.bar = k' then (if d = c then 0 else 1) else 0) := by
  unfold O₀ OA OX OB
  rw [Pi.add_apply, Finsupp.add_apply, Pi.add_apply, Finsupp.add_apply, owed_at, owed_at, owed_at]

theorem launch_at (c : Dev nD) (k : Kd) (n : ℕ) (h : ∑ d : Dev nD, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

theorem launch_bar (c : Dev nD) : ∑ d : Dev nD, O₀ d (cell c .bar) () = 15 := by
  rw [Finset.sum_congr rfl fun d _ => owed_all d c .bar]
  simp only [reduceCtorEq, if_false, if_true, Nat.zero_add]
  revert c; decide +kernel
theorem launch_recv (c s : Dev nD) (h : s ≠ c) : ∑ d : Dev nD, O₀ d (cell c (.recv s)) () = NX := by
  rw [Finset.sum_congr rfl fun d _ => owed_all d c (.recv s)]
  simp only [reduceCtorEq, if_false, Nat.zero_add, Nat.add_zero, Kd.recv.injEq]
  rw [Finset.sum_ite_eq' Finset.univ s, if_pos (Finset.mem_univ _), if_neg h]
theorem launch_arecv (c s : Dev nD) (h : s ≠ c) : ∑ d : Dev nD, O₀ d (cell c (.arecv s)) () = NA := by
  rw [Finset.sum_congr rfl fun d _ => owed_all d c (.arecv s)]
  simp only [reduceCtorEq, if_false, Nat.zero_add, Nat.add_zero, Kd.arecv.injEq]
  rw [Finset.sum_ite_eq' Finset.univ s, if_pos (Finset.mem_univ _), if_neg h]

theorem creds (c : Dev nD) : (Pipeline.launchCred O₀ c : sProp 𝕄) ⊢ Creds c := by
  unfold Pipeline.launchCred
  refine (BI.bigSep_subset (Finset.subset_univ (Finset.univ.map ⟨Kd.sem, sem_injective⟩))).trans ?_
  rw [bigSep_map]
  show bigSep Finset.univ (fun k : Kd => (cred (tallyOn (cell c k) (launchCredit (Pipeline.owing O₀) 0 (cell c k))) : sProp 𝕄)) ⊢ _
  rw [bigSep_kinds, bigSep_peel_src c (fun i : Dev nD => (cred (tallyOn (cell c (.recv i)) (launchCredit (Pipeline.owing O₀) 0 (cell c (.recv i)))) : sProp 𝕄)),
    bigSep_peel_src c (fun i : Dev nD => (cred (tallyOn (cell c (.arecv i)) (launchCredit (Pipeline.owing O₀) 0 (cell c (.arecv i)))) : sProp 𝕄)),
    launch_at c .bar 15 (launch_bar c),
    bigSep_congr (s := Finset.Ico 1 16) (fun k hk => congrArg cred (launch_at c (.recv (src c k)) NX
      (launch_recv c (src c k) (src_ne c (Finset.mem_Ico.mp hk).1 (Finset.mem_Ico.mp hk).2)))),
    bigSep_congr (s := Finset.Ico 1 16) (fun k hk => congrArg cred (launch_at c (.arecv (src c k)) NA
      (launch_arecv c (src c k) (src_ne c (Finset.mem_Ico.mp hk).1 (Finset.mem_Ico.mp hk).2))))]
  unfold Creds
  iintro ⟨H1, -, ⟨-, H2⟩, -, ⟨-, H3⟩, -⟩
  iframe

end Cert.MeshRun
-- ==== Proof.Run.lean ====
/-
# The run

The kernel launched on all sixteen devices: from any memory it terminates, every device's result is `OUT`, its arguments
are unchanged and every semaphore is zero.
-/
module

public import proofs.«01_k».proof.Proof.Deal
public import Idealize.ShloMosaic.Lib.Pipeline.ValueKit.Geometry
public import Idealize.ShloMosaic.Lib.Pipeline.CollectiveSegs

@[expose] public section

set_option maxRecDepth 32000

noncomputable section

namespace Cert.MeshRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body between its staging buffers -/

/-- What a device has at launch; -/
def Start (c : Dev nD) : sProp 𝕄 := iprop((∃ K, Ctx m K ∗ Pos c ∗ PayToks c) ∗ Creds c ∗ wAt m c)
/-- before the body -/
def Φ₀ (c : Dev nD) : sProp 𝕄 := iprop(Start m c ∗ Bufs c)
/-- and after it. -/
def Φ₁ (c : Dev nD) : sProp 𝕄 := iprop(Zeros c ∗ wAt m c ∗ Bufs c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A stretch's end may make updates. -/
theorem runs_done {K : Dev nD × Kd → ℕ} {c : Dev nD} {α : Type} {P R R' : sProp 𝕄} {p : Prog (TpuEff nD τ sig (Elt F) Λ₀ .tc) α}
    (h : Runs m K c P p (fun _ => R)) (hR : iprop(Ctx m K ∗ R) ⊢ iprop(|={Set.univ}=> R')) : Runs m K c P p (fun _ => R') := by
  intro Q
  iintro ⟨#HC, HP⟩ Hk
  iapply (wp_fupd frame _ Set.univ p Q)
  iapply (h (fun r => iprop(|={Set.univ}=> Q r))) $$ [HP]
  · isplitr; · iexact HC
    iexact HP
  iintro %r HR
  imod hR $$ [HR] with HR
  · isplitr; · iexact HC
    iexact HR
  imodintro
  iapply Hk; iexact HR

/-- The body with all a device has, to all it leaves. -/
theorem whole_run (K : Dev nD × Kd → ℕ) (c : Dev nD) :
    Runs m K c iprop(Pos c ∗ PayToks c ∗ Creds c ∗ wAt m c ∗ Bufs c ∗ xAt m c ∗ oAny c ∗ Owe c (O₀ c)) (onArgs (cc0_body (F := F)))
      (fun _ => iprop(Zeros c ∗ Owe c 0 ∗ wAt m c ∗ Bufs c ∗ xAt m c ∗ oAt m c)) :=
  runs_done (m := m) (P := iprop(Pos c ∗ PayToks c ∗ Creds c ∗ wAt m c ∗ Bufs c ∗ xAt m c ∗ oAny c ∗ Owe c (O₀ c))) (R := iprop(BodyPost m c ∗ Idle c))
    (Runs.update (m := m) (K := K) (P' := iprop(BodyPre m c ∗ Idle c)) ((before_body m K c).trans fupd_intro) ((body_run m K c).frame (Idle c))) (after_body m K c)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole_eq]
  show iprop(Φ₀ m c ∗ (dats m 0 c).owesAt () t0_0.castSucc
      ∗ (∃ d, stg c cc0_stg0_0 ((dats m 0 c).before (0 : Fin 2) t0_0 d)) ∗ (∃ d, stg c cc0_stg1_0 ((dats m 0 c).before (1 : Fin 2) t0_0 d)))
    ⊢ wp frame (wpE (defs₀ (F := F)) 𝒱₀ (c : Thread nD τ) none) Set.univ (onArgs (cc0_body (F := F)))
      (fun _ => iprop(Φ₁ m c ∗ (dats m 0 c).owesAt () t0_0.succ ∗ stg c cc0_stg0_0 (xstg m c) ∗ stg c cc0_stg1_0 (OUT m c)))
  iintro ⟨HΦ, Ho, ⟨%d0, %g0, %hg0, Hx⟩, ⟨%d1, %g1, %hg1, Hout⟩⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl, show (dats m 0 c).owed t0_0.succ = 0 from rfl]
  unfold Φ₀ Start
  icases HΦ with ⟨⟨⟨%K, #HC, Hp, Ht⟩, Hcr, Hw⟩, Hb⟩
  iapply (whole_run m K c _) $$ [Hp Ht Hcr Hw Hb Hx Hout HO]
  · isplitr; · iexact HC
    isplitl [Hp]; · iexact Hp
    isplitl [Ht]; · iexact Ht
    isplitl [Hcr]; · iexact Hcr
    isplitl [Hw]; · iexact Hw
    isplitl [Hb]; · iexact Hb
    isplitl [Hx]; · unfold xAt; iexact Hx
    isplitl [Hout]; · unfold oAny; iexists g1; iexact Hout
    unfold Owe; iexists W; iexact HO
  unfold Owe xAt oAt Φ₁
  iintro %r ⟨Hz, ⟨%W', HO⟩, Hw, Hb, Hx, Ho⟩
  isplitl [Hz Hw Hb]
  · isplitl [Hz]; · iexact Hz
    isplitl [Hw] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Start m c ∗ emp) := by
  rw [Pipeline.unscopedRestP_none, unscopedRest0_eq]
  iintro ⟨Hw, #Hlev, Hcr, -, HG⟩
  ihave Hc := (creds (F := F) c) $$ Hcr
  imodintro
  unfold Start G'
  icases HG with ⟨%K, #HR, Hp, Ht⟩
  isplitl
  · isplitl [Hp Ht]
    · iexists K
      unfold Ctx Recs Levs
      icases HR with ⟨#H1, #H2⟩
      isplitr
      · isplitr; · iexact H1
        isplitr; · iexact H2
        iexact Hlev
      isplitl [Hp] <;> iassumption
    isplitl [Hc]; · iexact Hc
    unfold wAt; iexact Hw
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Bufs
  iintro ⟨Hs, -, Hr⟩
  isplitl [Hs]; · iexact Hs
  iexact Hr

theorem phi1_exit (c : Dev nD) :
    (dats m 0 c).Φ (Fin.last cfg0.N) ⊢ iprop((unscopedSems0 c ∗ wAt m c) ∗ Pipeline.ownSems0 osem c ∗ Pipeline.scopedRest cfg0.spec c) := by
  rw [show (dats m 0 c).Φ (Fin.last cfg0.N) = Φ₁ m c from rfl, scopedRest0_eq]
  unfold Φ₁ Bufs
  rw [zeros_own]
  iintro ⟨⟨Hu, Ho⟩, Hw, Hr⟩
  isplitl [Hu Hw]
  · isplitl [Hu] <;> iassumption
  isplitl [Ho]; · iexact Ho
  iexact Hr

theorem staging_free : ∀ (w : Fin 2) (s : Fin (cfg0.win w).nbuf), decode (.dma ((cfg0.win w).sem s)) = none := by decide

theorem waits (c : Dev nD) : (levAts L lv : sProp 𝕄) ⊢ Pipeline.cellsWaits cfgs (dats m) () 0 c :=
  Pipeline.cellsWaits_intro cfgs (dats m) () 0 c fun w s t => by
    have h := mayWait_at (F := F) c (.dma ((cfg0.win w).sem s)) (n := 0) (by
      unfold lv
      rw [show decode (.dma ((cfg0.win w).sem s)) = none from staging_free w s]) (O := (dats m 0 c).owed t) (by
      rcases t with ⟨_ | _, ht⟩
      · exact ((above_OA c 1 (by decide)).add (above_OX c 1 (by decide))).add (above_OB c 1)
      · exact above_zero 0)
    unfold Levs at h
    exact h

/-! ## The result -/

/-- The window's array after the run is what the body left in its staging buffer. -/
theorem result_at (c : Dev nD) : (dats (F := F) m 0 c).arrAt 1 cfg0.N = OUT m c := by
  refine (dats m 0 c).arrAt_eq_of_covers 1 _ (by decide +kernel) fun t hf y => ?_
  obtain rfl := fin_N0 t
  blk_simp
  show OUT m c y = OUT m c ((win0_1.blk t0_0).view.emb y)
  refine congrArg (OUT m c) (funext fun a => Fin.ext ?_)
  match a with
  | ⟨0, _⟩ => show (y 0 : ℕ) = 0 + 1 * (y 0 : ℕ); omega
  | ⟨1, _⟩ => show (y 1 : ℕ) = 0 + 1 * (y 1 : ℕ); omega

/-- Every device's result is `OUT`, its arguments are unchanged. -/
def Final (s : MemSt nD τ sig (Elt F)) : Prop :=
  (∀ c : Dev nD, s.mem ((c : Thread nD τ).loc main_v1) = OUT m c ∧ s.mem ((c : Thread nD τ).loc main_arg0) = m ((c : Thread nD τ).loc main_arg0)
    ∧ s.mem ((c : Thread nD τ).loc main_arg1) = m ((c : Thread nD τ).loc main_arg1)) ∧ s.sem = fun _ => 0

theorem weights_read (c : Dev nD) (s' : Phys nD τ sig (Elt F)) :
    iprop((unscopedSems0 c ∗ wAt m c) ∗ SI s')
      ⊢ |={Set.univ}=> (iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') : sProp 𝕄) := by
  iintro ⟨⟨Hu, Hw⟩, HSI⟩
  imod (Pipeline.unscopedSems0_read (X := unscopedSems0 c) (c := c) fupd_intro s') $$ [Hu HSI] with ⟨%h, HSI⟩
  · isplitl [Hu] <;> iassumption
  unfold wAt
  ihave %hw := (SI_pointsTo_agree (st := s') (ℓ := (c : Thread nD τ).loc main_arg1) (I := Finset.univ) (q := fullShare) (f := W m c)) $$ [Hw HSI]
  · isplitl [HSI] <;> iassumption
  imodintro
  isplitr
  · ipureintro
    exact ⟨h, funext fun i => hw i (Finset.mem_univ i)⟩
  iexact HSI

theorem run_main : θ_run defs (onTc (τ := τ) (main (F := F))) ⟨m, fun _ => 0, ρ⟩ (fun r => Final m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := Start m) (Y := fun c => iprop(unscopedSems0 c ∗ wAt m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, -, HSI⟩
      iapply (weights_read m c s')
      isplitl [Hu] <;> iassumption)
    (hQ := fun _ h hs => ⟨fun c => ⟨((h c).1 (1 : Fin 2)).trans (result_at m c), ((h c).1 (0 : Fin 2)).trans ((dats (F := F) m 0 c).arrAt_in (0 : Fin 2) rfl _), (h c).2.2.2⟩,
      sem_eq_zero hs fun c => (h c).2.2.1⟩)

end Cert.MeshRun
-- ==== Proof.Frames.lean ====
/-
# The frames

The run was proved of one text over any float values; `Kernel` is that text over bits.
-/
module

public import proofs.«01_k».proof.Defs
public import proofs.«01_k».proof.Proof.Run
public import proofs.«01_k».proof.Proof.Gen.Kernel
public import proofs.«01_k».proof.Proof.Gen.ReferenceIdeal.Frame

@[expose] public section

set_option maxRecDepth 32000

noncomputable section

namespace Cert.MeshRun

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The two programs' bodies are one text. -/
theorem body_same : (@Cert.Kernel.cc0_body Bits _ _) = @Cert.KernelIdeal.cc0_body Bits _ _ := rfl

/-- So are the tables of the bodies. -/
theorem defs₀_same : (@Cert.Kernel.defs₀ Bits _ _) = @Cert.KernelIdeal.defs₀ Bits _ _ := by
  unfold Cert.Kernel.defs₀ Cert.KernelIdeal.defs₀
  refine congrArg _ ?_
  funext l a
  match l, a with
  | 0, (t, s) => exact rfl

/-- And the tables with the calls. -/
theorem defs_same : (@Cert.Kernel.defs Bits _ _) = @Cert.KernelIdeal.defs Bits _ _ := by
  unfold Cert.Kernel.defs Cert.KernelIdeal.defs
  exact congrArg _ defs₀_same

/-- The kernel over bits: it ends, its arguments are kept, its counters are zero. -/
theorem frame_kernel : Cert.quiescent_Kernel := fun m ρ _ => by
  rw [defs_same]
  exact (θ_run Cert.KernelIdeal.defs _ _).mono (fun _ h => ⟨fun c => (h.1 c).2, h.2⟩) (run_main (F := Bits) m ρ)

/-- The kernel over the reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference over the reals: its generated run. -/
theorem frame_referenceIdeal : Cert.quiescent_ReferenceIdeal := fun m ρ _ => Cert.ReferenceIdeal.Gen.frame m ρ

end Cert.MeshRun
-- ==== Proof.Spec.lean ====
/-
# What is computed

The entries of `relu (x @ w)`, their maximum, and the quantised result, over the extended reals.
-/
module

public import Idealize.ShloMosaic.PureOps.Ideal.Laws
public import Idealize.ShloMosaic.Lib.ValueIdx

@[expose] public section

set_option maxRecDepth 8000

noncomputable section

namespace Cert.MeshRun

open Idealize.ShloMosaic
open Idealize.ShloMosaic.ValueIdx
open scoped BigOperators

variable (x : (⟨2, ![4096, 4096]⟩ : Shape).Idx → EReal) (w : (⟨2, ![4096, 2048]⟩ : Shape).Idx → EReal)

/-- An entry of `x @ w`, -/
def dotAt (i : Fin 4096) (j : Fin 2048) : EReal := ∑ k : Fin 4096, x (ix2 i k) * w (ix2 k j)
/-- of its positive part, -/
def reluAt (i : Fin 4096) (j : Fin 2048) : EReal := max (dotAt x w i j) 0
/-- the maximum of all of them, -/
def amax : EReal := ⨆ (i : Fin 4096) (j : Fin 2048), reluAt x w i j
/-- and the scale. -/
def scaleOf : EReal := Ideal.div (amax x w) ((448 : ℝ) : EReal)
/-- The result, whole. -/
def resultOf : (⟨2, ![4096, 2048]⟩ : Shape).Idx → EReal := fun i =>
  min (Ideal.div (reluAt x w (i 0) (i 1)) (scaleOf x w)) ((448 : ℝ) : EReal) * scaleOf x w

theorem amax_le_iff (b : EReal) : amax x w ≤ b ↔ ∀ i j, reluAt x w i j ≤ b := by
  unfold amax
  simp only [iSup_le_iff]

theorem reluAt_nonneg (i : Fin 4096) (j : Fin 2048) : 0 ≤ reluAt x w i j := le_max_right _ _
theorem reluAt_le (i : Fin 4096) (j : Fin 2048) : reluAt x w i j ≤ amax x w := (amax_le_iff x w _).mp le_rfl i j

/-- A maximum folded from −∞ over a whole shape is below a bound just when every element is. -/
theorem fold_le_iff {ι : Type} [Fintype ι] (f : ι → EReal) (b : EReal) (s : Finset ι) (hs : ∀ i, i ∈ s) :
    s.fold max ⊥ f ≤ b ↔ ∀ i, f i ≤ b := by
  rw [Finset.fold_max_le]
  exact ⟨fun h i => h.2 i (hs i), fun h => ⟨bot_le, fun i _ => h i⟩⟩

end Cert.MeshRun
-- ==== Proof.Quant.lean ====
/-
# The quantisation, on one element

Over the extended reals rounding is the identity, so both programs multiply by a scale and by its reciprocal. They take the
scale differently: the kernel keeps it above a small constant, the reference divides by it and caps the quotient.
-/
module

public import Idealize.ShloMosaic.PureOps.Ideal.Laws
public import Mathlib.Data.EReal.Inv

@[expose] public section

noncomputable section

namespace Cert.MeshRun

open Idealize.ShloMosaic

/-- The largest e4m3 value, the kernel's small constant, and −∞. -/
theorem word_448 : Ideal.ofBits .f32 0x43E00000#32 = ((448 : ℝ) : EReal) := by
  simp [Ideal.ofBits, Ideal.ieee, -EReal.coe_mul]; norm_num
theorem word_eps : ∃ e : ℝ, 0 < e ∧ Ideal.ofBits .f32 0x1E3CE508#32 = (e : EReal) := by
  refine ⟨12379400 * 2 ^ (-90 : ℤ), by positivity, ?_⟩
  simp [Ideal.ofBits, Ideal.ieee, -EReal.coe_mul]
theorem word_bot : Ideal.ofBits .f32 0xFF800000#32 = (⊥ : EReal) := by
  simp [Ideal.ofBits, Ideal.ieee]

/-- Division by a real that is not zero is the reals'. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem div_top (x : EReal) : Ideal.div x ⊤ = 0 := by
  unfold Ideal.div; rw [if_neg (by simp), EReal.inv_top, mul_zero]

theorem top_div (y : ℝ) (hy : 0 < y) : Ideal.div ⊤ (y : EReal) = ⊤ := by
  unfold Ideal.div
  rw [if_neg (by exact_mod_cast hy.ne'), ← EReal.coe_inv, EReal.top_mul_coe_of_pos (inv_pos.mpr hy)]

/-- The two ways to quantise agree on every element between zero and the maximum: where the maximum is a positive real both
    give the element back, where it is zero or infinite both give zero. -/
theorem quant_same (y a : EReal) (e : ℝ) (he : 0 < e) (hy : 0 ≤ y) (hya : y ≤ a) :
    y * Ideal.div ((448 : ℝ) : EReal) (max a (e : EReal)) * Ideal.div (max a (e : EReal)) ((448 : ℝ) : EReal)
      = min (Ideal.div y (Ideal.div a ((448 : ℝ) : EReal))) ((448 : ℝ) : EReal) * Ideal.div a ((448 : ℝ) : EReal) := by
  have h448 : (0 : ℝ) < 448 := by norm_num
  induction a with
  | bot => exact absurd (hy.trans hya) (by simp)
  | top =>
    rw [top_div 448 h448, div_top, max_eq_left le_top, div_top, mul_zero, zero_mul,
      min_eq_left (by exact_mod_cast h448.le), zero_mul]
  | coe a =>
    induction y with
    | bot => exact absurd hy (by simp)
    | top => exact absurd hya (by simp)
    | coe r =>
      have hr : 0 ≤ r := by exact_mod_cast hy
      have hra : r ≤ a := by exact_mod_cast hya
      have hm : max (a : EReal) (e : EReal) = ((max a e : ℝ) : EReal) := (EReal.coe_strictMono.monotone.map_max).symm
      have hg : (0 : ℝ) < max a e := lt_of_lt_of_le he (le_max_right _ _)
      rw [hm, div_real _ _ hg.ne', div_real _ _ h448.ne', div_real _ _ h448.ne']
      rcases (hr.trans hra).eq_or_lt with h0 | h0
      · obtain rfl : r = 0 := le_antisymm (hra.trans h0.ge) hr
        rw [← h0, zero_div, EReal.coe_zero, zero_mul, zero_mul, mul_zero]
      · have ha : a / 448 ≠ 0 := (div_pos h0 h448).ne'
        have hq : r / (a / 448) ≤ 448 := by
          rw [div_le_iff₀ (div_pos h0 h448)]; linarith [mul_div_cancel₀ a h448.ne']
        rw [div_real _ _ ha, min_eq_left (by exact_mod_cast hq), ← EReal.coe_mul, ← EReal.coe_mul, ← EReal.coe_mul]
        congr 1
        field_simp

end Cert.MeshRun
-- ==== Proof.KernelSum.lean ====
/-
# The accumulator

The sixteen block products a device adds up are its rows of `x @ w`.
-/
module

public import proofs.«01_k».proof.Proof.Contents
public import proofs.«01_k».proof.Proof.Spec
public import proofs.«01_k».proof.Proof.Quant
public import Idealize.ShloMosaic.Lib.MatmulPlain
public import Idealize.ShloMosaic.Lib.Layout
public import Idealize.ShloMosaic.Lib.Pipeline.ValueKit.Acc

@[expose] public section

set_option maxRecDepth 32000

noncomputable section

namespace Cert.MeshRun

open Cert.KernelIdeal Cert.KernelIdeal.Gen

open Idealize.ShloMosaic
open Idealize.ShloMosaic.TcCoe
open Idealize.ShloMosaic.ValueIdx
open scoped BigOperators

variable (m : (ℓ : Loc nD τ sig) → Buf (Elt Ideal) ℓ)

/-- Device `c`'s arguments, as arrays of extended reals. -/
def argX (c : Dev nD) : S4096x256.Idx → EReal := m ((c : Thread nD τ).loc main_arg0)
def argW (c : Dev nD) : S4096x2048.Idx → EReal := m ((c : Thread nD τ).loc main_arg1)

/-- The `k`-th block product, as the kernel's operations write it. -/
def prod (c : Dev nD) (k : ℕ) : FVec Ideal S256x2048 .f32 :=
  matmul dot_S256x256_S256x2048_S256x2048_1_0_0_1_n_n none
    (shapeCast S256x256 (ldX m c k) shapeCasts_S1x256x256_S256x256 : FVec Ideal S256x256 .bf16)
    (truncf .bf16 (shapeCast S256x2048 (ldW m c k) shapeCasts_S1x256x2048_S256x2048 : FVec Ideal S256x2048 .f32) bitsLt_bf16_f32)
    (constant S256x2048 .f32 0x00000000#32)

/-- The staged window is all of the device's argument. -/
theorem xstg_apply (c : Dev nD) (p : Fin 4096) (q : Fin 256) : (xstg m c (ix2 p q) : EReal) = argX m c (ix2 p q) := by
  show argX m c ((win0_0.blk (0 : Fin 1)).view.emb (ix2 p q)) = _
  refine congrArg (argX m c) (idx_ext2 ?_ ?_)
  · show 0 + 1 * p.val = p.val; omega
  · show 0 + 1 * q.val = q.val; omega

theorem XB_apply (c : Dev nD) (p : Fin 4096) (q : Fin 256) : (XB m c (ix2 p q) : EReal) = argX m c (ix2 p q) := by
  rw [← xstg_apply]
  show shapeCast S4096x256 (truncf (F := Ideal) .bf16 (shapeCast S4096x256 (xstg m c) shapeCasts_S4096x256_S4096x256 : FVec Ideal S4096x256 .f32) bitsLt_bf16_f32) shapeCasts_S4096x256_S4096x256 (ix2 p q) = _
  rw [shapeCast_apply _ _ _ (ix2 p q) rfl]
  exact shapeCast_apply (xstg m c) _ _ (ix2 p q) rfl

/-- A block product at an element: a sum over 256 of the inner coordinates. -/
theorem prod_apply (c : Dev nD) (k : ℕ) (p : Fin 256) (q : Fin 2048) :
    (prod m c k (ix2 p q) : EReal) = ∑ t : Fin 256,
      argX m (src c k) (ix2 (n0 := 4096) (n1 := 256) ⟨256 * c.val + p.val, by have h1 : c.val < 16 := c.isLt; omega⟩ t)
      * argW m c (ix2 (n0 := 4096) (n1 := 2048) ⟨256 * (src c k).val + t.val, by have h1 : (src c k).val < 16 := (src c k).isLt; omega⟩ q) := by
  show FloatOps.matmul (F := Ideal) (DotDims.plain 256 256 2048) none (shapeCast S256x256 (ldX m c k) shapeCasts_S1x256x256_S256x256 : FVec Ideal S256x256 .bf16)
    (truncf .bf16 (shapeCast S256x2048 (ldW m c k) shapeCasts_S1x256x2048_S256x2048 : FVec Ideal S256x2048 .f32) bitsLt_bf16_f32)
    (constant S256x2048 .f32 0x00000000#32) (ix2 p q) = _
  rw [Ideal.matmul_plain_apply]
  rw [show (constant S256x2048 .f32 0x00000000#32 : FVec Ideal S256x2048 .f32) (ix2 p q) = (0 : EReal) from Ideal.ofBits_zero_f32, zero_add]
  refine Finset.sum_congr rfl fun t _ => ?_
  show shapeCast S256x256 (ldX m c k) shapeCasts_S1x256x256_S256x256 (ix2 p t) * shapeCast S256x2048 (ldW m c k) shapeCasts_S1x256x2048_S256x2048 (ix2 t q) = _
  rw [shapeCast_1ab_ab_apply, shapeCast_1ab_ab_apply]
  show (XB m (src c k) (ix2 _ t) : EReal) * _ = _
  rw [XB_apply]
  rfl

/-! Each step of the accumulator adds one block product. -/
theorem acc2_eq (c : Dev nD) : acc2 m c = addf (addf (prod m c 0) (prod m c 1)) (prod m c 2) := rfl
theorem acc3_eq (c : Dev nD) : acc3 m c = addf (acc2 m c) (prod m c 3) := rfl
theorem acc4_eq (c : Dev nD) : acc4 m c = addf (acc3 m c) (prod m c 4) := rfl
theorem acc5_eq (c : Dev nD) : acc5 m c = addf (acc4 m c) (prod m c 5) := rfl
theorem acc6_eq (c : Dev nD) : acc6 m c = addf (acc5 m c) (prod m c 6) := rfl
theorem acc7_eq (c : Dev nD) : acc7 m c = addf (acc6 m c) (prod m c 7) := rfl
theorem acc8_eq (c : Dev nD) : acc8 m c = addf (acc7 m c) (prod m c 8) := rfl
theorem acc10_eq (c : Dev nD) : acc10 m c = addf (addf (acc8 m c) (prod m c 9)) (prod m c 10) := rfl
theorem acc11_eq (c : Dev nD) : acc11 m c = addf (acc10 m c) (prod m c 11) := rfl
theorem acc12_eq (c : Dev nD) : acc12 m c = addf (acc11 m c) (prod m c 12) := rfl
theorem acc13_eq (c : Dev nD) : acc13 m c = addf (acc12 m c) (prod m c 13) := rfl
theorem RL_eq (c : Dev nD) : RL m c = addf (addf (acc13 m c) (prod m c 14)) (prod m c 15) := rfl

/-- The accumulator is the sum of the block products. -/
theorem RL_sum (c : Dev nD) (i : S256x2048.Idx) : (RL m c i : EReal) = ∑ k : Fin 16, (prod m c k.val i : EReal) := by
  have hadd : ∀ a b : FVec Ideal S256x2048 .f32, (addf a b i : EReal) = (a i : EReal) + (b i : EReal) := fun _ _ => rfl
  rw [RL_eq, acc13_eq, acc12_eq, acc11_eq, acc10_eq, acc8_eq, acc7_eq, acc6_eq, acc5_eq, acc4_eq, acc3_eq, acc2_eq]
  simp only [hadd]
  generalize hg : (fun k : ℕ => (prod m c k i : EReal)) = g
  have hg' : ∀ k, (prod m c k i : EReal) = g k := fun k => congrFun hg k
  simp only [hg']
  simp only [Fin.sum_univ_castSucc, Fin.sum_univ_zero, zero_add]
  rfl

/-- The devices in the order device `c` takes them, each once. -/
def order (c : Dev nD) : Fin 16 ≃ Fin 16 where
  toFun k := src c k.val
  invFun d := src c d.val
  left_inv := by revert c; decide +kernel
  right_inv := by revert c; decide +kernel

variable (x : (⟨2, ![4096, 4096]⟩ : Shape).Idx → EReal) (w : (⟨2, ![4096, 2048]⟩ : Shape).Idx → EReal)

/-- The devices hold `x` by blocks of columns, and `w` each. -/
def Holds : Prop := ∀ c : Dev nD,
  argX m c = Layout.block ⟨2, ![4096, 256]⟩ ⟨2, ![4096, 4096]⟩ 1 16 c x ∧ argW m c = w

/-- Row `p` of device `c`'s rows. -/
def rowOf (c : Dev nD) (p : Fin 256) : Fin 4096 := ⟨256 * c.val + p.val, by have h1 : c.val < 16 := c.isLt; omega⟩

/-- A device's accumulator holds its rows of `x @ w`. -/
theorem RL_apply (h : Holds m x w) (c : Dev nD) (p : Fin 256) (q : Fin 2048) : (RL m c (ix2 p q) : EReal) = dotAt x w (rowOf c p) q := by
  rw [RL_sum]
  unfold dotAt
  rw [← Fin.sum_mul_add_fin 16 256 (fun k : Fin 4096 => x (ix2 (rowOf c p) k) * w (ix2 k q)) rfl,
    ← Equiv.sum_comp (order c) (fun s : Fin 16 => ∑ t : Fin 256, x (ix2 (rowOf c p) ⟨s.val * 256 + t.val, by omega⟩) * w (ix2 ⟨s.val * 256 + t.val, by omega⟩ q))]
  refine Finset.sum_congr rfl fun k _ => ?_
  rw [prod_apply]
  refine Finset.sum_congr rfl fun t _ => ?_
  rw [(h (src c k)).1, (h c).2, Layout.block_apply]
  refine congrArg₂ (· * ·) (congrArg x (idx_ext2 ?_ ?_)) (congrArg w (idx_ext2 ?_ rfl))
  · rw [Layout.Tiles.idx_val]; rfl
  · rw [Layout.Tiles.idx_val]; rfl
  · exact congrArg (· + t.val) (Nat.mul_comm 256 _)

end Cert.MeshRun
-- ==== Proof.KernelValue.lean ====
/-
# What the kernel computes

Every device's tile of maxima bounds its own rows, their maximum is that of all of `relu (x @ w)`, and the result is the
device's block of `resultOf x w`.
-/
module

public import proofs.«01_k».proof.Proof.KernelSum

@[expose] public section

set_option maxRecDepth 32000

noncomputable section

namespace Cert.MeshRun

open Cert.KernelIdeal Cert.KernelIdeal.Gen

open Idealize.ShloMosaic
open Idealize.ShloMosaic.TcCoe
open Idealize.ShloMosaic.ValueIdx

section AnyFloat

variable {F : FTy → Type} [FloatOps F]

/-- The maximum over a device's accumulator, as the kernel's operations write it; -/
def rowMax (r : FVec F S256x2048 .f32) : FVec F S1 .f32 :=
  multiReduction .maximumf [1, 2] S1 (shapeCast S1x256x2048 r shapeCasts_S256x2048_S1x256x2048) 0xFF800000#32 reduces_S1x256x2048_S1 (.inl rfl) rfl
/-- a tile of one number; -/
def spread (a : FVec F S1 .f32) : FVec F S1x8x128 .f32 :=
  shapeCast S1x8x128 (broadcast S8x128 (Scalar.maximumf (extractAt ![0, 0, 0] (shapeCast S1x1x1 a shapeCasts_S1_S1x1x1) inpos_S1x1x1_p0_0_0)
    (Scalar.ofBits .f32 0x00000000#32))) shapeCasts_S8x128_S1x8x128
/-- the maximum of the devices' tiles; -/
def tileMax (a : FVec F S16x8x128 .f32) : FVec F S1 .f32 :=
  multiReduction .maximumf [1, 2, 3] S1 (shapeCast S1x16x8x128 a shapeCasts_S16x8x128_S1x16x8x128) 0xFF800000#32 reduces_S1x16x8x128_S1 (.inl rfl) rfl
/-- the common maximum, kept away from zero; -/
def guarded (a : FVec F S1 .f32) : F .f32 :=
  Scalar.maximumf (extractAt ![0, 0, 0, 0] (shapeCast S1x1x1x1 a shapeCasts_S1_S1x1x1x1) inpos_S1x1x1x1_p0_0_0_0) (Scalar.ofBits .f32 0x1E3CE508#32)
/-- the quantised rows. -/
def quantised (r : FVec F S256x2048 .f32) (g : F .f32) : FVec F S256x2048 .f32 :=
  mulf (extf .f32 (truncf .fp8e4m3 (mulf (maximumf r (broadcast S256x2048 (Scalar.ofBits .f32 0x00000000#32)))
      (broadcast S256x2048 (Scalar.divf (Scalar.ofBits .f32 0x43E00000#32) g))) bitsLt_fp8e4m3_f32) bitsLt_fp8e4m3_f32)
    (broadcast S256x2048 (Scalar.divf g (Scalar.ofBits .f32 0x43E00000#32)))

theorem pay19_eq (v0 : FVec F S256x2048 .f32) (v1 : FVec F S256x2048 .bf16) (v2 : Vec F S1x256x256 .bf16) (v3 : Vec F S1x256x2048 .f32)
    (v4 : Vec F S1x256x256 .bf16) : k0_pay19 v0 v1 v2 v3 v4 = spread (rowMax (k0_pay18 v0 v1 v2 v3 v4)) := rfl
theorem pay20_eq (r : FVec F S256x2048 .f32) (a : Vec F S16x8x128 .f32) : k0_pay20 r a = quantised r (guarded (tileMax a)) := rfl

variable (m : (ℓ : Loc nD τ sig) → Buf (Elt F) ℓ)

theorem MX_eq (s : Dev nD) : MX m s = spread (rowMax (RL m s)) := pay19_eq _ _ _ _ _
theorem OUT_eq_quantised (c : Dev nD) : OUT m c = quantised (RL m c) (guarded (tileMax (AM m))) := pay20_eq _ _

end AnyFloat

/-! ## Over the extended reals -/

theorem spread_apply (a : FVec Ideal S1 .f32) (y : S1x8x128.Idx) : ∃ j, (spread a y : EReal) = max (a j : EReal) (Ideal.ofBits .f32 0x00000000#32) :=
  ⟨Shape.reshapeEquiv shapeCasts_S1_S1x1x1 fun a => ⟨(![0, 0, 0] : Fin 3 → ℕ) a, inpos_S1x1x1_p0_0_0 a⟩, rfl⟩
theorem guarded_eq (a : FVec Ideal S1 .f32) : ∃ j, (guarded a : EReal) = max (a j : EReal) (Ideal.ofBits .f32 0x1E3CE508#32) :=
  ⟨Shape.reshapeEquiv shapeCasts_S1_S1x1x1x1 fun a => ⟨(![0, 0, 0, 0] : Fin 4 → ℕ) a, inpos_S1x1x1x1_p0_0_0_0 a⟩, rfl⟩
theorem quantised_apply (r : FVec Ideal S256x2048 .f32) (g : EReal) (i : S256x2048.Idx) :
    (quantised (F := Ideal) r g i : EReal) = max (r i : EReal) (Ideal.ofBits .f32 0x00000000#32)
      * Ideal.div (Ideal.ofBits .f32 0x43E00000#32) g * Ideal.div g (Ideal.ofBits .f32 0x43E00000#32) := rfl

variable (m : (ℓ : Loc nD τ sig) → Buf (Elt Ideal) ℓ)

theorem one_index (i j : S1.Idx) : i = j := by
  funext a; match a with | ⟨0, _⟩ => exact Subsingleton.elim (α := Fin 1) _ _

/-- A maximum over a whole array, read through a change of shape, is below a bound just when every element is. -/
theorem max_le_bound {s t : Shape} (axes : List (Fin t.rank)) (f : FVec Ideal s .f32) (h : s.ShapeCasts t) (hr : t.Reduces axes S1) (j : S1.Idx)
    (b : EReal) :
    (multiReduction .maximumf axes S1 (shapeCast t f h : FVec Ideal t .f32) 0xFF800000#32 hr (.inl rfl) rfl j : EReal) ≤ b
      ↔ ∀ i, (f i : EReal) ≤ b := by
  refine (iff_of_eq (congrArg (fun z : EReal => z ≤ b) (multiReduction_maximumf_eq_fold (F := Ideal) _ _ hr (.inl rfl) rfl j))).trans ?_
  show Finset.fold max (Ideal.ofBits .f32 0xFF800000#32) _ _ ≤ b ↔ _
  rw [word_bot, fold_le_iff _ _ _ (fun i => Finset.mem_filter.mpr ⟨Finset.mem_univ i, one_index _ _⟩)]
  constructor
  · intro H i
    have := H ((Shape.reshapeEquiv h).symm i)
    change (f (Shape.reshapeEquiv h ((Shape.reshapeEquiv h).symm i)) : EReal) ≤ b at this
    rwa [Equiv.apply_symm_apply] at this
  · intro H i; exact H _

/-- A device's maximum is the least bound of its accumulator and zero. -/
theorem MX_le_iff (s : Dev nD) (y : S1x8x128.Idx) (b : EReal) :
    (MX m s y : EReal) ≤ b ↔ (∀ i, (RL m s i : EReal) ≤ b) ∧ 0 ≤ b := by
  rw [MX_eq]
  obtain ⟨j, hj⟩ := spread_apply (rowMax (RL m s)) y
  rw [hj, max_le_iff, Ideal.ofBits_zero_f32]
  exact and_congr_left' (max_le_bound _ _ _ _ _ _)

variable (x : (⟨2, ![4096, 4096]⟩ : Shape).Idx → EReal) (w : (⟨2, ![4096, 2048]⟩ : Shape).Idx → EReal)

theorem exists_row (i : Fin 4096) : ∃ c p, i = rowOf c p :=
  ⟨⟨i.val / 256, by show _ < 16; omega⟩, ⟨i.val % 256, by omega⟩, Fin.ext (Nat.div_add_mod i.val 256).symm⟩

/-- The maximum of the devices' maxima is the maximum of `relu (x @ w)`. -/
theorem tileMax_eq (h : Holds m x w) (j : S1.Idx) : (tileMax (AM m) j : EReal) = amax x w := by
  refine eq_of_forall_ge_iff fun b => ?_
  refine (max_le_bound _ _ _ _ _ _).trans ?_
  rw [amax_le_iff]
  constructor
  · intro H i q
    obtain ⟨c, p, rfl⟩ := exists_row i
    have := (MX_le_iff m c (ix3 (n0 := 1) (n1 := 8) (n2 := 128) 0 0 0) b).mp (H (ix3 (n0 := 16) (n1 := 8) (n2 := 128) c 0 0))
    refine max_le ?_ this.2
    rw [← RL_apply m x w h]
    exact this.1 _
  · intro H i
    obtain ⟨s, u, v, rfl⟩ : ∃ s u v, i = ix3 (n0 := 16) (n1 := 8) (n2 := 128) s u v := ⟨_, _, _, eq_ix3 i⟩
    refine (MX_le_iff m s (ix3 (n0 := 1) (n1 := 8) (n2 := 128) 0 u v) b).mpr ⟨fun e => ?_, (reluAt_nonneg x w 0 0).trans (H 0 0)⟩
    obtain ⟨p, q, rfl⟩ : ∃ p q, e = ix2 (n0 := 256) (n1 := 2048) p q := ⟨_, _, eq_ix2 e⟩
    rw [RL_apply m x w h]
    exact (le_max_left _ _).trans (H _ _)

/-- A device's result is its block of the whole result. -/
theorem OUT_eq (h : Holds m x w) (c : Dev nD) :
    OUT m c = Layout.block ⟨2, ![256, 2048]⟩ ⟨2, ![4096, 2048]⟩ 0 16 c (resultOf x w) := by
  funext i
  obtain ⟨p, q, rfl⟩ : ∃ p q, i = ix2 (n0 := 256) (n1 := 2048) p q := ⟨_, _, eq_ix2 i⟩
  obtain ⟨j, hj⟩ := guarded_eq (tileMax (AM m))
  obtain ⟨e, he, hw⟩ := word_eps
  rw [OUT_eq_quantised]
  refine (quantised_apply _ _ _).trans ?_
  rw [hj, tileMax_eq m x w h, RL_apply m x w h, Ideal.ofBits_zero_f32, word_448, hw, Layout.block_apply]
  refine (quant_same (reluAt x w (rowOf c p) q) (amax x w) e he (reluAt_nonneg x w _ _) (reluAt_le x w _ _)).trans ?_
  refine congrArg (resultOf x w) (a₁ := ix2 (rowOf c p) q) (idx_ext2 ?_ ?_)
  · rw [Layout.Tiles.idx_val]; exact congrArg (· + p.val) (Nat.mul_comm 256 _)
  · rw [Layout.Tiles.idx_val]; rfl

end Cert.MeshRun
-- ==== Proof.RefValue.lean ====
/-
# What the reference computes

The reference's run leaves `resultOf x w` in its result, for `x` and `w` its arguments as launched.
-/
module

public import proofs.«01_k».proof.Proof.Gen.ReferenceIdeal.Frame
public import proofs.«01_k».proof.Proof.Spec
public import proofs.«01_k».proof.Proof.Quant
public import Idealize.ShloMosaic.Lib.StackMember
public import Idealize.ShloMosaic.Lib.IdealHost
public import Idealize.ShloMosaic.Lib.StableHlo.Run
public import Idealize.ShloMosaic.Lib.Pipeline.ValueKit.Geometry

@[expose] public section

set_option maxRecDepth 32000

noncomputable section

namespace Cert.MeshRun.Ref

open Cert.ReferenceIdeal Cert.ReferenceIdeal.Gen
open Idealize.ShloMosaic
open Idealize.ShloMosaic.TcCoe
open Idealize.ShloMosaic.ValueIdx
open Idealize.ShloMosaic.StableHlo
open Idealize.SL.Sem
open scoped BigOperators

section AnyFloat

variable {F : FTy → Type} [FloatOps F] (m : (ℓ : Loc nD τ sig) → Buf (Elt F) ℓ)

/-- The positive part of the product, as the reference's operations write it; -/
def Y (x : FVec F S4096x4096 .f32) (w : FVec F S4096x2048 .f32) : FVec F S4096x2048 .f32 :=
  maximumf (Host.dotGeneral dot_S4096x4096_S4096x2048_S4096x2048_1_0_0_1_n_n none x w)
    (broadcastInDim S4096x2048 ![] bcast_S_S4096x2048 (constant S_ .f32 0x00000000#32 : FVec F S_ .f32))
/-- the scale, in an array of one element. -/
def S (y : FVec F S4096x2048 .f32) : FVec F S1x1 .f32 :=
  Host.divf
    (broadcastInDim S1x1 ![] bcast_S_S1x1
      (Host.reduce FloatOps.maximumf (Host.absf y) (constant S_ .f32 0xFF800000#32 : FVec F S_ .f32) reducesTo_S4096x2048_S_d0_1 h_S_))
    (broadcastInDim S1x1 ![] bcast_S_S1x1 (constant S_ .f32 0x43E00000#32 : FVec F S_ .f32))

theorem V_Y (c : Dev nD) :
    V m c main_v2 = Y (m ((c : Thread nD τ).loc main_arg0)) (m ((c : Thread nD τ).loc main_arg1)) := by
  show after hostOps0 (fun b => m (c, b)) (Proc.devRef .tc main_v2) = _
  unfold hostOps0
  after_results
  rfl

theorem V_S (c : Dev nD) :
    V m c main_v7 = S (Y (m ((c : Thread nD τ).loc main_arg0)) (m ((c : Thread nD τ).loc main_arg1))) := by
  show after hostOps0 (fun b => m (c, b)) (Proc.devRef .tc main_v7) = _
  unfold hostOps0
  after_results
  rfl

/-- The quantiser's one store fills its result from its two operands. -/
theorem out_eq (y : Vec F S4096x2048 .f32) (s : Vec F S1x1 .f32) : out0_2 y s = k0_pay1 s y := by
  have h0 : (![0, 0] : Fin 2 → ℕ) = fun _ => 0 := by funext a; match a with | ⟨0, _⟩ => rfl | ⟨1, _⟩ => rfl
  unfold out0_2
  rw [View.canon_unit_zero h0, View.ld_unit_zero h0, View.ld_unit_zero h0]

theorem blk_Y (c : Dev nD) : iblk m c 0 t0_0 = V m c main_v2 := by
  funext y
  show V m c main_v2 ((win0_0.blk t0_0).view.emb y) = V m c main_v2 y
  refine congrArg _ (funext fun a => Fin.ext ?_)
  match a with
  | ⟨0, _⟩ => show 0 + 1 * (y 0 : ℕ) = (y 0 : ℕ); omega
  | ⟨1, _⟩ => show 0 + 1 * (y 1 : ℕ) = (y 1 : ℕ); omega

theorem blk_S (c : Dev nD) : iblk m c 1 t0_0 = V m c main_v7 := by
  funext y
  show V m c main_v7 ((win0_1.blk t0_0).view.emb y) = V m c main_v7 y
  refine congrArg _ (funext fun a => Fin.ext ?_)
  match a with
  | ⟨0, _⟩ => show 0 + 1 * (y 0 : ℕ) = (y 0 : ℕ); omega
  | ⟨1, _⟩ => show 0 + 1 * (y 1 : ℕ) = (y 1 : ℕ); omega

/-- The result array after the region: the quantiser of the two operands the host operations left. -/
theorem arr_eq (c : Dev nD) : (dats m 0 c).arrAt 2 cfg0.N = k0_pay1 (V m c main_v7) (V m c main_v2) := by
  refine (dats m 0 c).arrAt_eq_of_covers 2 _ (by decide +kernel) fun t hf y => ?_
  obtain rfl := fin_N0 t
  blk_simp
  rw [after0_2, blk_Y, blk_S, out_eq]
  show k0_pay1 (V m c main_v7) (V m c main_v2) y = k0_pay1 (V m c main_v7) (V m c main_v2) ((win0_2.blk t0_0).view.emb y)
  refine congrArg (k0_pay1 (V m c main_v7) (V m c main_v2)) (funext fun a => Fin.ext ?_)
  match a with
  | ⟨0, _⟩ => show (y 0 : ℕ) = 0 + 1 * (y 0 : ℕ); omega
  | ⟨1, _⟩ => show (y 1 : ℕ) = 0 + 1 * (y 1 : ℕ); omega

end AnyFloat

/-! ## Over the extended reals -/

variable (x : FVec Ideal S4096x4096 .f32) (w : FVec Ideal S4096x2048 .f32)

theorem Y_apply (i : Fin 4096) (j : Fin 2048) : Y x w (ix2 i j) = reluAt x w i j := by
  unfold Y
  show max (Host.dotGeneral (DotDims.plain 4096 4096 2048) none x w (ix2 i j)) (broadcastInDim S4096x2048 ![] bcast_S_S4096x2048 (constant S_ .f32 0x00000000#32 : FVec Ideal S_ .f32) (ix2 i j)) = _
  rw [StackMember.dotGeneral_plain_apply, broadcastInDim_scalar_apply]
  show max _ (Ideal.ofBits .f32 0x00000000#32) = _
  rw [Ideal.ofBits_zero_f32]
  rfl

theorem max_eq : Host.reduce FloatOps.maximumf (Host.absf (Y x w)) (constant S_ .f32 0xFF800000#32 : FVec Ideal S_ .f32)
    reducesTo_S4096x2048_S_d0_1 h_S_ = fun _ => amax x w := by
  funext j
  rw [Host.reduce_eq_fold]
  refine eq_of_forall_ge_iff fun b => ?_
  show Finset.fold max (Ideal.ofBits .f32 0xFF800000#32) (Host.absf (Y x w)) _ ≤ b ↔ _
  rw [word_bot, fold_le_iff _ _ _ (fun i => Finset.mem_filter.mpr ⟨Finset.mem_univ i, funext fun a => a.elim0⟩), amax_le_iff]
  have habs : ∀ i j, Host.absf (Y x w) (ix2 i j) = reluAt x w i j := fun i j => by
    show max (Y x w (ix2 i j)) (-(Y x w (ix2 i j))) = _
    rw [Y_apply]
    exact max_eq_left ((EReal.neg_le_neg_iff.mpr (reluAt_nonneg x w i j)).trans (by rw [neg_zero]; exact reluAt_nonneg x w i j))
  constructor
  · intro h i j; rw [← habs]; exact h (ix2 i j)
  · intro h i
    obtain ⟨p, q, rfl⟩ : ∃ p q, i = ix2 (n0 := 4096) (n1 := 2048) p q := ⟨_, _, eq_ix2 i⟩
    rw [habs]; exact h _ _

theorem S_eq : S (Y x w) = fun _ => scaleOf x w := by
  funext j
  unfold S
  rw [hostDivf_apply, max_eq, broadcastInDim_scalar_apply, broadcastInDim_scalar_apply]
  show Ideal.div (amax x w) (Ideal.ofBits .f32 0x43E00000#32) = _
  rw [word_448]; rfl

theorem quantised : k0_pay1 (S (Y x w)) (Y x w) = resultOf x w := by
  rw [S_eq]
  funext i
  obtain ⟨p, q, rfl⟩ : ∃ p q, i = ix2 (n0 := 4096) (n1 := 2048) p q := ⟨_, _, eq_ix2 i⟩
  show min (Ideal.div (shapeCast S4096x2048 (Y x w) shapeCasts_S4096x2048_S4096x2048 (ix2 p q)) (scaleOf x w)) (Ideal.ofBits .f32 0x43E00000#32) * scaleOf x w = _
  rw [shapeCast_apply _ _ _ (ix2 p q) rfl, Y_apply, word_448]
  rfl

variable (m : (ℓ : Loc nD τ sig) → Buf (Elt Ideal) ℓ) (ρ : Dev nD → PrngReg)

/-- The reference's run: its result is `resultOf` of its arguments, and they are unchanged. -/
theorem run : θ_run defs (onTc (τ := τ) (main (F := Ideal))) ⟨m, fun _ => 0, ρ⟩ (fun r => ∀ c : Dev nD,
    r.2.mem ((c.tc : Thread nD τ).loc main_v8) = resultOf (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨?_, h.2 c⟩) (θ_run_and (run_main m ρ) (unchanged m ρ))
  refine ((h.1 c).1 2).trans ((arr_eq m c).trans ?_)
  rw [V_S, V_Y]
  exact quantised _ _

end Cert.MeshRun.Ref
-- ==== Proof.Algebraic.lean ====
/-
# The value claim

Over the extended reals the kernel's devices return the blocks of rows of what the reference returns.
-/
module

public import proofs.«01_k».proof.Proof.Frames
public import proofs.«01_k».proof.Proof.KernelValue
public import proofs.«01_k».proof.Proof.RefValue

@[expose] public section

set_option maxRecDepth 32000

noncomputable section

namespace Cert.MeshRun

open Idealize.ShloMosaic Idealize.SL.Sem

local instance : Cert.KernelIdeal.Facts := Cert.KernelIdeal.Gen.facts
local instance : Cert.ReferenceIdeal.Facts := Cert.ReferenceIdeal.Gen.facts

theorem algebraic : Cert.algebraic_KernelIdeal_ReferenceIdeal := by
  intro m g m' g' _ hm
  refine ⟨_, (θ_run _ _ _).mono (fun r h c => ⟨(h.1 c).1.trans (OUT_eq m _ _ (fun c => hm c) c), (h.1 c).2.1, (h.1 c).2.2⟩) (run_main m g),
    (θ_run _ _ _).mono (fun r h => h 0) (Ref.run m' g')⟩

end Cert.MeshRun
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.MeshRun.frame_kernel, Cert.MeshRun.frame_kernelIdeal, Cert.MeshRun.frame_referenceIdeal, trivial, Cert.MeshRun.algebraic⟩

end Cert.Proof

end
